-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v285)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v285) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x256x56x56 : Shape := ⟨4, ![64, 256, 56, 56]⟩
abbrev S256 : Shape := ⟨1, ![256]⟩
abbrev S64x256x3136 : Shape := ⟨3, ![64, 256, 3136]⟩
abbrev S1x256 : Shape := ⟨2, ![1, 256]⟩
abbrev S4x256x3136 : Shape := ⟨3, ![4, 256, 3136]⟩
abbrev S4x256 : Shape := ⟨2, ![4, 256]⟩
abbrev S_ : Shape := ⟨0, ![]⟩
abbrev S1x256x1 : Shape := ⟨3, ![1, 256, 1]⟩
abbrev S1x256x3136 : Shape := ⟨3, ![1, 256, 3136]⟩
abbrev S1 : Shape := ⟨1, ![1]⟩
abbrev S4 : Shape := ⟨1, ![4]⟩
abbrev S12 : Shape := ⟨1, ![12]⟩

abbrev nBuf : Space → Nat
  | .hbm => 420
  | .vmem => 18
  | .smem => 2
  | _ => 0

abbrev hbmTy0_0 (i : Nat) : BufTy := match i % 128 with
  | 0 => ⟨S64x256x56x56, .f32⟩
  | 1 => ⟨S256, .f32⟩
  | 2 => ⟨S256, .f32⟩
  | 3 => ⟨S256, .f32⟩
  | 4 => ⟨S256, .f32⟩
  | 5 => ⟨S64x256x3136, .f32⟩
  | 6 => ⟨S1x256, .f32⟩
  | 7 => ⟨S1x256, .f32⟩
  | 8 => ⟨S1x256, .f32⟩
  | 9 => ⟨S_, .f32⟩
  | 10 => ⟨S1x256, .f32⟩
  | 11 => ⟨S1x256, .f32⟩
  | 12 => ⟨S1x256, .f32⟩
  | 13 => ⟨S_, .f32⟩
  | 14 => ⟨S1x256, .f32⟩
  | 15 => ⟨S1x256, .f32⟩
  | 16 => ⟨S_, .f32⟩
  | 17 => ⟨S1x256, .f32⟩
  | 18 => ⟨S1x256, .f32⟩
  | 19 => ⟨S1x256, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .i1⟩
  | 37 => ⟨S_, .f32⟩
  | 38 => ⟨S_, .f32⟩
  | 39 => ⟨S_, .f32⟩
  | 40 => ⟨S1x256, .f32⟩
  | 41 => ⟨S1x256, .f32⟩
  | 42 => ⟨S1x256, .f32⟩
  | 43 => ⟨S1x256, .f32⟩
  | 44 => ⟨S1x256, .f32⟩
  | 45 => ⟨S1x256, .f32⟩
  | 46 => ⟨S1x256, .f32⟩
  | 47 => ⟨S1x256, .f32⟩
  | 48 => ⟨S_, .f32⟩
  | 49 => ⟨S1x256, .f32⟩
  | 50 => ⟨S1x256, .f32⟩
  | 51 => ⟨S1x256, .f32⟩
  | 52 => ⟨S1x256, .f32⟩
  | 53 => ⟨S1x256, .f32⟩
  | 54 => ⟨S1x256, .f32⟩
  | 55 => ⟨S1x256, .f32⟩
  | 56 => ⟨S_, .f32⟩
  | 57 => ⟨S_, .i1⟩
  | 58 => ⟨S1x256, .f32⟩
  | 59 => ⟨S1x256, .f32⟩
  | 60 => ⟨S_, .f32⟩
  | 61 => ⟨S_, .f32⟩
  | 62 => ⟨S1x256, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .i1⟩
  | 78 => ⟨S_, .f32⟩
  | 79 => ⟨S_, .f32⟩
  | 80 => ⟨S_, .f32⟩
  | 81 => ⟨S1x256x1, .f32⟩
  | 82 => ⟨S1x256x3136, .f32⟩
  | 83 => ⟨S1, .f32⟩
  | 84 => ⟨S1, .f32⟩
  | 85 => ⟨S1, .f32⟩
  | 86 => ⟨S1, .f32⟩
  | 87 => ⟨S4, .f32⟩
  | 88 => ⟨S64x256x3136, .i8⟩
  | 89 => ⟨S1x256, .f32⟩
  | 90 => ⟨S_, .f32⟩
  | 91 => ⟨S1x256, .f32⟩
  | 92 => ⟨S1x256, .f32⟩
  | 93 => ⟨S1x256, .f32⟩
  | 94 => ⟨S_, .f32⟩
  | 95 => ⟨S1x256, .f32⟩
  | 96 => ⟨S1x256, .f32⟩
  | 97 => ⟨S_, .f32⟩
  | 98 => ⟨S1x256, .f32⟩
  | 99 => ⟨S1x256, .f32⟩
  | 100 => ⟨S1x256, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S1x256, .f32⟩
  | 122 => ⟨S1x256, .f32⟩
  | 123 => ⟨S1x256, .f32⟩
  | 124 => ⟨S1x256, .f32⟩
  | 125 => ⟨S1x256, .f32⟩
  | 126 => ⟨S1x256, .f32⟩
  | 127 => ⟨S1x256, .f32⟩
  | _ => ⟨S64x256x56x56, .f32⟩

abbrev hbmTy0_1 (i : Nat) : BufTy := match i % 128 with
  | 0 => ⟨S1x256, .f32⟩
  | 1 => ⟨S_, .f32⟩
  | 2 => ⟨S1x256, .f32⟩
  | 3 => ⟨S1x256, .f32⟩
  | 4 => ⟨S1x256, .f32⟩
  | 5 => ⟨S1x256, .f32⟩
  | 6 => ⟨S1x256, .f32⟩
  | 7 => ⟨S1x256, .f32⟩
  | 8 => ⟨S1x256, .f32⟩
  | 9 => ⟨S_, .f32⟩
  | 10 => ⟨S_, .i1⟩
  | 11 => ⟨S1x256, .f32⟩
  | 12 => ⟨S_, .f32⟩
  | 13 => ⟨S1x256, .f32⟩
  | 14 => ⟨S1x256, .f32⟩
  | 15 => ⟨S1x256, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .i1⟩
  | 33 => ⟨S_, .f32⟩
  | 34 => ⟨S_, .f32⟩
  | 35 => ⟨S_, .f32⟩
  | 36 => ⟨S1x256, .f32⟩
  | 37 => ⟨S1x256, .f32⟩
  | 38 => ⟨S1x256, .f32⟩
  | 39 => ⟨S1x256, .f32⟩
  | 40 => ⟨S1x256, .f32⟩
  | 41 => ⟨S1x256, .f32⟩
  | 42 => ⟨S1x256, .f32⟩
  | 43 => ⟨S1x256, .f32⟩
  | 44 => ⟨S_, .f32⟩
  | 45 => ⟨S1x256, .f32⟩
  | 46 => ⟨S1x256, .f32⟩
  | 47 => ⟨S1x256, .f32⟩
  | 48 => ⟨S1x256, .f32⟩
  | 49 => ⟨S1x256, .f32⟩
  | 50 => ⟨S1x256, .f32⟩
  | 51 => ⟨S1x256, .f32⟩
  | 52 => ⟨S_, .f32⟩
  | 53 => ⟨S_, .i1⟩
  | 54 => ⟨S1x256, .f32⟩
  | 55 => ⟨S1x256, .f32⟩
  | 56 => ⟨S1x256, .f32⟩
  | 57 => ⟨S1x256, .f32⟩
  | 58 => ⟨S1x256, .f32⟩
  | 59 => ⟨S1x256, .f32⟩
  | 60 => ⟨S1x256, .f32⟩
  | 61 => ⟨S1x256, .f32⟩
  | 62 => ⟨S1x256, .f32⟩
  | 63 => ⟨S1x256, .f32⟩
  | 64 => ⟨S_, .f32⟩
  | 65 => ⟨S1x256, .f32⟩
  | 66 => ⟨S1x256, .f32⟩
  | 67 => ⟨S1x256, .f32⟩
  | 68 => ⟨S1x256, .f32⟩
  | 69 => ⟨S1x256, .f32⟩
  | 70 => ⟨S1x256, .f32⟩
  | 71 => ⟨S1x256, .f32⟩
  | 72 => ⟨S_, .f32⟩
  | 73 => ⟨S_, .i1⟩
  | 74 => ⟨S1x256, .f32⟩
  | 75 => ⟨S1x256, .f32⟩
  | 76 => ⟨S1x256, .f32⟩
  | 77 => ⟨S1x256, .f32⟩
  | 78 => ⟨S1x256, .f32⟩
  | 79 => ⟨S1x256, .f32⟩
  | 80 => ⟨S1x256, .f32⟩
  | 81 => ⟨S1x256, .f32⟩
  | 82 => ⟨S1x256, .f32⟩
  | 83 => ⟨S1x256, .f32⟩
  | 84 => ⟨S_, .f32⟩
  | 85 => ⟨S1x256, .f32⟩
  | 86 => ⟨S1x256, .f32⟩
  | 87 => ⟨S1x256, .f32⟩
  | 88 => ⟨S1x256, .f32⟩
  | 89 => ⟨S1x256, .f32⟩
  | 90 => ⟨S1x256, .f32⟩
  | 91 => ⟨S1x256, .f32⟩
  | 92 => ⟨S_, .f32⟩
  | 93 => ⟨S_, .i1⟩
  | 94 => ⟨S1x256, .f32⟩
  | 95 => ⟨S1x256, .f32⟩
  | 96 => ⟨S1x256, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S1x256, .f32⟩
  | 118 => ⟨S1x256, .f32⟩
  | 119 => ⟨S1x256, .f32⟩
  | 120 => ⟨S1x256, .f32⟩
  | 121 => ⟨S1x256, .f32⟩
  | 122 => ⟨S1x256, .f32⟩
  | 123 => ⟨S1x256, .f32⟩
  | 124 => ⟨S1x256, .f32⟩
  | 125 => ⟨S_, .f32⟩
  | 126 => ⟨S1x256, .f32⟩
  | 127 => ⟨S1x256, .f32⟩
  | _ => ⟨S64x256x56x56, .f32⟩

abbrev hbmTy0_2 (i : Nat) : BufTy := match i % 128 with
  | 0 => ⟨S1x256, .f32⟩
  | 1 => ⟨S1x256, .f32⟩
  | 2 => ⟨S1x256, .f32⟩
  | 3 => ⟨S1x256, .f32⟩
  | 4 => ⟨S1x256, .f32⟩
  | 5 => ⟨S_, .f32⟩
  | 6 => ⟨S_, .i1⟩
  | 7 => ⟨S1x256, .f32⟩
  | 8 => ⟨S1x256, .f32⟩
  | 9 => ⟨S1x256, .f32⟩
  | 10 => ⟨S1x256, .f32⟩
  | 11 => ⟨S1x256, .f32⟩
  | 12 => ⟨S1x256, .f32⟩
  | 13 => ⟨S1x256, .f32⟩
  | 14 => ⟨S1x256, .f32⟩
  | 15 => ⟨S1x256, .f32⟩
  | 16 => ⟨S_, .f32⟩
  | 17 => ⟨S1x256, .f32⟩
  | 18 => ⟨S1x256, .f32⟩
  | 19 => ⟨S1x256, .f32⟩
  | 20 => ⟨S1x256, .f32⟩
  | 21 => ⟨S1x256, .f32⟩
  | 22 => ⟨S1x256, .f32⟩
  | 23 => ⟨S1x256, .f32⟩
  | 24 => ⟨S_, .f32⟩
  | 25 => ⟨S_, .i1⟩
  | 26 => ⟨S1x256, .f32⟩
  | 27 => ⟨S1x256, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .i1⟩
  | 45 => ⟨S_, .f32⟩
  | 46 => ⟨S_, .f32⟩
  | 47 => ⟨S_, .f32⟩
  | 48 => ⟨S1x256, .f32⟩
  | 49 => ⟨S1x256, .f32⟩
  | 50 => ⟨S1x256, .f32⟩
  | 51 => ⟨S1x256, .f32⟩
  | 52 => ⟨S1x256, .f32⟩
  | 53 => ⟨S1x256, .f32⟩
  | 54 => ⟨S1x256, .f32⟩
  | 55 => ⟨S1x256, .f32⟩
  | 56 => ⟨S_, .f32⟩
  | 57 => ⟨S1x256, .f32⟩
  | 58 => ⟨S1x256, .f32⟩
  | 59 => ⟨S1x256, .f32⟩
  | 60 => ⟨S1x256, .f32⟩
  | 61 => ⟨S1x256, .f32⟩
  | 62 => ⟨S1x256, .f32⟩
  | 63 => ⟨S1x256, .f32⟩
  | 64 => ⟨S_, .f32⟩
  | 65 => ⟨S_, .i1⟩
  | 66 => ⟨S1x256, .f32⟩
  | 67 => ⟨S1x256, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .i1⟩
  | 85 => ⟨S_, .f32⟩
  | 86 => ⟨S_, .f32⟩
  | 87 => ⟨S_, .f32⟩
  | 88 => ⟨S1x256, .f32⟩
  | 89 => ⟨S1x256, .f32⟩
  | 90 => ⟨S1x256, .f32⟩
  | 91 => ⟨S1x256, .f32⟩
  | 92 => ⟨S1x256, .f32⟩
  | 93 => ⟨S1x256, .f32⟩
  | 94 => ⟨S1x256, .f32⟩
  | 95 => ⟨S1x256, .f32⟩
  | 96 => ⟨S_, .f32⟩
  | 97 => ⟨S1x256, .f32⟩
  | 98 => ⟨S1x256, .f32⟩
  | 99 => ⟨S1x256, .f32⟩
  | 100 => ⟨S1x256, .f32⟩
  | 101 => ⟨S1x256, .f32⟩
  | 102 => ⟨S1x256, .f32⟩
  | 103 => ⟨S1x256, .f32⟩
  | 104 => ⟨S_, .f32⟩
  | 105 => ⟨S_, .i1⟩
  | 106 => ⟨S1x256, .f32⟩
  | 107 => ⟨S_, .f32⟩
  | 108 => ⟨S1x256, .f32⟩
  | 109 => ⟨S1x256, .i1⟩
  | 110 => ⟨S1x256, .f32⟩
  | 111 => ⟨S1x256, .f32⟩
  | 112 => ⟨S1x256, .f32⟩
  | 113 => ⟨S1x256, .f32⟩
  | 114 => ⟨S1x256, .f32⟩
  | 115 => ⟨S_, .f32⟩
  | 116 => ⟨S1x256, .f32⟩
  | 117 => ⟨S1x256, .i1⟩
  | 118 => ⟨S1x256, .f32⟩
  | 119 => ⟨S1x256, .f32⟩
  | 120 => ⟨S1x256, .f32⟩
  | 121 => ⟨S1x256, .f32⟩
  | 122 => ⟨S1x256, .f32⟩
  | 123 => ⟨S_, .f32⟩
  | 124 => ⟨S_, .f32⟩
  | 125 => ⟨S_, .f32⟩
  | 126 => ⟨S_, .f32⟩
  | 127 => ⟨S_, .f32⟩
  | _ => ⟨S64x256x56x56, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .i1⟩
  | 12 => ⟨S_, .f32⟩
  | 13 => ⟨S_, .f32⟩
  | 14 => ⟨S_, .f32⟩
  | 15 => ⟨S1, .f32⟩
  | 16 => ⟨S1, .f32⟩
  | 17 => ⟨S1, .f32⟩
  | 18 => ⟨S1, .f32⟩
  | 19 => ⟨S1, .f32⟩
  | 20 => ⟨S1, .f32⟩
  | 21 => ⟨S1, .f32⟩
  | 22 => ⟨S1, .f32⟩
  | 23 => ⟨S1, .f32⟩
  | 24 => ⟨S1, .f32⟩
  | 25 => ⟨S1, .f32⟩
  | 26 => ⟨S1, .f32⟩
  | 27 => ⟨S12, .f32⟩
  | 28 => ⟨S1x256x1, .f32⟩
  | 29 => ⟨S1x256x3136, .f32⟩
  | 30 => ⟨S1x256x1, .f32⟩
  | 31 => ⟨S1x256x3136, .f32⟩
  | 32 => ⟨S1x256x1, .f32⟩
  | 33 => ⟨S1x256x3136, .f32⟩
  | 34 => ⟨S64x256x3136, .f32⟩
  | 35 => ⟨S64x256x56x56, .f32⟩
  | _ => ⟨S64x256x56x56, .f32⟩

abbrev hbmTy (i : Nat) : BufTy := match i / 128 with
  | 0 => hbmTy0_0 i
  | 1 => hbmTy0_1 i
  | 2 => hbmTy0_2 i
  | 3 => hbmTy0_3 i
  | _ => ⟨S64x256x56x56, .f32⟩

abbrev bufTy : (tb : Table) → Fin (tcTables nBuf tb) → BufTy
  | .hbm, ⟨i, _⟩ => hbmTy i
  | .local _ .vmem, ⟨0, _⟩ => ⟨S4x256x3136, .f32⟩
  | .local _ .vmem, ⟨1, _⟩ => ⟨S4x256x3136, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S4x256x3136, .f32⟩
  | .local _ .vmem, ⟨6, _⟩ => ⟨S4x256x3136, .f32⟩
  | .local _ .vmem, ⟨7, _⟩ => ⟨S1x256x3136, .f32⟩
  | .local _ .vmem, ⟨8, _⟩ => ⟨S4x256x3136, .i8⟩
  | .local _ .vmem, ⟨9, _⟩ => ⟨S4x256x3136, .i8⟩
  | .local _ .vmem, ⟨10, _⟩ => ⟨S1x256, .f32⟩
  | .local _ .vmem, ⟨11, _⟩ => ⟨S4x256x3136, .i8⟩
  | .local _ .vmem, ⟨12, _⟩ => ⟨S4x256x3136, .i8⟩
  | .local _ .vmem, ⟨13, _⟩ => ⟨S1x256x3136, .f32⟩
  | .local _ .vmem, ⟨14, _⟩ => ⟨S1x256x3136, .f32⟩
  | .local _ .vmem, ⟨15, _⟩ => ⟨S1x256x3136, .f32⟩
  | .local _ .vmem, ⟨16, _⟩ => ⟨S4x256x3136, .f32⟩
  | .local _ .vmem, ⟨17, _⟩ => ⟨S4x256x3136, .f32⟩
  | .local _ .smem, ⟨0, _⟩ => ⟨S4, .f32⟩
  | .local _ .smem, ⟨1, _⟩ => ⟨S12, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_cst_7 : Ref sig .tc := ⟨.hbm, 33, rfl⟩
abbrev main_v18 : Ref sig .tc := ⟨.hbm, 34, rfl⟩
abbrev main_cst_8 : Ref sig .tc := ⟨.hbm, 35, rfl⟩
abbrev main_v19 : Ref sig .tc := ⟨.hbm, 36, rfl⟩
abbrev main_cst_9 : Ref sig .tc := ⟨.hbm, 37, rfl⟩
abbrev main_call0_v0 : Ref sig .tc := ⟨.hbm, 38, rfl⟩
abbrev main_v20 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_10 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_11 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_12 : Ref sig .tc := ⟨.hbm, 60, rfl⟩
abbrev main_v36 : Ref sig .tc := ⟨.hbm, 61, rfl⟩
abbrev main_v37 : Ref sig .tc := ⟨.hbm, 62, rfl⟩
abbrev main_cst_13 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_14 : Ref sig .tc := ⟨.hbm, 68, rfl⟩
abbrev main_v42 : Ref sig .tc := ⟨.hbm, 69, rfl⟩
abbrev main_cst_15 : Ref sig .tc := ⟨.hbm, 70, rfl⟩
abbrev main_v43 : Ref sig .tc := ⟨.hbm, 71, rfl⟩
abbrev main_cst_16 : Ref sig .tc := ⟨.hbm, 72, rfl⟩
abbrev main_v44 : Ref sig .tc := ⟨.hbm, 73, rfl⟩
abbrev main_cst_17 : Ref sig .tc := ⟨.hbm, 74, rfl⟩
abbrev main_v45 : Ref sig .tc := ⟨.hbm, 75, rfl⟩
abbrev main_cst_18 : Ref sig .tc := ⟨.hbm, 76, rfl⟩
abbrev main_v46 : Ref sig .tc := ⟨.hbm, 77, rfl⟩
abbrev main_cst_19 : Ref sig .tc := ⟨.hbm, 78, rfl⟩
abbrev main_call3_v0 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55_0 : Ref sig .tc := ⟨.hbm, 88, rfl⟩
abbrev main_v55_1 : Ref sig .tc := ⟨.hbm, 89, rfl⟩
abbrev main_cst_20 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_21 : Ref sig .tc := ⟨.hbm, 94, rfl⟩
abbrev main_v59 : Ref sig .tc := ⟨.hbm, 95, rfl⟩
abbrev main_v60 : Ref sig .tc := ⟨.hbm, 96, rfl⟩
abbrev main_cst_22 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_23 : Ref sig .tc := ⟨.hbm, 101, rfl⟩
abbrev main_v64 : Ref sig .tc := ⟨.hbm, 102, rfl⟩
abbrev main_cst_24 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_25 : Ref sig .tc := ⟨.hbm, 108, rfl⟩
abbrev main_v69 : Ref sig .tc := ⟨.hbm, 109, rfl⟩
abbrev main_cst_26 : Ref sig .tc := ⟨.hbm, 110, rfl⟩
abbrev main_v70 : Ref sig .tc := ⟨.hbm, 111, rfl⟩
abbrev main_cst_27 : Ref sig .tc := ⟨.hbm, 112, rfl⟩
abbrev main_v71 : Ref sig .tc := ⟨.hbm, 113, rfl⟩
abbrev main_cst_28 : Ref sig .tc := ⟨.hbm, 114, rfl⟩
abbrev main_v72 : Ref sig .tc := ⟨.hbm, 115, rfl⟩
abbrev main_cst_29 : Ref sig .tc := ⟨.hbm, 116, rfl⟩
abbrev main_v73 : Ref sig .tc := ⟨.hbm, 117, rfl⟩
abbrev main_cst_30 : Ref sig .tc := ⟨.hbm, 118, rfl⟩
abbrev main_call4_v0 : Ref sig .tc := ⟨.hbm, 119, rfl⟩
abbrev main_v74 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_31 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_32 : Ref sig .tc := ⟨.hbm, 137, rfl⟩
abbrev main_v87 : Ref sig .tc := ⟨.hbm, 138, rfl⟩
abbrev main_v88 : Ref sig .tc := ⟨.hbm, 139, rfl⟩
abbrev main_cst_33 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_34 : Ref sig .tc := ⟨.hbm, 144, rfl⟩
abbrev main_v92 : Ref sig .tc := ⟨.hbm, 145, rfl⟩
abbrev main_cst_35 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_36 : Ref sig .tc := ⟨.hbm, 151, rfl⟩
abbrev main_v97 : Ref sig .tc := ⟨.hbm, 152, rfl⟩
abbrev main_cst_37 : Ref sig .tc := ⟨.hbm, 153, rfl⟩
abbrev main_v98 : Ref sig .tc := ⟨.hbm, 154, rfl⟩
abbrev main_cst_38 : Ref sig .tc := ⟨.hbm, 155, rfl⟩
abbrev main_v99 : Ref sig .tc := ⟨.hbm, 156, rfl⟩
abbrev main_cst_39 : Ref sig .tc := ⟨.hbm, 157, rfl⟩
abbrev main_v100 : Ref sig .tc := ⟨.hbm, 158, rfl⟩
abbrev main_cst_40 : Ref sig .tc := ⟨.hbm, 159, rfl⟩
abbrev main_v101 : Ref sig .tc := ⟨.hbm, 160, rfl⟩
abbrev main_cst_41 : Ref sig .tc := ⟨.hbm, 161, rfl⟩
abbrev main_call7_v0 : Ref sig .tc := ⟨.hbm, 162, rfl⟩
abbrev main_v102 : Ref sig .tc := ⟨.hbm, 163, rfl⟩
abbrev main_call8_v0 : Ref sig .tc := ⟨.hbm, 164, rfl⟩
abbrev main_call8_v1 : Ref sig .tc := ⟨.hbm, 165, rfl⟩
abbrev main_call8_v2 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_cst_42 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_cst_43 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_call10_v0 : Ref sig .tc := ⟨.hbm, 184, rfl⟩
abbrev main_call10_v1 : Ref sig .tc := ⟨.hbm, 185, rfl⟩
abbrev main_call10_v2 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_cst_44 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_cst_45 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_call12_v0 : Ref sig .tc := ⟨.hbm, 204, rfl⟩
abbrev main_call12_v1 : Ref sig .tc := ⟨.hbm, 205, rfl⟩
abbrev main_call12_v2 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_cst_46 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_cst_47 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_cst_48 : Ref sig .tc := ⟨.hbm, 225, rfl⟩
abbrev main_v149 : Ref sig .tc := ⟨.hbm, 226, rfl⟩
abbrev main_cst_49 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_cst_50 : Ref sig .tc := ⟨.hbm, 232, rfl⟩
abbrev main_v154 : Ref sig .tc := ⟨.hbm, 233, rfl⟩
abbrev main_cst_51 : Ref sig .tc := ⟨.hbm, 234, rfl⟩
abbrev main_v155 : Ref sig .tc := ⟨.hbm, 235, rfl⟩
abbrev main_cst_52 : Ref sig .tc := ⟨.hbm, 236, rfl⟩
abbrev main_v156 : Ref sig .tc := ⟨.hbm, 237, rfl⟩
abbrev main_cst_53 : Ref sig .tc := ⟨.hbm, 238, rfl⟩
abbrev main_v157 : Ref sig .tc := ⟨.hbm, 239, rfl⟩
abbrev main_cst_54 : Ref sig .tc := ⟨.hbm, 240, rfl⟩
abbrev main_v158 : Ref sig .tc := ⟨.hbm, 241, rfl⟩
abbrev main_cst_55 : Ref sig .tc := ⟨.hbm, 242, rfl⟩
abbrev main_call14_v0 : Ref sig .tc := ⟨.hbm, 243, rfl⟩
abbrev main_v159 : Ref sig .tc := ⟨.hbm, 244, rfl⟩
abbrev main_call15_v0 : Ref sig .tc := ⟨.hbm, 245, rfl⟩
abbrev main_call15_v1 : Ref sig .tc := ⟨.hbm, 246, rfl⟩
abbrev main_call15_v2 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_cst_56 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_cst_57 : Ref sig .tc := ⟨.hbm, 261, rfl⟩
abbrev main_v172 : Ref sig .tc := ⟨.hbm, 262, rfl⟩
abbrev main_v173 : Ref sig .tc := ⟨.hbm, 263, rfl⟩
abbrev main_call17_v0 : Ref sig .tc := ⟨.hbm, 264, rfl⟩
abbrev main_call17_v1 : Ref sig .tc := ⟨.hbm, 265, rfl⟩
abbrev main_call17_v2 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_cst_58 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_cst_59 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_cst_60 : Ref sig .tc := ⟨.hbm, 284, rfl⟩
abbrev main_v189 : Ref sig .tc := ⟨.hbm, 285, rfl⟩
abbrev main_cst_61 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_cst_62 : Ref sig .tc := ⟨.hbm, 291, rfl⟩
abbrev main_v194 : Ref sig .tc := ⟨.hbm, 292, rfl⟩
abbrev main_cst_63 : Ref sig .tc := ⟨.hbm, 293, rfl⟩
abbrev main_v195 : Ref sig .tc := ⟨.hbm, 294, rfl⟩
abbrev main_cst_64 : Ref sig .tc := ⟨.hbm, 295, rfl⟩
abbrev main_v196 : Ref sig .tc := ⟨.hbm, 296, rfl⟩
abbrev main_cst_65 : Ref sig .tc := ⟨.hbm, 297, rfl⟩
abbrev main_v197 : Ref sig .tc := ⟨.hbm, 298, rfl⟩
abbrev main_cst_66 : Ref sig .tc := ⟨.hbm, 299, rfl⟩
abbrev main_v198 : Ref sig .tc := ⟨.hbm, 300, rfl⟩
abbrev main_cst_67 : Ref sig .tc := ⟨.hbm, 301, rfl⟩
abbrev main_call19_v0 : Ref sig .tc := ⟨.hbm, 302, rfl⟩
abbrev main_v199 : Ref sig .tc := ⟨.hbm, 303, rfl⟩
abbrev main_call20_v0 : Ref sig .tc := ⟨.hbm, 304, rfl⟩
abbrev main_call20_v1 : Ref sig .tc := ⟨.hbm, 305, rfl⟩
abbrev main_call20_v2 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_cst_68 : Ref sig .tc := ⟨.hbm, 312, rfl⟩
abbrev main_v205 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_cst_69 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_cst_70 : Ref sig .tc := ⟨.hbm, 324, rfl⟩
abbrev main_v215 : Ref sig .tc := ⟨.hbm, 325, rfl⟩
abbrev main_cst_71 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_cst_72 : Ref sig .tc := ⟨.hbm, 331, rfl⟩
abbrev main_v220 : Ref sig .tc := ⟨.hbm, 332, rfl⟩
abbrev main_cst_73 : Ref sig .tc := ⟨.hbm, 333, rfl⟩
abbrev main_v221 : Ref sig .tc := ⟨.hbm, 334, rfl⟩
abbrev main_cst_74 : Ref sig .tc := ⟨.hbm, 335, rfl⟩
abbrev main_v222 : Ref sig .tc := ⟨.hbm, 336, rfl⟩
abbrev main_cst_75 : Ref sig .tc := ⟨.hbm, 337, rfl⟩
abbrev main_v223 : Ref sig .tc := ⟨.hbm, 338, rfl⟩
abbrev main_cst_76 : Ref sig .tc := ⟨.hbm, 339, rfl⟩
abbrev main_v224 : Ref sig .tc := ⟨.hbm, 340, rfl⟩
abbrev main_cst_77 : Ref sig .tc := ⟨.hbm, 341, rfl⟩
abbrev main_call22_v0 : Ref sig .tc := ⟨.hbm, 342, rfl⟩
abbrev main_v225 : Ref sig .tc := ⟨.hbm, 343, rfl⟩
abbrev main_call23_v0 : Ref sig .tc := ⟨.hbm, 344, rfl⟩
abbrev main_call23_v1 : Ref sig .tc := ⟨.hbm, 345, rfl⟩
abbrev main_call23_v2 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_v230 : Ref sig .tc := ⟨.hbm, 351, rfl⟩
abbrev main_cst_78 : Ref sig .tc := ⟨.hbm, 352, rfl⟩
abbrev main_v231 : Ref sig .tc := ⟨.hbm, 353, rfl⟩
abbrev main_v232 : Ref sig .tc := ⟨.hbm, 354, rfl⟩
abbrev main_v233 : Ref sig .tc := ⟨.hbm, 355, rfl⟩
abbrev main_v234 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_cst_79 : Ref sig .tc := ⟨.hbm, 360, rfl⟩
abbrev main_v238 : Ref sig .tc := ⟨.hbm, 361, rfl⟩
abbrev main_v239 : Ref sig .tc := ⟨.hbm, 362, rfl⟩
abbrev main_cst_80 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_cst_81 : Ref sig .tc := ⟨.hbm, 371, rfl⟩
abbrev main_v247 : Ref sig .tc := ⟨.hbm, 372, rfl⟩
abbrev main_v248 : Ref sig .tc := ⟨.hbm, 373, rfl⟩
abbrev main_v249 : Ref sig .tc := ⟨.hbm, 374, rfl⟩
abbrev main_v250 : Ref sig .tc := ⟨.hbm, 375, rfl⟩
abbrev main_v251 : Ref sig .tc := ⟨.hbm, 376, rfl⟩
abbrev main_v252 : Ref sig .tc := ⟨.hbm, 377, rfl⟩
abbrev main_v253 : Ref sig .tc := ⟨.hbm, 378, rfl⟩
abbrev main_cst_82 : Ref sig .tc := ⟨.hbm, 379, rfl⟩
abbrev main_v254 : Ref sig .tc := ⟨.hbm, 380, rfl⟩
abbrev main_cst_83 : Ref sig .tc := ⟨.hbm, 381, rfl⟩
abbrev main_v255 : Ref sig .tc := ⟨.hbm, 382, rfl⟩
abbrev main_v256 : Ref sig .tc := ⟨.hbm, 383, rfl⟩
abbrev main_v257 : Ref sig .tc := ⟨.hbm, 384, rfl⟩
abbrev main_v258 : Ref sig .tc := ⟨.hbm, 385, rfl⟩
abbrev main_cst_84 : Ref sig .tc := ⟨.hbm, 386, rfl⟩
abbrev main_v259 : Ref sig .tc := ⟨.hbm, 387, rfl⟩
abbrev main_cst_85 : Ref sig .tc := ⟨.hbm, 388, rfl⟩
abbrev main_v260 : Ref sig .tc := ⟨.hbm, 389, rfl⟩
abbrev main_cst_86 : Ref sig .tc := ⟨.hbm, 390, rfl⟩
abbrev main_v261 : Ref sig .tc := ⟨.hbm, 391, rfl⟩
abbrev main_cst_87 : Ref sig .tc := ⟨.hbm, 392, rfl⟩
abbrev main_v262 : Ref sig .tc := ⟨.hbm, 393, rfl⟩
abbrev main_cst_88 : Ref sig .tc := ⟨.hbm, 394, rfl⟩
abbrev main_v263 : Ref sig .tc := ⟨.hbm, 395, rfl⟩
abbrev main_cst_89 : Ref sig .tc := ⟨.hbm, 396, rfl⟩
abbrev main_call27_v0 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_v268 : Ref sig .tc := ⟨.hbm, 402, rfl⟩
abbrev main_v269 : Ref sig .tc := ⟨.hbm, 403, rfl⟩
abbrev main_v270 : Ref sig .tc := ⟨.hbm, 404, rfl⟩
abbrev main_v271 : Ref sig .tc := ⟨.hbm, 405, rfl⟩
abbrev main_v272 : Ref sig .tc := ⟨.hbm, 406, rfl⟩
abbrev main_v273 : Ref sig .tc := ⟨.hbm, 407, rfl⟩
abbrev main_v274 : Ref sig .tc := ⟨.hbm, 408, rfl⟩
abbrev main_v275 : Ref sig .tc := ⟨.hbm, 409, rfl⟩
abbrev main_v276 : Ref sig .tc := ⟨.hbm, 410, rfl⟩
abbrev main_v277 : Ref sig .tc := ⟨.hbm, 411, rfl⟩
abbrev main_v278 : Ref sig .tc := ⟨.hbm, 412, rfl⟩
abbrev main_v279 : Ref sig .tc := ⟨.hbm, 413, rfl⟩
abbrev main_v280 : Ref sig .tc := ⟨.hbm, 414, rfl⟩
abbrev main_v281 : Ref sig .tc := ⟨.hbm, 415, rfl⟩
abbrev main_v282 : Ref sig .tc := ⟨.hbm, 416, rfl⟩
abbrev main_v283 : Ref sig .tc := ⟨.hbm, 417, rfl⟩
abbrev main_v284 : Ref sig .tc := ⟨.hbm, 418, rfl⟩
abbrev main_v285 : Ref sig .tc := ⟨.hbm, 419, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc1_stg0_0 : Ref sig .tc := ⟨.smem, 0, rfl⟩
abbrev cc2_stg0_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc1_sem4_0 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .ne arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def k1_cond1 (i : grid1.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_12 : BitVec 32 := 0#32
  let v35 : BitVec 1 := Scalar.cmpi .ne v34 c0_i32_12
  v35

def k1_cond2 (i : grid1.Coords) : BitVec 1 :=
  let arg0 : BitVec 32 := BitVec.ofNat 32 (i 0).val
  let c0_i32_13 : BitVec 32 := 0#32
  let v36 : BitVec 1 := Scalar.cmpi .ne arg0 c0_i32_13
  let v37 : BitVec 32 := Scalar.extui v36
  let c0_i32_14 : BitVec 32 := 0#32
  let v38 : BitVec 1 := Scalar.cmpi .ne v37 c0_i32_14
  v38

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4x256x3136 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256x3136 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x256x3136 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![16], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .smem S12 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4x256x3136 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256x3136 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256x3136 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256x3136 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4x256x3136 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S64x256x56x56 : Shape := ⟨4, ![64, 256, 56, 56]⟩
abbrev S256 : Shape := ⟨1, ![256]⟩
abbrev S_ : Shape := ⟨0, ![]⟩
abbrev S1x256x1x1 : Shape := ⟨4, ![1, 256, 1, 1]⟩

abbrev nBuf : Space → Nat
  | .hbm => 358
  | .vmem => 0
  | .smem => 0
  | _ => 0

abbrev hbmTy0_0 (i : Nat) : BufTy := match i % 128 with
  | 0 => ⟨S64x256x56x56, .f32⟩
  | 1 => ⟨S256, .f32⟩
  | 2 => ⟨S256, .f32⟩
  | 3 => ⟨S256, .f32⟩
  | 4 => ⟨S256, .f32⟩
  | 5 => ⟨S_, .f32⟩
  | 6 => ⟨S256, .f32⟩
  | 7 => ⟨S_, .f32⟩
  | 8 => ⟨S256, .f32⟩
  | 9 => ⟨S256, .f32⟩
  | 10 => ⟨S_, .f32⟩
  | 11 => ⟨S256, .f32⟩
  | 12 => ⟨S256, .f32⟩
  | 13 => ⟨S_, .f32⟩
  | 14 => ⟨S256, .f32⟩
  | 15 => ⟨S256, .f32⟩
  | 16 => ⟨S256, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .i1⟩
  | 34 => ⟨S_, .f32⟩
  | 35 => ⟨S_, .f32⟩
  | 36 => ⟨S_, .f32⟩
  | 37 => ⟨S256, .f32⟩
  | 38 => ⟨S256, .f32⟩
  | 39 => ⟨S256, .f32⟩
  | 40 => ⟨S256, .f32⟩
  | 41 => ⟨S256, .f32⟩
  | 42 => ⟨S256, .f32⟩
  | 43 => ⟨S256, .f32⟩
  | 44 => ⟨S256, .f32⟩
  | 45 => ⟨S_, .f32⟩
  | 46 => ⟨S256, .f32⟩
  | 47 => ⟨S256, .f32⟩
  | 48 => ⟨S256, .f32⟩
  | 49 => ⟨S256, .f32⟩
  | 50 => ⟨S256, .f32⟩
  | 51 => ⟨S256, .f32⟩
  | 52 => ⟨S256, .f32⟩
  | 53 => ⟨S_, .f32⟩
  | 54 => ⟨S_, .i1⟩
  | 55 => ⟨S256, .f32⟩
  | 56 => ⟨S1x256x1x1, .f32⟩
  | 57 => ⟨S64x256x56x56, .f32⟩
  | 58 => ⟨S64x256x56x56, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .i1⟩
  | 76 => ⟨S_, .f32⟩
  | 77 => ⟨S_, .f32⟩
  | 78 => ⟨S_, .f32⟩
  | 79 => ⟨S64x256x56x56, .f32⟩
  | 80 => ⟨S64x256x56x56, .f32⟩
  | 81 => ⟨S64x256x56x56, .f32⟩
  | 82 => ⟨S64x256x56x56, .f32⟩
  | 83 => ⟨S64x256x56x56, .f32⟩
  | 84 => ⟨S64x256x56x56, .f32⟩
  | 85 => ⟨S64x256x56x56, .f32⟩
  | 86 => ⟨S64x256x56x56, .f32⟩
  | 87 => ⟨S_, .f32⟩
  | 88 => ⟨S64x256x56x56, .f32⟩
  | 89 => ⟨S64x256x56x56, .f32⟩
  | 90 => ⟨S64x256x56x56, .f32⟩
  | 91 => ⟨S64x256x56x56, .f32⟩
  | 92 => ⟨S64x256x56x56, .f32⟩
  | 93 => ⟨S64x256x56x56, .f32⟩
  | 94 => ⟨S64x256x56x56, .f32⟩
  | 95 => ⟨S_, .f32⟩
  | 96 => ⟨S_, .i1⟩
  | 97 => ⟨S64x256x56x56, .f32⟩
  | 98 => ⟨S64x256x56x56, .f32⟩
  | 99 => ⟨S_, .f32⟩
  | 100 => ⟨S256, .f32⟩
  | 101 => ⟨S_, .f32⟩
  | 102 => ⟨S256, .f32⟩
  | 103 => ⟨S256, .f32⟩
  | 104 => ⟨S_, .f32⟩
  | 105 => ⟨S256, .f32⟩
  | 106 => ⟨S256, .f32⟩
  | 107 => ⟨S_, .f32⟩
  | 108 => ⟨S256, .f32⟩
  | 109 => ⟨S256, .f32⟩
  | 110 => ⟨S256, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .i1⟩
  | _ => ⟨S64x256x56x56, .f32⟩

abbrev hbmTy0_1 (i : Nat) : BufTy := match i % 128 with
  | 0 => ⟨S_, .f32⟩
  | 1 => ⟨S_, .f32⟩
  | 2 => ⟨S_, .f32⟩
  | 3 => ⟨S256, .f32⟩
  | 4 => ⟨S256, .f32⟩
  | 5 => ⟨S256, .f32⟩
  | 6 => ⟨S256, .f32⟩
  | 7 => ⟨S256, .f32⟩
  | 8 => ⟨S256, .f32⟩
  | 9 => ⟨S256, .f32⟩
  | 10 => ⟨S256, .f32⟩
  | 11 => ⟨S_, .f32⟩
  | 12 => ⟨S256, .f32⟩
  | 13 => ⟨S256, .f32⟩
  | 14 => ⟨S256, .f32⟩
  | 15 => ⟨S256, .f32⟩
  | 16 => ⟨S256, .f32⟩
  | 17 => ⟨S256, .f32⟩
  | 18 => ⟨S256, .f32⟩
  | 19 => ⟨S_, .f32⟩
  | 20 => ⟨S_, .i1⟩
  | 21 => ⟨S256, .f32⟩
  | 22 => ⟨S_, .f32⟩
  | 23 => ⟨S256, .f32⟩
  | 24 => ⟨S256, .f32⟩
  | 25 => ⟨S256, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S256, .f32⟩
  | 47 => ⟨S256, .f32⟩
  | 48 => ⟨S256, .f32⟩
  | 49 => ⟨S256, .f32⟩
  | 50 => ⟨S256, .f32⟩
  | 51 => ⟨S256, .f32⟩
  | 52 => ⟨S256, .f32⟩
  | 53 => ⟨S256, .f32⟩
  | 54 => ⟨S_, .f32⟩
  | 55 => ⟨S256, .f32⟩
  | 56 => ⟨S256, .f32⟩
  | 57 => ⟨S256, .f32⟩
  | 58 => ⟨S256, .f32⟩
  | 59 => ⟨S256, .f32⟩
  | 60 => ⟨S256, .f32⟩
  | 61 => ⟨S256, .f32⟩
  | 62 => ⟨S_, .f32⟩
  | 63 => ⟨S_, .i1⟩
  | 64 => ⟨S256, .f32⟩
  | 65 => ⟨S1x256x1x1, .f32⟩
  | 66 => ⟨S64x256x56x56, .f32⟩
  | 67 => ⟨S64x256x56x56, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .i1⟩
  | 85 => ⟨S_, .f32⟩
  | 86 => ⟨S_, .f32⟩
  | 87 => ⟨S_, .f32⟩
  | 88 => ⟨S64x256x56x56, .f32⟩
  | 89 => ⟨S64x256x56x56, .f32⟩
  | 90 => ⟨S64x256x56x56, .f32⟩
  | 91 => ⟨S64x256x56x56, .f32⟩
  | 92 => ⟨S64x256x56x56, .f32⟩
  | 93 => ⟨S64x256x56x56, .f32⟩
  | 94 => ⟨S64x256x56x56, .f32⟩
  | 95 => ⟨S64x256x56x56, .f32⟩
  | 96 => ⟨S_, .f32⟩
  | 97 => ⟨S64x256x56x56, .f32⟩
  | 98 => ⟨S64x256x56x56, .f32⟩
  | 99 => ⟨S64x256x56x56, .f32⟩
  | 100 => ⟨S64x256x56x56, .f32⟩
  | 101 => ⟨S64x256x56x56, .f32⟩
  | 102 => ⟨S64x256x56x56, .f32⟩
  | 103 => ⟨S64x256x56x56, .f32⟩
  | 104 => ⟨S_, .f32⟩
  | 105 => ⟨S_, .i1⟩
  | 106 => ⟨S64x256x56x56, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .i1⟩
  | 124 => ⟨S_, .f32⟩
  | 125 => ⟨S_, .f32⟩
  | 126 => ⟨S_, .f32⟩
  | 127 => ⟨S256, .f32⟩
  | _ => ⟨S64x256x56x56, .f32⟩

abbrev hbmTy0_2 (i : Nat) : BufTy := match i % 128 with
  | 0 => ⟨S256, .f32⟩
  | 1 => ⟨S256, .f32⟩
  | 2 => ⟨S256, .f32⟩
  | 3 => ⟨S256, .f32⟩
  | 4 => ⟨S256, .f32⟩
  | 5 => ⟨S256, .f32⟩
  | 6 => ⟨S256, .f32⟩
  | 7 => ⟨S_, .f32⟩
  | 8 => ⟨S256, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S_, .f32⟩
  | 16 => ⟨S_, .i1⟩
  | 17 => ⟨S256, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .i1⟩
  | 35 => ⟨S_, .f32⟩
  | 36 => ⟨S_, .f32⟩
  | 37 => ⟨S_, .f32⟩
  | 38 => ⟨S256, .f32⟩
  | 39 => ⟨S256, .f32⟩
  | 40 => ⟨S256, .f32⟩
  | 41 => ⟨S256, .f32⟩
  | 42 => ⟨S256, .f32⟩
  | 43 => ⟨S256, .f32⟩
  | 44 => ⟨S256, .f32⟩
  | 45 => ⟨S256, .f32⟩
  | 46 => ⟨S_, .f32⟩
  | 47 => ⟨S256, .f32⟩
  | 48 => ⟨S256, .f32⟩
  | 49 => ⟨S256, .f32⟩
  | 50 => ⟨S256, .f32⟩
  | 51 => ⟨S256, .f32⟩
  | 52 => ⟨S256, .f32⟩
  | 53 => ⟨S256, .f32⟩
  | 54 => ⟨S_, .f32⟩
  | 55 => ⟨S_, .i1⟩
  | 56 => ⟨S256, .f32⟩
  | 57 => ⟨S1x256x1x1, .f32⟩
  | 58 => ⟨S64x256x56x56, .f32⟩
  | 59 => ⟨S64x256x56x56, .f32⟩
  | 60 => ⟨S1x256x1x1, .f32⟩
  | 61 => ⟨S64x256x56x56, .f32⟩
  | 62 => ⟨S64x256x56x56, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S64x256x56x56, .f32⟩
  | 84 => ⟨S64x256x56x56, .f32⟩
  | 85 => ⟨S64x256x56x56, .f32⟩
  | 86 => ⟨S64x256x56x56, .f32⟩
  | 87 => ⟨S64x256x56x56, .f32⟩
  | 88 => ⟨S64x256x56x56, .f32⟩
  | 89 => ⟨S64x256x56x56, .f32⟩
  | 90 => ⟨S64x256x56x56, .f32⟩
  | 91 => ⟨S_, .f32⟩
  | 92 => ⟨S64x256x56x56, .f32⟩
  | 93 => ⟨S64x256x56x56, .f32⟩
  | 94 => ⟨S64x256x56x56, .f32⟩
  | 95 => ⟨S64x256x56x56, .f32⟩
  | 96 => ⟨S64x256x56x56, .f32⟩
  | 97 => ⟨S64x256x56x56, .f32⟩
  | 98 => ⟨S64x256x56x56, .f32⟩
  | 99 => ⟨S_, .f32⟩
  | 100 => ⟨S_, .i1⟩
  | 101 => ⟨S64x256x56x56, .f32⟩
  | _ => ⟨S64x256x56x56, .f32⟩

abbrev hbmTy (i : Nat) : BufTy := match i / 128 with
  | 0 => hbmTy0_0 i
  | 1 => hbmTy0_1 i
  | 2 => hbmTy0_2 i
  | _ => ⟨S64x256x56x56, .f32⟩

abbrev bufTy : (tb : Table) → Fin (tcTables nBuf tb) → BufTy
  | .hbm, ⟨i, _⟩ => hbmTy i
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_cst_7 : Ref sig .tc := ⟨.hbm, 28, rfl⟩
abbrev main_v15 : Ref sig .tc := ⟨.hbm, 29, rfl⟩
abbrev main_cst_8 : Ref sig .tc := ⟨.hbm, 30, rfl⟩
abbrev main_v16 : Ref sig .tc := ⟨.hbm, 31, rfl⟩
abbrev main_cst_9 : Ref sig .tc := ⟨.hbm, 32, rfl⟩
abbrev main_v17 : Ref sig .tc := ⟨.hbm, 33, rfl⟩
abbrev main_cst_10 : Ref sig .tc := ⟨.hbm, 34, rfl⟩
abbrev main_call0_v0 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_11 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_12 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_13 : Ref sig .tc := ⟨.hbm, 59, rfl⟩
abbrev main_v36 : Ref sig .tc := ⟨.hbm, 60, rfl⟩
abbrev main_v37 : Ref sig .tc := ⟨.hbm, 61, rfl⟩
abbrev main_cst_14 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_15 : Ref sig .tc := ⟨.hbm, 66, rfl⟩
abbrev main_v41 : Ref sig .tc := ⟨.hbm, 67, rfl⟩
abbrev main_cst_16 : Ref sig .tc := ⟨.hbm, 68, rfl⟩
abbrev main_v42 : Ref sig .tc := ⟨.hbm, 69, rfl⟩
abbrev main_cst_17 : Ref sig .tc := ⟨.hbm, 70, rfl⟩
abbrev main_v43 : Ref sig .tc := ⟨.hbm, 71, rfl⟩
abbrev main_cst_18 : Ref sig .tc := ⟨.hbm, 72, rfl⟩
abbrev main_v44 : Ref sig .tc := ⟨.hbm, 73, rfl⟩
abbrev main_cst_19 : Ref sig .tc := ⟨.hbm, 74, rfl⟩
abbrev main_v45 : Ref sig .tc := ⟨.hbm, 75, rfl⟩
abbrev main_cst_20 : Ref sig .tc := ⟨.hbm, 76, rfl⟩
abbrev main_call3_v0 : Ref sig .tc := ⟨.hbm, 77, rfl⟩
abbrev main_v46 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_21 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_22 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_23 : Ref sig .tc := ⟨.hbm, 99, rfl⟩
abbrev main_v62 : Ref sig .tc := ⟨.hbm, 100, rfl⟩
abbrev main_cst_24 : Ref sig .tc := ⟨.hbm, 101, rfl⟩
abbrev main_v63 : Ref sig .tc := ⟨.hbm, 102, rfl⟩
abbrev main_v64 : Ref sig .tc := ⟨.hbm, 103, rfl⟩
abbrev main_cst_25 : Ref sig .tc := ⟨.hbm, 104, rfl⟩
abbrev main_v65 : Ref sig .tc := ⟨.hbm, 105, rfl⟩
abbrev main_v66 : Ref sig .tc := ⟨.hbm, 106, rfl⟩
abbrev main_cst_26 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_27 : Ref sig .tc := ⟨.hbm, 111, rfl⟩
abbrev main_v70 : Ref sig .tc := ⟨.hbm, 112, rfl⟩
abbrev main_v71 : Ref sig .tc := ⟨.hbm, 113, rfl⟩
abbrev main_cst_28 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_29 : Ref sig .tc := ⟨.hbm, 118, rfl⟩
abbrev main_v75 : Ref sig .tc := ⟨.hbm, 119, rfl⟩
abbrev main_cst_30 : Ref sig .tc := ⟨.hbm, 120, rfl⟩
abbrev main_v76 : Ref sig .tc := ⟨.hbm, 121, rfl⟩
abbrev main_cst_31 : Ref sig .tc := ⟨.hbm, 122, rfl⟩
abbrev main_v77 : Ref sig .tc := ⟨.hbm, 123, rfl⟩
abbrev main_cst_32 : Ref sig .tc := ⟨.hbm, 124, rfl⟩
abbrev main_v78 : Ref sig .tc := ⟨.hbm, 125, rfl⟩
abbrev main_cst_33 : Ref sig .tc := ⟨.hbm, 126, rfl⟩
abbrev main_v79 : Ref sig .tc := ⟨.hbm, 127, rfl⟩
abbrev main_cst_34 : Ref sig .tc := ⟨.hbm, 128, rfl⟩
abbrev main_call6_v0 : Ref sig .tc := ⟨.hbm, 129, rfl⟩
abbrev main_v80 : Ref sig .tc := ⟨.hbm, 130, rfl⟩
abbrev main_call7_v0 : Ref sig .tc := ⟨.hbm, 131, rfl⟩
abbrev main_call7_v1 : Ref sig .tc := ⟨.hbm, 132, rfl⟩
abbrev main_call7_v2 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_35 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_36 : Ref sig .tc := ⟨.hbm, 147, rfl⟩
abbrev main_v93 : Ref sig .tc := ⟨.hbm, 148, rfl⟩
abbrev main_v94 : Ref sig .tc := ⟨.hbm, 149, rfl⟩
abbrev main_cst_37 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_cst_38 : Ref sig .tc := ⟨.hbm, 154, rfl⟩
abbrev main_v98 : Ref sig .tc := ⟨.hbm, 155, rfl⟩
abbrev main_v99 : Ref sig .tc := ⟨.hbm, 156, rfl⟩
abbrev main_cst_39 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_40 : Ref sig .tc := ⟨.hbm, 161, rfl⟩
abbrev main_v103 : Ref sig .tc := ⟨.hbm, 162, rfl⟩
abbrev main_cst_41 : Ref sig .tc := ⟨.hbm, 163, rfl⟩
abbrev main_v104 : Ref sig .tc := ⟨.hbm, 164, rfl⟩
abbrev main_cst_42 : Ref sig .tc := ⟨.hbm, 165, rfl⟩
abbrev main_v105 : Ref sig .tc := ⟨.hbm, 166, rfl⟩
abbrev main_cst_43 : Ref sig .tc := ⟨.hbm, 167, rfl⟩
abbrev main_v106 : Ref sig .tc := ⟨.hbm, 168, rfl⟩
abbrev main_cst_44 : Ref sig .tc := ⟨.hbm, 169, rfl⟩
abbrev main_v107 : Ref sig .tc := ⟨.hbm, 170, rfl⟩
abbrev main_cst_45 : Ref sig .tc := ⟨.hbm, 171, rfl⟩
abbrev main_call9_v0 : Ref sig .tc := ⟨.hbm, 172, rfl⟩
abbrev main_v108 : Ref sig .tc := ⟨.hbm, 173, rfl⟩
abbrev main_call10_v0 : Ref sig .tc := ⟨.hbm, 174, rfl⟩
abbrev main_call10_v1 : Ref sig .tc := ⟨.hbm, 175, rfl⟩
abbrev main_call10_v2 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_cst_46 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_cst_47 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_cst_48 : Ref sig .tc := ⟨.hbm, 196, rfl⟩
abbrev main_v126 : Ref sig .tc := ⟨.hbm, 197, rfl⟩
abbrev main_v127 : Ref sig .tc := ⟨.hbm, 198, rfl⟩
abbrev main_cst_49 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_50 : Ref sig .tc := ⟨.hbm, 203, rfl⟩
abbrev main_v131 : Ref sig .tc := ⟨.hbm, 204, rfl⟩
abbrev main_cst_51 : Ref sig .tc := ⟨.hbm, 205, rfl⟩
abbrev main_v132 : Ref sig .tc := ⟨.hbm, 206, rfl⟩
abbrev main_cst_52 : Ref sig .tc := ⟨.hbm, 207, rfl⟩
abbrev main_v133 : Ref sig .tc := ⟨.hbm, 208, rfl⟩
abbrev main_cst_53 : Ref sig .tc := ⟨.hbm, 209, rfl⟩
abbrev main_v134 : Ref sig .tc := ⟨.hbm, 210, rfl⟩
abbrev main_cst_54 : Ref sig .tc := ⟨.hbm, 211, rfl⟩
abbrev main_v135 : Ref sig .tc := ⟨.hbm, 212, rfl⟩
abbrev main_cst_55 : Ref sig .tc := ⟨.hbm, 213, rfl⟩
abbrev main_call12_v0 : Ref sig .tc := ⟨.hbm, 214, rfl⟩
abbrev main_v136 : Ref sig .tc := ⟨.hbm, 215, rfl⟩
abbrev main_call13_v0 : Ref sig .tc := ⟨.hbm, 216, rfl⟩
abbrev main_call13_v1 : Ref sig .tc := ⟨.hbm, 217, rfl⟩
abbrev main_call13_v2 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_cst_56 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_cst_57 : Ref sig .tc := ⟨.hbm, 232, rfl⟩
abbrev main_v149 : Ref sig .tc := ⟨.hbm, 233, rfl⟩
abbrev main_v150 : Ref sig .tc := ⟨.hbm, 234, rfl⟩
abbrev main_cst_58 : Ref sig .tc := ⟨.hbm, 235, rfl⟩
abbrev main_v151 : Ref sig .tc := ⟨.hbm, 236, rfl⟩
abbrev main_v152 : Ref sig .tc := ⟨.hbm, 237, rfl⟩
abbrev main_cst_59 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_cst_60 : Ref sig .tc := ⟨.hbm, 242, rfl⟩
abbrev main_v156 : Ref sig .tc := ⟨.hbm, 243, rfl⟩
abbrev main_cst_61 : Ref sig .tc := ⟨.hbm, 244, rfl⟩
abbrev main_v157 : Ref sig .tc := ⟨.hbm, 245, rfl⟩
abbrev main_cst_62 : Ref sig .tc := ⟨.hbm, 246, rfl⟩
abbrev main_v158 : Ref sig .tc := ⟨.hbm, 247, rfl⟩
abbrev main_cst_63 : Ref sig .tc := ⟨.hbm, 248, rfl⟩
abbrev main_v159 : Ref sig .tc := ⟨.hbm, 249, rfl⟩
abbrev main_cst_64 : Ref sig .tc := ⟨.hbm, 250, rfl⟩
abbrev main_v160 : Ref sig .tc := ⟨.hbm, 251, rfl⟩
abbrev main_cst_65 : Ref sig .tc := ⟨.hbm, 252, rfl⟩
abbrev main_call15_v0 : Ref sig .tc := ⟨.hbm, 253, rfl⟩
abbrev main_v161 : Ref sig .tc := ⟨.hbm, 254, rfl⟩
abbrev main_call16_v0 : Ref sig .tc := ⟨.hbm, 255, rfl⟩
abbrev main_call16_v1 : Ref sig .tc := ⟨.hbm, 256, rfl⟩
abbrev main_call16_v2 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_cst_66 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_cst_67 : Ref sig .tc := ⟨.hbm, 271, rfl⟩
abbrev main_v174 : Ref sig .tc := ⟨.hbm, 272, rfl⟩
abbrev main_v175 : Ref sig .tc := ⟨.hbm, 273, rfl⟩
abbrev main_cst_68 : Ref sig .tc := ⟨.hbm, 274, rfl⟩
abbrev main_v176 : Ref sig .tc := ⟨.hbm, 275, rfl⟩
abbrev main_v177 : Ref sig .tc := ⟨.hbm, 276, rfl⟩
abbrev main_cst_69 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_cst_70 : Ref sig .tc := ⟨.hbm, 281, rfl⟩
abbrev main_v181 : Ref sig .tc := ⟨.hbm, 282, rfl⟩
abbrev main_cst_71 : Ref sig .tc := ⟨.hbm, 283, rfl⟩
abbrev main_v182 : Ref sig .tc := ⟨.hbm, 284, rfl⟩
abbrev main_cst_72 : Ref sig .tc := ⟨.hbm, 285, rfl⟩
abbrev main_v183 : Ref sig .tc := ⟨.hbm, 286, rfl⟩
abbrev main_cst_73 : Ref sig .tc := ⟨.hbm, 287, rfl⟩
abbrev main_v184 : Ref sig .tc := ⟨.hbm, 288, rfl⟩
abbrev main_cst_74 : Ref sig .tc := ⟨.hbm, 289, rfl⟩
abbrev main_v185 : Ref sig .tc := ⟨.hbm, 290, rfl⟩
abbrev main_cst_75 : Ref sig .tc := ⟨.hbm, 291, rfl⟩
abbrev main_call18_v0 : Ref sig .tc := ⟨.hbm, 292, rfl⟩
abbrev main_v186 : Ref sig .tc := ⟨.hbm, 293, rfl⟩
abbrev main_call19_v0 : Ref sig .tc := ⟨.hbm, 294, rfl⟩
abbrev main_call19_v1 : Ref sig .tc := ⟨.hbm, 295, rfl⟩
abbrev main_call19_v2 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_cst_76 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_cst_77 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_v206 : Ref sig .tc := ⟨.hbm, 318, rfl⟩
abbrev main_cst_78 : Ref sig .tc := ⟨.hbm, 319, rfl⟩
abbrev main_v207 : Ref sig .tc := ⟨.hbm, 320, rfl⟩
abbrev main_v208 : Ref sig .tc := ⟨.hbm, 321, rfl⟩
abbrev main_cst_79 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_cst_80 : Ref sig .tc := ⟨.hbm, 326, rfl⟩
abbrev main_v212 : Ref sig .tc := ⟨.hbm, 327, rfl⟩
abbrev main_cst_81 : Ref sig .tc := ⟨.hbm, 328, rfl⟩
abbrev main_v213 : Ref sig .tc := ⟨.hbm, 329, rfl⟩
abbrev main_cst_82 : Ref sig .tc := ⟨.hbm, 330, rfl⟩
abbrev main_v214 : Ref sig .tc := ⟨.hbm, 331, rfl⟩
abbrev main_cst_83 : Ref sig .tc := ⟨.hbm, 332, rfl⟩
abbrev main_v215 : Ref sig .tc := ⟨.hbm, 333, rfl⟩
abbrev main_cst_84 : Ref sig .tc := ⟨.hbm, 334, rfl⟩
abbrev main_v216 : Ref sig .tc := ⟨.hbm, 335, rfl⟩
abbrev main_cst_85 : Ref sig .tc := ⟨.hbm, 336, rfl⟩
abbrev main_call21_v0 : Ref sig .tc := ⟨.hbm, 337, rfl⟩
abbrev main_v217 : Ref sig .tc := ⟨.hbm, 338, rfl⟩
abbrev main_call22_v0 : Ref sig .tc := ⟨.hbm, 339, rfl⟩
abbrev main_call22_v1 : Ref sig .tc := ⟨.hbm, 340, rfl⟩
abbrev main_call22_v2 : Ref sig .tc := ⟨.hbm, 341, rfl⟩
abbrev main_v218 : Ref sig .tc := ⟨.hbm, 342, rfl⟩
abbrev main_v219 : Ref sig .tc := ⟨.hbm, 343, rfl⟩
abbrev main_v220 : Ref sig .tc := ⟨.hbm, 344, rfl⟩
abbrev main_v221 : Ref sig .tc := ⟨.hbm, 345, rfl⟩
abbrev main_v222 : Ref sig .tc := ⟨.hbm, 346, rfl⟩
abbrev main_cst_86 : Ref sig .tc := ⟨.hbm, 347, rfl⟩
abbrev main_v223 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_v227 : Ref sig .tc := ⟨.hbm, 352, rfl⟩
abbrev main_v228 : Ref sig .tc := ⟨.hbm, 353, rfl⟩
abbrev main_v229 : Ref sig .tc := ⟨.hbm, 354, rfl⟩
abbrev main_cst_87 : Ref sig .tc := ⟨.hbm, 355, rfl⟩
abbrev main_v230 : Ref sig .tc := ⟨.hbm, 356, rfl⟩
abbrev main_v231 : Ref sig .tc := ⟨.hbm, 357, rfl⟩

abbrev nD : Nat := 1
abbrev τ : Topo := Topo.v7x

variable {F : FTy → Type} [FloatOps F]
-- ==== Proof.Bodies.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Tactic

@[expose] public section

set_option maxRecDepth 16384

noncomputable section

/-! The three kernel bodies, each run on whole staging buffers: what every output buffer holds afterwards, as the
    payload functions of what the buffers held before. -/

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One store over a whole buffer, read back, is the value stored. -/
theorem read_whole_store {S : Shape} {e : EltTy} {sp : Space} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ fun y => ⟨_, List.mem_singleton_self _, View.mem_set_unit_zero h inb y⟩,
    View.canon_unit_zero h]

/-- A load of a whole buffer reads what the buffer holds. -/
theorem load_whole {S : Shape} {e : EltTy} {sp : Space} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb (v.read (Elt F) f)

/-- No offset, on two axes. -/
theorem off2 : (![0, 0] : Fin 2 → Nat) = fun _ => 0 := by funext a; fin_cases a <;> rfl
/-- No offset, on three axes. -/
theorem off3 : (![0, 0, 0] : Fin 3 → Nat) = fun _ => 0 := by funext a; fin_cases a <;> rfl

/-- Loading a whole row of channels. -/
theorem loadC {sp : Space} (v : View sig .tc sp S1x256 .f32) (f : v.ty.Contents (Elt F)) (inb : ∀ a, (![0, 0] : Fin 2 → Nat) a + S1x256.size a ≤ S1x256.size a) :
    v.readAt (Elt F) (Rect.unit (s := S1x256) ![0, 0] S1x256.size inb).toLoadRect f = v.read (Elt F) f := load_whole v f off2 inb
/-- Loading a whole plane. -/
theorem loadP {sp : Space} (v : View sig .tc sp S1x256x3136 .f32) (f : v.ty.Contents (Elt F)) (inb : ∀ a, (![0, 0, 0] : Fin 3 → Nat) a + S1x256x3136.size a ≤ S1x256x3136.size a) :
    v.readAt (Elt F) (Rect.unit (s := S1x256x3136) ![0, 0, 0] S1x256x3136.size inb).toLoadRect f = v.read (Elt F) f := load_whole v f off3 inb
/-- Loading a whole block. -/
theorem loadX {sp : Space} {e : EltTy} (v : View sig .tc sp S4x256x3136 e) (f : v.ty.Contents (Elt F)) (inb : ∀ a, (![0, 0, 0] : Fin 3 → Nat) a + S4x256x3136.size a ≤ S4x256x3136.size a) :
    v.readAt (Elt F) (Rect.unit (s := S4x256x3136) ![0, 0, 0] S4x256x3136.size inb).toLoadRect f = v.read (Elt F) f := load_whole v f off3 inb

/-- Position `k` of the four parameters. -/
def at4 (k : ℕ) : S4.Idx := fun a => match a with | ⟨0, _⟩ => ⟨k % 4, Nat.mod_lt _ (by decide)⟩
/-- Position `k` of the twelve parameters. -/
def at12 (k : ℕ) : S12.Idx := fun a => match a with | ⟨0, _⟩ => ⟨k % 12, Nat.mod_lt _ (by decide)⟩

/-- One value has a first. -/
theorem first1 : 0 < S1.numel := by decide
/-- A load of one of the four parameters reads that parameter. -/
theorem cell4 {sp : Space} (v : View sig .tc sp S4 .f32) (f : v.ty.Contents (Elt F)) (n : ℕ) (hn : n < 4)
    (inb : ∀ a, (![n] : Fin 1 → Nat) a + S1.size a ≤ S4.size a) (h : 0 < (Rect.unit (s := S4) ![n] S1.size inb).shape.numel) :
    v.readAt (Elt F) (Rect.unit (s := S4) ![n] S1.size inb).toLoadRect f (Shape.Idx.first h) = v.read (Elt F) f (at4 n) := by
  show v.read (Elt F) f _ = _
  congr 1; funext a; fin_cases a; exact Fin.ext (Nat.mod_eq_of_lt hn).symm
/-- A load of one of the twelve parameters reads that parameter. -/
theorem cell12 {sp : Space} (v : View sig .tc sp S12 .f32) (f : v.ty.Contents (Elt F)) (n : ℕ) (hn : n < 12)
    (inb : ∀ a, (![n] : Fin 1 → Nat) a + S1.size a ≤ S12.size a) (h : 0 < (Rect.unit (s := S12) ![n] S1.size inb).shape.numel) :
    v.readAt (Elt F) (Rect.unit (s := S12) ![n] S1.size inb).toLoadRect f (Shape.Idx.first h) = v.read (Elt F) f (at12 n) := by
  show v.read (Elt F) f _ = _
  congr 1; funext a; fin_cases a; exact Fin.ext (Nat.mod_eq_of_lt hn).symm

set_option maxHeartbeats 1000000 in
/-- At the first grid point the statistics kernel stores the block's sum, maximum and minimum. -/
theorem stats_first (c : Dev nD) (E : Set ℕ) (i : grid0.Coords)
    (arg1 : Memref sig .tc .vmem S4x256x3136 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (hc0 : k0_cond1 i = 1#1) (hc1 : ¬k0_cond2 i = 1#1) (x : Vec F S4x256x3136 .f32) (K : PUnit → sProp (MT nD τ sig Unit (Elt F) ℕ (UR sig nD τ) ℕ)) :
    iprop(owns (c : Thread nD τ) arg1 fullShare x ∗ (∃ d, owns (c : Thread nD τ) arg2 fullShare d) ∗ (∃ d, owns (c : Thread nD τ) arg3 fullShare d) ∗ (∃ d, owns (c : Thread nD τ) arg4 fullShare d) ∗
        (iprop(owns (c : Thread nD τ) arg1 fullShare x ∗
            owns (c : Thread nD τ) arg2 fullShare (k0_pay2 x) ∗
            owns (c : Thread nD τ) arg3 fullShare (k0_pay3 x) ∗
            owns (c : Thread nD τ) arg4 fullShare (k0_pay4 x)) -∗ K ⟨⟩))
      ⊢ wp frame (wpE (defs₀ (F := F)) Variants.none c none) E (cc0_qbn_stats i arg1 harg1 arg2 harg2 arg3 harg3 arg4 harg4) K := by
  simp only [cc0_qbn_stats_eq_skeleton]; unfold cc0_qbn_stats_skel
  unfold owns
  iintro ⟨⟨%f1, %hf1, H1⟩, ⟨%d2, %f2, -, H2⟩, ⟨%d3, %f3, -, H3⟩, ⟨%d4, %f4, -, H4⟩, Hk⟩
  subst hf1
  sl_exec (disch := first | sl_exact hc0 | sl_exact hc1)
  sl_step
  iapply Hk
  isplitl [H1]
  · iexists f1; isplitr; · ipureintro; rfl
    iexact H1
  isplitl [H2]
  · iexists _; isplitr
    swap; · iexact H2
    ipureintro
    rw [read_whole_store _ _ off2]; rw [loadX]
  isplitl [H3]
  · iexists _; isplitr
    swap; · iexact H3
    ipureintro
    rw [read_whole_store _ _ off2]; rw [loadX]
  iexists _; isplitr
  swap; · iexact H4
  ipureintro
  rw [read_whole_store _ _ off2]; rw [loadX]

set_option maxHeartbeats 1000000 in
/-- At a later point it combines the block's sum, maximum and minimum into what the buffers hold. -/
theorem stats_next (c : Dev nD) (E : Set ℕ) (i : grid0.Coords)
    (arg1 : Memref sig .tc .vmem S4x256x3136 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S1x256 .f32) (harg4 : arg4.IsWhole)
    (hc0 : ¬k0_cond1 i = 1#1) (hc1 : k0_cond2 i = 1#1) (x : Vec F S4x256x3136 .f32) (s mx mn : Vec F S1x256 .f32) (K : PUnit → sProp (MT nD τ sig Unit (Elt F) ℕ (UR sig nD τ) ℕ)) :
    iprop(owns (c : Thread nD τ) arg1 fullShare x ∗ owns (c : Thread nD τ) arg2 fullShare s ∗ owns (c : Thread nD τ) arg3 fullShare mx ∗ owns (c : Thread nD τ) arg4 fullShare mn ∗
        (iprop(owns (c : Thread nD τ) arg1 fullShare x ∗
            owns (c : Thread nD τ) arg2 fullShare (k0_pay5 x s) ∗
            owns (c : Thread nD τ) arg3 fullShare (k0_pay6 x mx) ∗
            owns (c : Thread nD τ) arg4 fullShare (k0_pay7 x mn)) -∗ K ⟨⟩))
      ⊢ wp frame (wpE (defs₀ (F := F)) Variants.none c none) E (cc0_qbn_stats i arg1 harg1 arg2 harg2 arg3 harg3 arg4 harg4) K := by
  simp only [cc0_qbn_stats_eq_skeleton]; unfold cc0_qbn_stats_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | sl_exact hc0 | sl_exact hc1)
  sl_step
  iapply Hk
  isplitl [H1]
  · iexists f1; isplitr; · ipureintro; rfl
    iexact H1
  isplitl [H2]
  · iexists _; isplitr
    swap; · iexact H2
    ipureintro
    rw [read_whole_store _ _ off2]; rw [loadX, loadC]
  isplitl [H3]
  · iexists _; isplitr
    swap; · iexact H3
    ipureintro
    rw [read_whole_store _ _ off2]; rw [loadX, loadC]
  iexists _; isplitr
  swap; · iexact H4
  ipureintro
  rw [read_whole_store _ _ off2]; rw [loadX, loadC]

set_option maxHeartbeats 1000000 in
/-- At the first grid point the centring kernel stores the block's codes and its sum of squares. -/
theorem ctr_first (c : Dev nD) (E : Set ℕ) (i : grid1.Coords)
    (arg1 : Memref sig .tc .smem S4 .f32) (harg1 : arg1.IsWhole)
    (arg2 : Memref sig .tc .vmem S4x256x3136 .f32) (harg2 : arg2.IsWhole)
    (arg3 : Memref sig .tc .vmem S1x256x3136 .f32) (harg3 : arg3.IsWhole)
    (arg4 : Memref sig .tc .vmem S4x256x3136 .i8) (harg4 : arg4.IsWhole)
    (arg5 : Memref sig .tc .vmem S1x256 .f32) (harg5 : arg5.IsWhole)
    (hc0 : k1_cond1 i = 1#1) (hc1 : ¬k1_cond2 i = 1#1) (p : Vec F S4 .f32) (x : Vec F S4x256x3136 .f32) (mean : Vec F S1x256x3136 .f32) (K : PUnit → sProp (MT nD τ sig Unit (Elt F) ℕ (UR sig nD τ) ℕ)) :
    iprop(owns (c : Thread nD τ) arg1 fullShare p ∗ owns (c : Thread nD τ) arg2 fullShare x ∗ owns (c : Thread nD τ) arg3 fullShare mean ∗ (∃ d, owns (c : Thread nD τ) arg4 fullShare d) ∗ (∃ d, owns (c : Thread nD τ) arg5 fullShare d) ∗
        (iprop(owns (c : Thread nD τ) arg1 fullShare p ∗ owns (c : Thread nD τ) arg2 fullShare x ∗ owns (c : Thread nD τ) arg3 fullShare mean ∗
            owns (c : Thread nD τ) arg4 fullShare (k1_pay4 (p (at4 1)) (p (at4 2)) (p (at4 3)) x mean) ∗
            owns (c : Thread nD τ) arg5 fullShare (k1_pay5 (p (at4 0)) (p (at4 1)) (p (at4 2)) (p (at4 3)) x mean)) -∗ K ⟨⟩))
      ⊢ wp frame (wpE (defs₀ (F := F)) Variants.none c none) E (cc1_qbn_ctr i arg1 harg1 arg2 harg2 arg3 harg3 arg4 harg4 arg5 harg5) K := by
  simp only [cc1_qbn_ctr_eq_skeleton]; unfold cc1_qbn_ctr_skel
  simp only [k1_part1_eq_skeleton]
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec (disch := first | sl_exact hc0 | sl_exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_whole_store _ _ off3]; unfold ctr_first.sl.r_1 ctr_first.sl.r_2 ctr_first.sl.r_3; rw [loadX, loadP, cell4 _ _ 1 (by decide) _ first1, cell4 _ _ 2 (by decide) _ first1, cell4 _ _ 3 (by decide) _ first1]
  iexists _; isplitr
  swap; · iexact H5
  ipureintro
  rw [read_whole_store _ _ off2]; unfold ctr_first.sl.r ctr_first.sl.r_1 ctr_first.sl.r_2 ctr_first.sl.r_3; rw [loadX, loadP, cell4 _ _ 0 (by decide) _ first1, cell4 _ _ 1 (by decide) _ first1, cell4 _ _ 2 (by decide) _ first1, cell4 _ _ 3 (by decide) _ first1]

set_option maxHeartbeats 1000000 in
/-- At a later point it stores the block's codes and adds its sum of squares to what the buffer holds. -/
theorem ctr_next (c : Dev nD) (E : Set ℕ) (i : grid1.Coords)
    (arg1 : Memref sig .tc .smem S4 .f32) (harg1 : arg1.IsWhole)
    (arg2 : Memref sig .tc .vmem S4x256x3136 .f32) (harg2 : arg2.IsWhole)
    (arg3 : Memref sig .tc .vmem S1x256x3136 .f32) (harg3 : arg3.IsWhole)
    (arg4 : Memref sig .tc .vmem S4x256x3136 .i8) (harg4 : arg4.IsWhole)
    (arg5 : Memref sig .tc .vmem S1x256 .f32) (harg5 : arg5.IsWhole)
    (hc0 : ¬k1_cond1 i = 1#1) (hc1 : k1_cond2 i = 1#1) (p : Vec F S4 .f32) (x : Vec F S4x256x3136 .f32) (mean : Vec F S1x256x3136 .f32) (sq : Vec F S1x256 .f32) (K : PUnit → sProp (MT nD τ sig Unit (Elt F) ℕ (UR sig nD τ) ℕ)) :
    iprop(owns (c : Thread nD τ) arg1 fullShare p ∗ owns (c : Thread nD τ) arg2 fullShare x ∗ owns (c : Thread nD τ) arg3 fullShare mean ∗ (∃ d, owns (c : Thread nD τ) arg4 fullShare d) ∗ owns (c : Thread nD τ) arg5 fullShare sq ∗
        (iprop(owns (c : Thread nD τ) arg1 fullShare p ∗ owns (c : Thread nD τ) arg2 fullShare x ∗ owns (c : Thread nD τ) arg3 fullShare mean ∗
            owns (c : Thread nD τ) arg4 fullShare (k1_pay4 (p (at4 1)) (p (at4 2)) (p (at4 3)) x mean) ∗
            owns (c : Thread nD τ) arg5 fullShare (k1_pay1 (k1_pay5 (p (at4 0)) (p (at4 1)) (p (at4 2)) (p (at4 3)) x mean) sq)) -∗ K ⟨⟩))
      ⊢ wp frame (wpE (defs₀ (F := F)) Variants.none c none) E (cc1_qbn_ctr i arg1 harg1 arg2 harg2 arg3 harg3 arg4 harg4 arg5 harg5) K := by
  simp only [cc1_qbn_ctr_eq_skeleton]; unfold cc1_qbn_ctr_skel
  simp only [k1_part1_eq_skeleton]
  unfold owns
  iintro ⟨⟨%f1, %hf1, H1⟩, ⟨%f2, %hf2, H2⟩, ⟨%f3, %hf3, H3⟩, ⟨%d4, %f4, -, H4⟩, ⟨%f5, %hf5, H5⟩, Hk⟩
  subst hf1; subst hf2; subst hf3; subst hf5
  sl_exec (disch := first | sl_exact hc0 | sl_exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_whole_store _ _ off3]; unfold ctr_next.sl.r_1 ctr_next.sl.r_2 ctr_next.sl.r_3; rw [loadX, loadP, cell4 _ _ 1 (by decide) _ first1, cell4 _ _ 2 (by decide) _ first1, cell4 _ _ 3 (by decide) _ first1]
  iexists _; isplitr
  swap; · iexact H5
  ipureintro
  rw [read_whole_store _ _ off2]; unfold ctr_next.sl.r_4; unfold ctr_next.sl.r ctr_next.sl.r_1 ctr_next.sl.r_2 ctr_next.sl.r_3; rw [loadX, loadP, loadC, cell4 _ _ 0 (by decide) _ first1, cell4 _ _ 1 (by decide) _ first1, cell4 _ _ 2 (by decide) _ first1, cell4 _ _ 3 (by decide) _ first1]

set_option maxHeartbeats 1000000 in
/-- The last kernel stores the block of results. -/
theorem final_at (c : Dev nD) (E : Set ℕ) (i : grid2.Coords)
    (arg1 : Memref sig .tc .smem S12 .f32) (harg1 : arg1.IsWhole)
    (arg2 : Memref sig .tc .vmem S4x256x3136 .i8) (harg2 : arg2.IsWhole)
    (arg3 : Memref sig .tc .vmem S1x256x3136 .f32) (harg3 : arg3.IsWhole)
    (arg4 : Memref sig .tc .vmem S1x256x3136 .f32) (harg4 : arg4.IsWhole)
    (arg5 : Memref sig .tc .vmem S1x256x3136 .f32) (harg5 : arg5.IsWhole)
    (arg6 : Memref sig .tc .vmem S4x256x3136 .f32) (harg6 : arg6.IsWhole)
     (p : Vec F S12 .f32) (u : Vec F S4x256x3136 .i8) (den qw qb : Vec F S1x256x3136 .f32) (K : PUnit → sProp (MT nD τ sig Unit (Elt F) ℕ (UR sig nD τ) ℕ)) :
    iprop(owns (c : Thread nD τ) arg1 fullShare p ∗ owns (c : Thread nD τ) arg2 fullShare u ∗ owns (c : Thread nD τ) arg3 fullShare den ∗ owns (c : Thread nD τ) arg4 fullShare qw ∗ owns (c : Thread nD τ) arg5 fullShare qb ∗ (∃ d, owns (c : Thread nD τ) arg6 fullShare d) ∗
        (iprop(owns (c : Thread nD τ) arg1 fullShare p ∗ owns (c : Thread nD τ) arg2 fullShare u ∗ owns (c : Thread nD τ) arg3 fullShare den ∗ owns (c : Thread nD τ) arg4 fullShare qw ∗ owns (c : Thread nD τ) arg5 fullShare qb ∗
            owns (c : Thread nD τ) arg6 fullShare (k2_pay1 (p (at12 8)) (p (at12 9)) (p (at12 10)) (p (at12 11))
              (k2_pay2 (p (at12 1)) (p (at12 3)) (p (at12 4)) (p (at12 5)) (p (at12 6)) (p (at12 7)) u den) qw qb)) -∗ K ⟨⟩))
      ⊢ wp frame (wpE (defs₀ (F := F)) Variants.none c none) E (cc2_qbn_final i arg1 harg1 arg2 harg2 arg3 harg3 arg4 harg4 arg5 harg5 arg6 harg6) K := by
  simp only [cc2_qbn_final_eq_skeleton]; unfold cc2_qbn_final_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [read_whole_store _ _ off3]; unfold final_at.sl.r_10; unfold final_at.sl.r final_at.sl.r_1 final_at.sl.r_2 final_at.sl.r_3 final_at.sl.r_4 final_at.sl.r_5 final_at.sl.r_6 final_at.sl.r_7 final_at.sl.r_8 final_at.sl.r_9; rw [loadX arg2.view, loadP arg3.view, loadP arg4.view, loadP arg5.view, cell12 _ _ 8 (by decide) _ first1, cell12 _ _ 9 (by decide) _ first1, cell12 _ _ 10 (by decide) _ first1, cell12 _ _ 11 (by decide) _ first1, cell12 _ _ 1 (by decide) _ first1, cell12 _ _ 3 (by decide) _ first1, cell12 _ _ 4 (by decide) _ first1, cell12 _ _ 5 (by decide) _ first1, cell12 _ _ 6 (by decide) _ first1, cell12 _ _ 7 (by decide) _ first1]

end Cert.KernelIdeal.Run

end
-- ==== Proof.Data.lean ====
module

public import proofs.«01_k».proof.Proof.Bodies
public import Idealize.ShloMosaic.Lib.Pipeline.TableIdle
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- What a buffer holds after each grid point, when the first point stores into it and every later point
    combines what it stores with what is there. -/
def carried {α : Type} (first : α) (next : ℕ → α → α) : ℕ → α
  | 0 => first
  | n + 1 => next (n + 1) (carried first next n)

/-- A carried value at a later step. -/
theorem carried_pos {α : Type} (first : α) (next : ℕ → α → α) (n : ℕ) (h : n ≠ 0) :
    carried first next n = next n (carried first next (n - 1)) := by
  obtain ⟨k, rfl⟩ := Nat.exists_eq_succ_of_ne_zero h
  rfl

/-- An output window that is live at every point and written back only after the last holds, from the second point
    on, what the body left at the point before. -/
theorem before_kept {cfg : Cfg sig Λ₀} {c : Dev nD} (dat : Dat τ (Elt F) Unit ℕ (UR sig nD τ) ℕ cfg c) (w : Fin cfg.W)
    (hw : (cfg.win w).isOut = true) (hclip : ∀ (i : cfg.grid.Coords) a, (cfg.win w).clip i a = none)
    (hlive : ∀ t : Fin cfg.N, cfg.idle w (cfg.grid.coords t) = false)
    (hfl : ∀ t : Fin cfg.N, (cfg.win w).flush t = decide (t.val + 1 = cfg.N))
    (t : Fin cfg.N) (ht : t.val ≠ 0) (d) :
    dat.before w t d = dat.after w ⟨t.val - 1, Nat.lt_of_le_of_lt (Nat.sub_le _ _) t.isLt⟩ := by
  have hfresh : cfg.fresh w t.val = false := by
    rw [Cfg.fresh_tab cfg w (fun n => decide (n = 0 ∨ n = cfg.N)) (by simp) (fun u => by rw [hfl u, hlive u]; simp) t.val t.isLt.le]
    have := t.isLt
    simp only [decide_eq_false_iff_not]; omega
  rw [dat.before_out_traj w hw hclip (fun u _ hi _ => absurd ((hlive u).symm.trans hi) Bool.false_ne_true) t.val t rfl d,
    hfresh, if_neg Bool.false_ne_true]

/-- At a live point the body leaves the window's staging buffer at `after`. -/
theorem leaves_live {cfg : Cfg sig Λ₀} {c : Dev nD} (dat : Dat τ (Elt F) Unit ℕ (UR sig nD τ) ℕ cfg c) (w : Fin cfg.W) (t : Fin cfg.N)
    (h : cfg.idle w (cfg.grid.coords t) = false) :
    dat.leavesExact w t = owns (c : Thread nD τ) ((cfg.win w).stage (cfg.slots t w)) fullShare (dat.after w t) := by
  unfold Dat.leavesExact; rw [h]

section Regions

-- what each TensorCore's buffers hold when the region is entered
variable (V : (c : Dev nD) → (b : Ref sig .tc) → Buf (Elt F) ((c : Thread nD τ).loc b))

/-! ## Region 0: `cc0_qbn_stats` -/

/-- Grid point `n` of region 0. -/
def pt0 (n : ℕ) : Fin cfg0.N := ⟨n % 16, Nat.lt_of_lt_of_eq (Nat.mod_lt _ (by decide)) N_0.symm⟩

/-- The point of a step is the step. -/
theorem pt0_val (t : Fin cfg0.N) : pt0 t.val = t :=
  Fin.ext (Nat.mod_eq_of_lt (Nat.lt_of_lt_of_eq t.isLt N_0))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sum over the blocks up to point `n`. -/
def sumAt (c : Dev nD) (n : ℕ) : Vec F S1x256 .f32 :=
  carried (k0_pay2 (iblk0 V c 0 (pt0 0))) (fun n a => k0_pay5 (iblk0 V c 0 (pt0 n)) a) n
/-- The maximum over the blocks up to point `n`. -/
def maxAt (c : Dev nD) (n : ℕ) : Vec F S1x256 .f32 :=
  carried (k0_pay3 (iblk0 V c 0 (pt0 0))) (fun n a => k0_pay6 (iblk0 V c 0 (pt0 n)) a) n
/-- The minimum over the blocks up to point `n`. -/
def minAt (c : Dev nD) (n : ℕ) : Vec F S1x256 .f32 :=
  carried (k0_pay4 (iblk0 V c 0 (pt0 0))) (fun n a => k0_pay7 (iblk0 V c 0 (pt0 n)) a) n

/-- Region 0's arrays as found, and what each staging buffer holds after the body at each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => sumAt V c t.val
    | ⟨2, _⟩ => maxAt V c t.val
    | ⟨3, _⟩ => minAt V c t.val
  Φ _ := Pipeline.ΦA spec0 c
  q _ := fullShare
  owed _ := 0

/-- The arrays at the start are what the region finds. -/
theorem A_eq0 (c : Dev nD) (w : Fin cfg0.W) : (dat0 V c).A w = V c (Pipeline.arrRef spec0 w) := by
  dsimp only [dat0]

/-- What a step leaves in this window. -/
theorem after0_0 (c : Dev nD) (t : Fin cfg0.N) : (dat0 V c).after 0 t = iblk0 V c 0 t := by dsimp only [dat0]
/-- What a step leaves in this window. -/
theorem after0_1 (c : Dev nD) (t : Fin cfg0.N) : (dat0 V c).after 1 t = sumAt V c t.val := by dsimp only [dat0]
/-- What a step leaves in this window. -/
theorem after0_2 (c : Dev nD) (t : Fin cfg0.N) : (dat0 V c).after 2 t = maxAt V c t.val := by dsimp only [dat0]
/-- What a step leaves in this window. -/
theorem after0_3 (c : Dev nD) (t : Fin cfg0.N) : (dat0 V c).after 3 t = minAt V c t.val := by dsimp only [dat0]

/-- Input 0's staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]) t d).trans
    (by unfold Dat.fetched Dat.blockOf iblk0; rw [A_eq0]; try rfl)

/-- The first condition holds at the first step only. -/
theorem first0_iff : ∀ t : Fin grid0.N, k0_cond1 (grid0.coords t) = 1#1 ↔ t.val = 0 := by decide +kernel
/-- The second condition holds at the later steps. -/
theorem later0_iff : ∀ t : Fin grid0.N, k0_cond2 (grid0.coords t) = 1#1 ↔ t.val ≠ 0 := by decide +kernel
/-- This window is in use at every step. -/
theorem live0_0 (t : Fin cfg0.N) : cfg0.idle 0 (cfg0.grid.coords t) = false := rfl
/-- This window is in use at every step. -/
theorem live0_1 : ∀ t : Fin cfg0.N, cfg0.idle 1 (cfg0.grid.coords t) = false := by decide +kernel
/-- This window is in use at every step. -/
theorem live0_2 : ∀ t : Fin cfg0.N, cfg0.idle 2 (cfg0.grid.coords t) = false := by decide +kernel
/-- This window is in use at every step. -/
theorem live0_3 : ∀ t : Fin cfg0.N, cfg0.idle 3 (cfg0.grid.coords t) = false := by decide +kernel
/-- This output is written back after the last step only. -/
theorem last0_1 : ∀ t : Fin cfg0.N, (cfg0.win 1).flush t = decide (t.val + 1 = cfg0.N) := by decide +kernel
/-- At a later step this output still holds what the step before left. -/
theorem kept0_1 (c : Dev nD) (t : Fin cfg0.N) (ht : t.val ≠ 0) (d) : (dat0 V c).before 1 t d = sumAt V c (t.val - 1) := by
  rw [before_kept (dat0 V c) 1 rfl (fun _ _ => rfl) live0_1 last0_1 t ht d]
  dsimp only [dat0]
/-- This output is written back after the last step only. -/
theorem last0_2 : ∀ t : Fin cfg0.N, (cfg0.win 2).flush t = decide (t.val + 1 = cfg0.N) := by decide +kernel
/-- At a later step this output still holds what the step before left. -/
theorem kept0_2 (c : Dev nD) (t : Fin cfg0.N) (ht : t.val ≠ 0) (d) : (dat0 V c).before 2 t d = maxAt V c (t.val - 1) := by
  rw [before_kept (dat0 V c) 2 rfl (fun _ _ => rfl) live0_2 last0_2 t ht d]
  dsimp only [dat0]
/-- This output is written back after the last step only. -/
theorem last0_3 : ∀ t : Fin cfg0.N, (cfg0.win 3).flush t = decide (t.val + 1 = cfg0.N) := by decide +kernel
/-- At a later step this output still holds what the step before left. -/
theorem kept0_3 (c : Dev nD) (t : Fin cfg0.N) (ht : t.val ≠ 0) (d) : (dat0 V c).before 3 t d = minAt V c (t.val - 1) := by
  rw [before_kept (dat0 V c) 3 rfl (fun _ _ => rfl) live0_3 last0_3 t ht d]
  dsimp only [dat0]

/-- What the body is called with at point `t`, window by window. -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp (MT nD τ sig Unit (Elt F) ℕ (UR sig nD τ) ℕ) :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The sums after a later step. -/
theorem sumAt_next (c : Dev nD) (t : Fin cfg0.N) (h : t.val ≠ 0) :
    sumAt V c t.val = k0_pay5 (iblk0 V c 0 t) (sumAt V c (t.val - 1)) := by
  unfold sumAt; rw [carried_pos _ _ _ h, pt0_val]
/-- The greatest values after a later step. -/
theorem maxAt_next (c : Dev nD) (t : Fin cfg0.N) (h : t.val ≠ 0) :
    maxAt V c t.val = k0_pay6 (iblk0 V c 0 t) (maxAt V c (t.val - 1)) := by
  unfold maxAt; rw [carried_pos _ _ _ h, pt0_val]
/-- The least values after a later step. -/
theorem minAt_next (c : Dev nD) (t : Fin cfg0.N) (h : t.val ≠ 0) :
    minAt V c t.val = k0_pay7 (iblk0 V c 0 t) (minAt V c (t.val - 1)) := by
  unfold minAt; rw [carried_pos _ _ _ h, pt0_val]

set_option maxHeartbeats 1000000 in
/-- The body at any point: the first point stores the block's statistics, a later one combines them with what the buffers hold. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  rw [leaves_live _ 0 t (live0_0 t), leaves_live _ 1 t (live0_1 t), leaves_live _ 2 t (live0_2 t), leaves_live _ 3 t (live0_3 t)]
  simp only [after0_0, after0_1, after0_2, after0_3]
  by_cases h0 : t.val = 0
  · have hc0 := (first0_iff t).mpr h0
    have hc1 : ¬k0_cond2 (grid0.coords t) = 1#1 := fun h => (later0_iff t).mp h h0
    have ht : t = pt0 0 := Fin.ext h0
    subst ht
    have h00 : (pt0 0).val = 0 := rfl
    rw [show sumAt V c (pt0 0).val = k0_pay2 (iblk0 V c 0 (pt0 0)) from rfl, show maxAt V c (pt0 0).val = k0_pay3 (iblk0 V c 0 (pt0 0)) from rfl, show minAt V c (pt0 0).val = k0_pay4 (iblk0 V c 0 (pt0 0)) from rfl]
    iintro ⟨HΦ, Ho, ⟨%d0, H0⟩, ⟨%d1, H1⟩, ⟨%d2, H2⟩, ⟨%d3, H3⟩⟩
    iapply (stats_first c Set.univ (grid0.coords (pt0 0)) _ _ _ _ _ _ _ _ hc0 hc1 (iblk0 V c 0 (pt0 0)) _)
    isplitl [H0]; · iexact H0
    isplitl [H1]; · iexists _; iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hc0 : ¬k0_cond1 (grid0.coords t) = 1#1 := fun h => h0 ((first0_iff t).mp h)
    have hc1 := (later0_iff t).mpr h0
    simp only [kept0_1 V c t h0, kept0_2 V c t h0, kept0_3 V c t h0]
    rw [sumAt_next V c t h0, maxAt_next V c t h0, minAt_next V c t h0]
    iintro ⟨HΦ, Ho, ⟨%d0, H0⟩, ⟨%d1, H1⟩, ⟨%d2, H2⟩, ⟨%d3, H3⟩⟩
    iapply (stats_next c Set.univ (grid0.coords t) _ _ _ _ _ _ _ _ hc0 hc1 (iblk0 V c 0 t) _ _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body that step `t` of region 0 runs. -/
theorem defs₀_row0 (t : Fin cfg0.N) :
    defs₀ (F := F) .tc cfg0.body (cfg0.bodyArgs t (cfg0.slots t)) = bodyAt0 t := by
  unfold defs₀; rw [Defs.onTc_tc]

/-- Region 0's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## Region 1: `cc1_qbn_ctr` -/

/-- Grid point `n` of region 1. -/
def pt1 (n : ℕ) : Fin cfg1.N := ⟨n % 16, Nat.lt_of_lt_of_eq (Nat.mod_lt _ (by decide)) N_1.symm⟩

/-- The point of a step is the step. -/
theorem pt1_val (t : Fin cfg1.N) : pt1 t.val = t :=
  Fin.ext (Nat.mod_eq_of_lt (Nat.lt_of_lt_of_eq t.isLt N_1))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four parameters region 1 reads at point `t`. -/
def params1 (c : Dev nD) (t : Fin cfg1.N) : Vec F S4 .f32 := iblk1 V c 0 t
/-- The codes of the block at point `t`. -/
def codesAt (c : Dev nD) (t : Fin cfg1.N) : Vec F S4x256x3136 .i8 :=
  k1_pay4 (params1 V c t (at4 1)) (params1 V c t (at4 2)) (params1 V c t (at4 3)) (iblk1 V c 1 t) (iblk1 V c 2 t)
/-- The sum of squares of the block at point `t`. -/
def sqOf (c : Dev nD) (t : Fin cfg1.N) : Vec F S1x256 .f32 :=
  k1_pay5 (params1 V c t (at4 0)) (params1 V c t (at4 1)) (params1 V c t (at4 2)) (params1 V c t (at4 3)) (iblk1 V c 1 t) (iblk1 V c 2 t)
/-- The sum of squares over the blocks up to point `n`. -/
def sqAt (c : Dev nD) (n : ℕ) : Vec F S1x256 .f32 :=
  carried (sqOf V c (pt1 0)) (fun n a => k1_pay1 (sqOf V c (pt1 n)) a) n

/-- Region 1's arrays as found, and what each staging buffer holds after the body at each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => codesAt V c t
    | ⟨4, _⟩ => sqAt V c t.val
  Φ _ := Pipeline.ΦA spec1 c
  q _ := fullShare
  owed _ := 0

/-- The arrays at the start are what the region finds. -/
theorem A_eq1 (c : Dev nD) (w : Fin cfg1.W) : (dat1 V c).A w = V c (Pipeline.arrRef spec1 w) := by
  dsimp only [dat1]

/-- What a step leaves in this window. -/
theorem after1_0 (c : Dev nD) (t : Fin cfg1.N) : (dat1 V c).after 0 t = iblk1 V c 0 t := by dsimp only [dat1]
/-- What a step leaves in this window. -/
theorem after1_1 (c : Dev nD) (t : Fin cfg1.N) : (dat1 V c).after 1 t = iblk1 V c 1 t := by dsimp only [dat1]
/-- What a step leaves in this window. -/
theorem after1_2 (c : Dev nD) (t : Fin cfg1.N) : (dat1 V c).after 2 t = iblk1 V c 2 t := by dsimp only [dat1]
/-- What a step leaves in this window. -/
theorem after1_3 (c : Dev nD) (t : Fin cfg1.N) : (dat1 V c).after 3 t = codesAt V c t := by dsimp only [dat1]
/-- What a step leaves in this window. -/
theorem after1_4 (c : Dev nD) (t : Fin cfg1.N) : (dat1 V c).after 4 t = sqAt V c t.val := by dsimp only [dat1]

/-- Input 0's staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]) t d).trans
    (by unfold Dat.fetched Dat.blockOf iblk1; rw [A_eq1]; try rfl)
/-- Input 1's staging buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]) t d).trans
    (by unfold Dat.fetched Dat.blockOf iblk1; rw [A_eq1]; try rfl)
/-- Input 2's staging buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]) t d).trans
    (by unfold Dat.fetched Dat.blockOf iblk1; rw [A_eq1]; try rfl)

/-- The first condition holds at the first step only. -/
theorem first1_iff : ∀ t : Fin grid1.N, k1_cond1 (grid1.coords t) = 1#1 ↔ t.val = 0 := by decide +kernel
/-- The second condition holds at the later steps. -/
theorem later1_iff : ∀ t : Fin grid1.N, k1_cond2 (grid1.coords t) = 1#1 ↔ t.val ≠ 0 := by decide +kernel
/-- This window is in use at every step. -/
theorem live1_0 (t : Fin cfg1.N) : cfg1.idle 0 (cfg1.grid.coords t) = false := rfl
/-- This window is in use at every step. -/
theorem live1_1 (t : Fin cfg1.N) : cfg1.idle 1 (cfg1.grid.coords t) = false := rfl
/-- This window is in use at every step. -/
theorem live1_2 (t : Fin cfg1.N) : cfg1.idle 2 (cfg1.grid.coords t) = false := rfl
/-- This window is in use at every step. -/
theorem live1_3 (t : Fin cfg1.N) : cfg1.idle 3 (cfg1.grid.coords t) = false := rfl
/-- This window is in use at every step. -/
theorem live1_4 : ∀ t : Fin cfg1.N, cfg1.idle 4 (cfg1.grid.coords t) = false := by decide +kernel
/-- This output is written back after the last step only. -/
theorem last1_4 : ∀ t : Fin cfg1.N, (cfg1.win 4).flush t = decide (t.val + 1 = cfg1.N) := by decide +kernel
/-- At a later step this output still holds what the step before left. -/
theorem kept1_4 (c : Dev nD) (t : Fin cfg1.N) (ht : t.val ≠ 0) (d) : (dat1 V c).before 4 t d = sqAt V c (t.val - 1) := by
  rw [before_kept (dat1 V c) 4 rfl (fun _ _ => rfl) live1_4 last1_4 t ht d]
  dsimp only [dat1]

/-- What the body is called with at point `t`, window by window. -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns. -/
def bodyPost1 (c : Dev nD) (t : Fin cfg1.N) : sProp (MT nD τ sig Unit (Elt F) ℕ (UR sig nD τ) ℕ) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The sums of squares after a later step. -/
theorem sqAt_next (c : Dev nD) (t : Fin cfg1.N) (h : t.val ≠ 0) :
    sqAt V c t.val = k1_pay1 (sqOf V c t) (sqAt V c (t.val - 1)) := by
  unfold sqAt; rw [carried_pos _ _ _ h, pt1_val]

set_option maxHeartbeats 1000000 in
/-- The body at any point: it stores the block's codes; the first point stores the block's sum of squares, a later one adds it to what the buffer holds. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [leaves_live _ 0 t (live1_0 t), leaves_live _ 1 t (live1_1 t), leaves_live _ 2 t (live1_2 t), leaves_live _ 3 t (live1_3 t), leaves_live _ 4 t (live1_4 t)]
  simp only [after1_0, after1_1, after1_2, after1_3, after1_4]
  by_cases h0 : t.val = 0
  · have hc0 := (first1_iff t).mpr h0
    have hc1 : ¬k1_cond2 (grid1.coords t) = 1#1 := fun h => (later1_iff t).mp h h0
    have ht : t = pt1 0 := Fin.ext h0
    subst ht
    have h00 : (pt1 0).val = 0 := rfl
    rw [show sqAt V c (pt1 0).val = sqOf V c (pt1 0) from rfl]
    iintro ⟨HΦ, Ho, ⟨%d0, H0⟩, ⟨%d1, H1⟩, ⟨%d2, H2⟩, ⟨%d3, H3⟩, ⟨%d4, H4⟩⟩
    iapply (ctr_first c Set.univ (grid1.coords (pt1 0)) _ _ _ _ _ _ _ _ _ _ hc0 hc1 (params1 V c (pt1 0)) (iblk1 V c 1 (pt1 0)) (iblk1 V c 2 (pt1 0)) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have hc0 : ¬k1_cond1 (grid1.coords t) = 1#1 := fun h => h0 ((first1_iff t).mp h)
    have hc1 := (later1_iff t).mpr h0
    simp only [kept1_4 V c t h0]
    rw [sqAt_next V c t h0]
    iintro ⟨HΦ, Ho, ⟨%d0, H0⟩, ⟨%d1, H1⟩, ⟨%d2, H2⟩, ⟨%d3, H3⟩, ⟨%d4, H4⟩⟩
    iapply (ctr_next c Set.univ (grid1.coords t) _ _ _ _ _ _ _ _ _ _ hc0 hc1 (params1 V c t) (iblk1 V c 1 t) (iblk1 V c 2 t) _ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body that step `t` of region 1 runs. -/
theorem defs₀_row1 (t : Fin cfg1.N) :
    defs₀ (F := F) .tc cfg1.body (cfg1.bodyArgs t (cfg1.slots t)) = bodyAt1 t := by
  unfold defs₀; rw [Defs.onTc_tc]

/-- Region 1's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! ## Region 2: `cc2_qbn_final` -/

/-- Grid point `n` of region 2. -/
def pt2 (n : ℕ) : Fin cfg2.N := ⟨n % 16, Nat.lt_of_lt_of_eq (Nat.mod_lt _ (by decide)) N_2.symm⟩

/-- The point of a step is the step. -/
theorem pt2_val (t : Fin cfg2.N) : pt2 t.val = t :=
  Fin.ext (Nat.mod_eq_of_lt (Nat.lt_of_lt_of_eq t.isLt N_2))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The twelve parameters region 2 reads at point `t`. -/
def params2 (c : Dev nD) (t : Fin cfg2.N) : Vec F S12 .f32 := iblk2 V c 0 t
/-- The results of the block at point `t`. -/
def resultAt (c : Dev nD) (t : Fin cfg2.N) : Vec F S4x256x3136 .f32 :=
  k2_pay1 (params2 V c t (at12 8)) (params2 V c t (at12 9)) (params2 V c t (at12 10)) (params2 V c t (at12 11))
    (k2_pay2 (params2 V c t (at12 1)) (params2 V c t (at12 3)) (params2 V c t (at12 4)) (params2 V c t (at12 5)) (params2 V c t (at12 6)) (params2 V c t (at12 7)) (iblk2 V c 1 t) (iblk2 V c 2 t)) (iblk2 V c 3 t) (iblk2 V c 4 t)

/-- Region 2's arrays as found, and what each staging buffer holds after the body at each point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => resultAt V c t
  Φ _ := Pipeline.ΦA spec2 c
  q _ := fullShare
  owed _ := 0

/-- The arrays at the start are what the region finds. -/
theorem A_eq2 (c : Dev nD) (w : Fin cfg2.W) : (dat2 V c).A w = V c (Pipeline.arrRef spec2 w) := by
  dsimp only [dat2]

/-- What a step leaves in this window. -/
theorem after2_0 (c : Dev nD) (t : Fin cfg2.N) : (dat2 V c).after 0 t = iblk2 V c 0 t := by dsimp only [dat2]
/-- What a step leaves in this window. -/
theorem after2_1 (c : Dev nD) (t : Fin cfg2.N) : (dat2 V c).after 1 t = iblk2 V c 1 t := by dsimp only [dat2]
/-- What a step leaves in this window. -/
theorem after2_2 (c : Dev nD) (t : Fin cfg2.N) : (dat2 V c).after 2 t = iblk2 V c 2 t := by dsimp only [dat2]
/-- What a step leaves in this window. -/
theorem after2_3 (c : Dev nD) (t : Fin cfg2.N) : (dat2 V c).after 3 t = iblk2 V c 3 t := by dsimp only [dat2]
/-- What a step leaves in this window. -/
theorem after2_4 (c : Dev nD) (t : Fin cfg2.N) : (dat2 V c).after 4 t = iblk2 V c 4 t := by dsimp only [dat2]
/-- What a step leaves in this window. -/
theorem after2_5 (c : Dev nD) (t : Fin cfg2.N) : (dat2 V c).after 5 t = resultAt V c t := by dsimp only [dat2]

/-- Input 0's staging buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]) t d).trans
    (by unfold Dat.fetched Dat.blockOf iblk2; rw [A_eq2]; try rfl)
/-- Input 1's staging buffer holds its block at every point. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]) t d).trans
    (by unfold Dat.fetched Dat.blockOf iblk2; rw [A_eq2]; try rfl)
/-- Input 2's staging buffer holds its block at every point. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]) t d).trans
    (by unfold Dat.fetched Dat.blockOf iblk2; rw [A_eq2]; try rfl)
/-- Input 3's staging buffer holds its block at every point. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]) t d).trans
    (by unfold Dat.fetched Dat.blockOf iblk2; rw [A_eq2]; try rfl)
/-- Input 4's staging buffer holds its block at every point. -/
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]) t d).trans
    (by unfold Dat.fetched Dat.blockOf iblk2; rw [A_eq2]; try rfl)

/-- This window is in use at every step. -/
theorem live2_0 (t : Fin cfg2.N) : cfg2.idle 0 (cfg2.grid.coords t) = false := rfl
/-- This window is in use at every step. -/
theorem live2_1 (t : Fin cfg2.N) : cfg2.idle 1 (cfg2.grid.coords t) = false := rfl
/-- This window is in use at every step. -/
theorem live2_2 (t : Fin cfg2.N) : cfg2.idle 2 (cfg2.grid.coords t) = false := rfl
/-- This window is in use at every step. -/
theorem live2_3 (t : Fin cfg2.N) : cfg2.idle 3 (cfg2.grid.coords t) = false := rfl
/-- This window is in use at every step. -/
theorem live2_4 (t : Fin cfg2.N) : cfg2.idle 4 (cfg2.grid.coords t) = false := rfl
/-- This window is in use at every step. -/
theorem live2_5 (t : Fin cfg2.N) : cfg2.idle 5 (cfg2.grid.coords t) = false := rfl

/-- What the body is called with at point `t`, window by window. -/
def bodyPre2 (c : Dev nD) (t : Fin cfg2.N) : sProp (MT nD τ sig Unit (Elt F) ℕ (UR sig nD τ) ℕ) :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it returns. -/
def bodyPost2 (c : Dev nD) (t : Fin cfg2.N) : sProp (MT nD τ sig Unit (Elt F) ℕ (UR sig nD τ) ℕ) :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 1000000 in
/-- The body at any point: it stores the block's results. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl]
  rw [leaves_live _ 0 t (live2_0 t), leaves_live _ 1 t (live2_1 t), leaves_live _ 2 t (live2_2 t), leaves_live _ 3 t (live2_3 t), leaves_live _ 4 t (live2_4 t), leaves_live _ 5 t (live2_5 t)]
  simp only [after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (final_at c Set.univ (grid2.coords t) _ _ _ _ _ _ _ _ _ _ _ _ (params2 V c t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body that step `t` of region 2 runs. -/
theorem defs₀_row2 (t : Fin cfg2.N) :
    defs₀ (F := F) .tc cfg2.body (cfg2.bodyArgs t (cfg2.slots t)) = bodyAt2 t := by
  unfold defs₀; rw [Defs.onTc_tc]

/-- Region 2's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.Keeps.lean ====
module

public import proofs.«01_k».proof.Proof.Gen.KernelIdeal.Regions

@[expose] public section

set_option maxRecDepth 16384

noncomputable section

namespace Cert.KernelIdeal.Run

open Cert.KernelIdeal.Gen
open Idealize.ShloMosaic Idealize.ShloMosaic.TcCoe Idealize.ShloMosaic.StableHlo

variable {F : FTy → Type} [FloatOps F]

/-! ## The stretches of host code, and what they leave alone -/

/-- Some host code run piece by piece, each piece given with what it writes, changes nothing that no piece writes. -/
theorem keeps (r : Ref sig .tc) : ∀ (L : List (List (HloOp τ sig (Elt F)) × List (Ref sig .tc))),
    (∀ p ∈ L, p.1.Forall fun op => op.writes ⊆ (p.2.map (Proc.devRef (τ := τ) .tc)).toFinset) → (∀ p ∈ L, r ∉ p.2) →
    ∀ V : Valuation τ sig (Elt F), L.foldl (fun V p => after p.1 V) V (Proc.devRef .tc r) = V (Proc.devRef .tc r)
  | [], _, _, _ => rfl
  | p :: L, hL, h, V => (keeps r L (fun q hq => hL q (.tail _ hq)) (fun q hq => h q (.tail _ hq)) _).trans
      (after_of_writes_sub p.1 V (hL p (.head _)) (h p (.head _)))

/-- The host code that finds the mean. -/
abbrev hostA (V : Valuation τ sig (Elt F)) : Valuation τ sig (Elt F) :=
  after hostOps1_4 (after hostOps1_3 (after hostOps1_2 (after hostOps1_1 (after hostOps1 V))))
/-- What its pieces write. -/
abbrev writesA : List (List (Ref sig .tc)) := [hostOps1_W, hostOps1_1_W, hostOps1_2_W, hostOps1_3_W, hostOps1_4_W]
/-- It changes nothing else. -/
theorem hostA_keeps (V : Valuation τ sig (Elt F)) (r : Ref sig .tc) (h : ∀ l ∈ writesA, r ∉ l) : hostA V (Proc.devRef .tc r) = V (Proc.devRef .tc r) :=
  keeps r [(hostOps1, hostOps1_W), (hostOps1_1, hostOps1_1_W), (hostOps1_2, hostOps1_2_W), (hostOps1_3, hostOps1_3_W), (hostOps1_4, hostOps1_4_W)]
    (by simp only [List.forall_mem_cons, List.not_mem_nil, IsEmpty.forall_iff, implies_true, and_true]; exact ⟨hostOps1_writes, hostOps1_1_writes, hostOps1_2_writes, hostOps1_3_writes, hostOps1_4_writes⟩)
    (fun _ hp => h _ (List.mem_map_of_mem (f := Prod.snd) hp)) V

/-- The host code that finds the distances' step. -/
abbrev hostB (V : Valuation τ sig (Elt F)) : Valuation τ sig (Elt F) :=
  after hostOps1_7 (after hostOps1_6 (after hostOps1_5 V))
/-- What its pieces write. -/
abbrev writesB : List (List (Ref sig .tc)) := [hostOps1_5_W, hostOps1_6_W, hostOps1_7_W]
/-- It changes nothing else. -/
theorem hostB_keeps (V : Valuation τ sig (Elt F)) (r : Ref sig .tc) (h : ∀ l ∈ writesB, r ∉ l) : hostB V (Proc.devRef .tc r) = V (Proc.devRef .tc r) :=
  keeps r [(hostOps1_5, hostOps1_5_W), (hostOps1_6, hostOps1_6_W), (hostOps1_7, hostOps1_7_W)]
    (by simp only [List.forall_mem_cons, List.not_mem_nil, IsEmpty.forall_iff, implies_true, and_true]; exact ⟨hostOps1_5_writes, hostOps1_6_writes, hostOps1_7_writes⟩)
    (fun _ hp => h _ (List.mem_map_of_mem (f := Prod.snd) hp)) V

/-- The host code that finds the standard deviation. -/
abbrev hostC (V : Valuation τ sig (Elt F)) : Valuation τ sig (Elt F) :=
  after hostOps2_9 (after hostOps2_8 (after hostOps2_7 (after hostOps2_6 (after hostOps2_5 (after hostOps2_4 (after hostOps2_3 (after hostOps2_2 (after hostOps2_1 (after hostOps2 V)))))))))
/-- What its pieces write. -/
abbrev writesC : List (List (Ref sig .tc)) := [hostOps2_W, hostOps2_1_W, hostOps2_2_W, hostOps2_3_W, hostOps2_4_W, hostOps2_5_W, hostOps2_6_W, hostOps2_7_W, hostOps2_8_W, hostOps2_9_W]
/-- It changes nothing else. -/
theorem hostC_keeps (V : Valuation τ sig (Elt F)) (r : Ref sig .tc) (h : ∀ l ∈ writesC, r ∉ l) : hostC V (Proc.devRef .tc r) = V (Proc.devRef .tc r) :=
  keeps r [(hostOps2, hostOps2_W), (hostOps2_1, hostOps2_1_W), (hostOps2_2, hostOps2_2_W), (hostOps2_3, hostOps2_3_W), (hostOps2_4, hostOps2_4_W), (hostOps2_5, hostOps2_5_W), (hostOps2_6, hostOps2_6_W), (hostOps2_7, hostOps2_7_W), (hostOps2_8, hostOps2_8_W), (hostOps2_9, hostOps2_9_W)]
    (by simp only [List.forall_mem_cons, List.not_mem_nil, IsEmpty.forall_iff, implies_true, and_true]; exact ⟨hostOps2_writes, hostOps2_1_writes, hostOps2_2_writes, hostOps2_3_writes, hostOps2_4_writes, hostOps2_5_writes, hostOps2_6_writes, hostOps2_7_writes, hostOps2_8_writes, hostOps2_9_writes⟩)
    (fun _ hp => h _ (List.mem_map_of_mem (f := Prod.snd) hp)) V

/-- The host code that finds the normalised values' step. -/
abbrev hostD (V : Valuation τ sig (Elt F)) : Valuation τ sig (Elt F) :=
  after hostOps2_25 (after hostOps2_24 (after hostOps2_23 (after hostOps2_22 (after hostOps2_21 (after hostOps2_20 (after hostOps2_19 (after hostOps2_18 (after hostOps2_17 (after hostOps2_16 (after hostOps2_15 (after hostOps2_14 (after hostOps2_13 (after hostOps2_12 (after hostOps2_11 (after hostOps2_10 V)))))))))))))))
/-- What its pieces write. -/
abbrev writesD : List (List (Ref sig .tc)) := [hostOps2_10_W, hostOps2_11_W, hostOps2_12_W, hostOps2_13_W, hostOps2_14_W, hostOps2_15_W, hostOps2_16_W, hostOps2_17_W, hostOps2_18_W, hostOps2_19_W, hostOps2_20_W, hostOps2_21_W, hostOps2_22_W, hostOps2_23_W, hostOps2_24_W, hostOps2_25_W]
/-- It changes nothing else. -/
theorem hostD_keeps (V : Valuation τ sig (Elt F)) (r : Ref sig .tc) (h : ∀ l ∈ writesD, r ∉ l) : hostD V (Proc.devRef .tc r) = V (Proc.devRef .tc r) :=
  keeps r [(hostOps2_10, hostOps2_10_W), (hostOps2_11, hostOps2_11_W), (hostOps2_12, hostOps2_12_W), (hostOps2_13, hostOps2_13_W), (hostOps2_14, hostOps2_14_W), (hostOps2_15, hostOps2_15_W), (hostOps2_16, hostOps2_16_W), (hostOps2_17, hostOps2_17_W), (hostOps2_18, hostOps2_18_W), (hostOps2_19, hostOps2_19_W), (hostOps2_20, hostOps2_20_W), (hostOps2_21, hostOps2_21_W), (hostOps2_22, hostOps2_22_W), (hostOps2_23, hostOps2_23_W), (hostOps2_24, hostOps2_24_W), (hostOps2_25, hostOps2_25_W)]
    (by simp only [List.forall_mem_cons, List.not_mem_nil, IsEmpty.forall_iff, implies_true, and_true]; exact ⟨hostOps2_10_writes, hostOps2_11_writes, hostOps2_12_writes, hostOps2_13_writes, hostOps2_14_writes, hostOps2_15_writes, hostOps2_16_writes, hostOps2_17_writes, hostOps2_18_writes, hostOps2_19_writes, hostOps2_20_writes, hostOps2_21_writes, hostOps2_22_writes, hostOps2_23_writes, hostOps2_24_writes, hostOps2_25_writes⟩)
    (fun _ hp => h _ (List.mem_map_of_mem (f := Prod.snd) hp)) V

/-- The host code that quantises the weight and the bias. -/
abbrev hostE (V : Valuation τ sig (Elt F)) : Valuation τ sig (Elt F) :=
  after hostOps2_35 (after hostOps2_34 (after hostOps2_33 (after hostOps2_32 (after hostOps2_31 (after hostOps2_30 (after hostOps2_29 (after hostOps2_28 (after hostOps2_27 (after hostOps2_26 V)))))))))
/-- What its pieces write. -/
abbrev writesE : List (List (Ref sig .tc)) := [hostOps2_26_W, hostOps2_27_W, hostOps2_28_W, hostOps2_29_W, hostOps2_30_W, hostOps2_31_W, hostOps2_32_W, hostOps2_33_W, hostOps2_34_W, hostOps2_35_W]
/-- It changes nothing else. -/
theorem hostE_keeps (V : Valuation τ sig (Elt F)) (r : Ref sig .tc) (h : ∀ l ∈ writesE, r ∉ l) : hostE V (Proc.devRef .tc r) = V (Proc.devRef .tc r) :=
  keeps r [(hostOps2_26, hostOps2_26_W), (hostOps2_27, hostOps2_27_W), (hostOps2_28, hostOps2_28_W), (hostOps2_29, hostOps2_29_W), (hostOps2_30, hostOps2_30_W), (hostOps2_31, hostOps2_31_W), (hostOps2_32, hostOps2_32_W), (hostOps2_33, hostOps2_33_W), (hostOps2_34, hostOps2_34_W), (hostOps2_35, hostOps2_35_W)]
    (by simp only [List.forall_mem_cons, List.not_mem_nil, IsEmpty.forall_iff, implies_true, and_true]; exact ⟨hostOps2_26_writes, hostOps2_27_writes, hostOps2_28_writes, hostOps2_29_writes, hostOps2_30_writes, hostOps2_31_writes, hostOps2_32_writes, hostOps2_33_writes, hostOps2_34_writes, hostOps2_35_writes⟩)
    (fun _ hp => h _ (List.mem_map_of_mem (f := Prod.snd) hp)) V

/-- The host code that finds the result's step. -/
abbrev hostG (V : Valuation τ sig (Elt F)) : Valuation τ sig (Elt F) :=
  after hostOps2_42 (after hostOps2_41 (after hostOps2_40 (after hostOps2_39 (after hostOps2_38 (after hostOps2_37 (after hostOps2_36 V))))))
/-- What its pieces write. -/
abbrev writesG : List (List (Ref sig .tc)) := [hostOps2_36_W, hostOps2_37_W, hostOps2_38_W, hostOps2_39_W, hostOps2_40_W, hostOps2_41_W, hostOps2_42_W]
/-- It changes nothing else. -/
theorem hostG_keeps (V : Valuation τ sig (Elt F)) (r : Ref sig .tc) (h : ∀ l ∈ writesG, r ∉ l) : hostG V (Proc.devRef .tc r) = V (Proc.devRef .tc r) :=
  keeps r [(hostOps2_36, hostOps2_36_W), (hostOps2_37, hostOps2_37_W), (hostOps2_38, hostOps2_38_W), (hostOps2_39, hostOps2_39_W), (hostOps2_40, hostOps2_40_W), (hostOps2_41, hostOps2_41_W), (hostOps2_42, hostOps2_42_W)]
    (by simp only [List.forall_mem_cons, List.not_mem_nil, IsEmpty.forall_iff, implies_true, and_true]; exact ⟨hostOps2_36_writes, hostOps2_37_writes, hostOps2_38_writes, hostOps2_39_writes, hostOps2_40_writes, hostOps2_41_writes, hostOps2_42_writes⟩)
    (fun _ hp => h _ (List.mem_map_of_mem (f := Prod.snd) hp)) V

end Cert.KernelIdeal.Run

end
-- ==== Proof.Run.lean ====
module

public import proofs.«01_k».proof.Proof.Data
public import proofs.«01_k».proof.Proof.Keeps
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the buffers hold between the program's items -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The first host code changes only what it writes. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- What region 0 finds. -/
abbrev E0 : (c : Dev nD) → (b : Ref sig .tc) → Buf (Elt F) ((c : Thread nD τ).loc b) := fun c b => W1 m ρ c b
/-- After region 0: its arrays at what its write-backs leave, everything else as it was. -/
def W2 (c : Dev nD) : Valuation τ sig (Elt F) :=
  Pipeline.withArrays spec0 c (W1 m ρ c) fun w => (dat0 (E0 m ρ) c).arrAt w cfg0.N
/-- What region 0 leaves. -/
abbrev X0 : (c : Dev nD) → (b : Ref sig .tc) → Buf (Elt F) ((c : Thread nD τ).loc b) := fun c b => W2 m ρ c b
/-- Region 0's arrays hold what its write-backs leave. -/
theorem W2_arr (c : Dev nD) (w : Fin cfg0.W) :
    W2 m ρ c (Proc.devRef .tc (Pipeline.arrRef spec0 w)) = (dat0 (E0 m ρ) c).arrAt w cfg0.N := by
  unfold W2; exact Pipeline.withArrays_arr spec0 launch0.win.arr_inj c _ _ w
/-- Region 0 leaves all but its arrays alone. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0 changes only its output arrays. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (E0 m ρ) c).arrAt_in w (h w rfl) _).trans (A_eq0 (E0 m ρ) c w))
  · exact W2_of_ne m ρ c r fun w e => hw ⟨w, e⟩
/-- The same, of the buffers outside region 0's arrays. -/
theorem rest0 (c : Dev nD) : ∀ b, b ∉ Finset.univ.image (Pipeline.arrRef spec0) → X0 m ρ c b = E0 m ρ c b :=
  fun b hb => W2_of_ne m ρ c b fun w e => hb (Finset.mem_image.mpr ⟨w, Finset.mem_univ _, e⟩)
/-- After `hostOps1`. -/
abbrev W3 : Dev nD → Valuation τ sig (Elt F) := fun c => StableHlo.after hostOps1 (W2 m ρ c)
/-- After `hostOps1_1`. -/
abbrev W4 : Dev nD → Valuation τ sig (Elt F) := fun c => StableHlo.after hostOps1_1 (W3 m ρ c)
/-- After `hostOps1_2`. -/
abbrev W5 : Dev nD → Valuation τ sig (Elt F) := fun c => StableHlo.after hostOps1_2 (W4 m ρ c)
/-- After `hostOps1_3`. -/
abbrev W6 : Dev nD → Valuation τ sig (Elt F) := fun c => StableHlo.after hostOps1_3 (W5 m ρ c)
/-- After `hostOps1_4`. -/
abbrev W7 : Dev nD → Valuation τ sig (Elt F) := fun c => StableHlo.after hostOps1_4 (W6 m ρ c)
/-- After `hostOps1_5`. -/
abbrev W8 : Dev nD → Valuation τ sig (Elt F) := fun c => StableHlo.after hostOps1_5 (W7 m ρ c)
/-- After `hostOps1_6`. -/
abbrev W9 : Dev nD → Valuation τ sig (Elt F) := fun c => StableHlo.after hostOps1_6 (W8 m ρ c)
/-- After `hostOps1_7`. -/
abbrev W10 : Dev nD → Valuation τ sig (Elt F) := fun c => StableHlo.after hostOps1_7 (W9 m ρ c)
/-- What region 1 finds. -/
abbrev E1 : (c : Dev nD) → (b : Ref sig .tc) → Buf (Elt F) ((c : Thread nD τ).loc b) := fun c b => W10 m ρ c b
/-- After region 1: its arrays at what its write-backs leave, everything else as it was. -/
def W11 (c : Dev nD) : Valuation τ sig (Elt F) :=
  Pipeline.withArrays spec1 c (W10 m ρ c) fun w => (dat1 (E1 m ρ) c).arrAt w cfg1.N
/-- What region 1 leaves. -/
abbrev X1 : (c : Dev nD) → (b : Ref sig .tc) → Buf (Elt F) ((c : Thread nD τ).loc b) := fun c b => W11 m ρ c b
/-- Region 1's arrays hold what its write-backs leave. -/
theorem W11_arr (c : Dev nD) (w : Fin cfg1.W) :
    W11 m ρ c (Proc.devRef .tc (Pipeline.arrRef spec1 w)) = (dat1 (E1 m ρ) c).arrAt w cfg1.N := by
  unfold W11; exact Pipeline.withArrays_arr spec1 launch1.win.arr_inj c _ _ w
/-- Region 1 leaves all but its arrays alone. -/
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb
/-- Region 1 changes only its output arrays. -/
theorem W11_of (c : Dev nD) (r : Ref sig .tc) (h : ∀ w : Fin cfg1.W, Pipeline.arrRef spec1 w = r → (cfg1.win w).isOut = false) :
    W11 m ρ c (Proc.devRef .tc r) = W10 m ρ c (Proc.devRef .tc r) := by
  by_cases hw : ∃ w : Fin cfg1.W, Pipeline.arrRef spec1 w = r
  · obtain ⟨w, rfl⟩ := hw
    exact (W11_arr m ρ c w).trans (((dat1 (E1 m ρ) c).arrAt_in w (h w rfl) _).trans (A_eq1 (E1 m ρ) c w))
  · exact W11_of_ne m ρ c r fun w e => hw ⟨w, e⟩
/-- The same, of the buffers outside region 1's arrays. -/
theorem rest1 (c : Dev nD) : ∀ b, b ∉ Finset.univ.image (Pipeline.arrRef spec1) → X1 m ρ c b = E1 m ρ c b :=
  fun b hb => W11_of_ne m ρ c b fun w e => hb (Finset.mem_image.mpr ⟨w, Finset.mem_univ _, e⟩)
/-- After `hostOps2`. -/
abbrev W12 : Dev nD → Valuation τ sig (Elt F) := fun c => StableHlo.after hostOps2 (W11 m ρ c)
/-- After `hostOps2_1`. -/
abbrev W13 : Dev nD → Valuation τ sig (Elt F) := fun c => StableHlo.after hostOps2_1 (W12 m ρ c)
/-- After `hostOps2_2`. -/
abbrev W14 : Dev nD → Valuation τ sig (Elt F) := fun c => StableHlo.after hostOps2_2 (W13 m ρ c)
/-- After `hostOps2_3`. -/
abbrev W15 : Dev nD → Valuation τ sig (Elt F) := fun c => StableHlo.after hostOps2_3 (W14 m ρ c)
/-- After `hostOps2_4`. -/
abbrev W16 : Dev nD → Valuation τ sig (Elt F) := fun c => StableHlo.after hostOps2_4 (W15 m ρ c)
/-- After `hostOps2_5`. -/
abbrev W17 : Dev nD → Valuation τ sig (Elt F) := fun c => StableHlo.after hostOps2_5 (W16 m ρ c)
/-- After `hostOps2_6`. -/
abbrev W18 : Dev nD → Valuation τ sig (Elt F) := fun c => StableHlo.after hostOps2_6 (W17 m ρ c)
/-- After `hostOps2_7`. -/
abbrev W19 : Dev nD → Valuation τ sig (Elt F) := fun c => StableHlo.after hostOps2_7 (W18 m ρ c)
/-- After `hostOps2_8`. -/
abbrev W20 : Dev nD → Valuation τ sig (Elt F) := fun c => StableHlo.after hostOps2_8 (W19 m ρ c)
/-- After `hostOps2_9`. -/
abbrev W21 : Dev nD → Valuation τ sig (Elt F) := fun c => StableHlo.after hostOps2_9 (W20 m ρ c)
/-- After `hostOps2_10`. -/
abbrev W22 : Dev nD → Valuation τ sig (Elt F) := fun c => StableHlo.after hostOps2_10 (W21 m ρ c)
/-- After `hostOps2_11`. -/
abbrev W23 : Dev nD → Valuation τ sig (Elt F) := fun c => StableHlo.after hostOps2_11 (W22 m ρ c)
/-- After `hostOps2_12`. -/
abbrev W24 : Dev nD → Valuation τ sig (Elt F) := fun c => StableHlo.after hostOps2_12 (W23 m ρ c)
/-- After `hostOps2_13`. -/
abbrev W25 : Dev nD → Valuation τ sig (Elt F) := fun c => StableHlo.after hostOps2_13 (W24 m ρ c)
/-- After `hostOps2_14`. -/
abbrev W26 : Dev nD → Valuation τ sig (Elt F) := fun c => StableHlo.after hostOps2_14 (W25 m ρ c)
/-- After `hostOps2_15`. -/
abbrev W27 : Dev nD → Valuation τ sig (Elt F) := fun c => StableHlo.after hostOps2_15 (W26 m ρ c)
/-- After `hostOps2_16`. -/
abbrev W28 : Dev nD → Valuation τ sig (Elt F) := fun c => StableHlo.after hostOps2_16 (W27 m ρ c)
/-- After `hostOps2_17`. -/
abbrev W29 : Dev nD → Valuation τ sig (Elt F) := fun c => StableHlo.after hostOps2_17 (W28 m ρ c)
/-- After `hostOps2_18`. -/
abbrev W30 : Dev nD → Valuation τ sig (Elt F) := fun c => StableHlo.after hostOps2_18 (W29 m ρ c)
/-- After `hostOps2_19`. -/
abbrev W31 : Dev nD → Valuation τ sig (Elt F) := fun c => StableHlo.after hostOps2_19 (W30 m ρ c)
/-- After `hostOps2_20`. -/
abbrev W32 : Dev nD → Valuation τ sig (Elt F) := fun c => StableHlo.after hostOps2_20 (W31 m ρ c)
/-- After `hostOps2_21`. -/
abbrev W33 : Dev nD → Valuation τ sig (Elt F) := fun c => StableHlo.after hostOps2_21 (W32 m ρ c)
/-- After `hostOps2_22`. -/
abbrev W34 : Dev nD → Valuation τ sig (Elt F) := fun c => StableHlo.after hostOps2_22 (W33 m ρ c)
/-- After `hostOps2_23`. -/
abbrev W35 : Dev nD → Valuation τ sig (Elt F) := fun c => StableHlo.after hostOps2_23 (W34 m ρ c)
/-- After `hostOps2_24`. -/
abbrev W36 : Dev nD → Valuation τ sig (Elt F) := fun c => StableHlo.after hostOps2_24 (W35 m ρ c)
/-- After `hostOps2_25`. -/
abbrev W37 : Dev nD → Valuation τ sig (Elt F) := fun c => StableHlo.after hostOps2_25 (W36 m ρ c)
/-- After `hostOps2_26`. -/
abbrev W38 : Dev nD → Valuation τ sig (Elt F) := fun c => StableHlo.after hostOps2_26 (W37 m ρ c)
/-- After `hostOps2_27`. -/
abbrev W39 : Dev nD → Valuation τ sig (Elt F) := fun c => StableHlo.after hostOps2_27 (W38 m ρ c)
/-- After `hostOps2_28`. -/
abbrev W40 : Dev nD → Valuation τ sig (Elt F) := fun c => StableHlo.after hostOps2_28 (W39 m ρ c)
/-- After `hostOps2_29`. -/
abbrev W41 : Dev nD → Valuation τ sig (Elt F) := fun c => StableHlo.after hostOps2_29 (W40 m ρ c)
/-- After `hostOps2_30`. -/
abbrev W42 : Dev nD → Valuation τ sig (Elt F) := fun c => StableHlo.after hostOps2_30 (W41 m ρ c)
/-- After `hostOps2_31`. -/
abbrev W43 : Dev nD → Valuation τ sig (Elt F) := fun c => StableHlo.after hostOps2_31 (W42 m ρ c)
/-- After `hostOps2_32`. -/
abbrev W44 : Dev nD → Valuation τ sig (Elt F) := fun c => StableHlo.after hostOps2_32 (W43 m ρ c)
/-- After `hostOps2_33`. -/
abbrev W45 : Dev nD → Valuation τ sig (Elt F) := fun c => StableHlo.after hostOps2_33 (W44 m ρ c)
/-- After `hostOps2_34`. -/
abbrev W46 : Dev nD → Valuation τ sig (Elt F) := fun c => StableHlo.after hostOps2_34 (W45 m ρ c)
/-- After `hostOps2_35`. -/
abbrev W47 : Dev nD → Valuation τ sig (Elt F) := fun c => StableHlo.after hostOps2_35 (W46 m ρ c)
/-- After `hostOps2_36`. -/
abbrev W48 : Dev nD → Valuation τ sig (Elt F) := fun c => StableHlo.after hostOps2_36 (W47 m ρ c)
/-- After `hostOps2_37`. -/
abbrev W49 : Dev nD → Valuation τ sig (Elt F) := fun c => StableHlo.after hostOps2_37 (W48 m ρ c)
/-- After `hostOps2_38`. -/
abbrev W50 : Dev nD → Valuation τ sig (Elt F) := fun c => StableHlo.after hostOps2_38 (W49 m ρ c)
/-- After `hostOps2_39`. -/
abbrev W51 : Dev nD → Valuation τ sig (Elt F) := fun c => StableHlo.after hostOps2_39 (W50 m ρ c)
/-- After `hostOps2_40`. -/
abbrev W52 : Dev nD → Valuation τ sig (Elt F) := fun c => StableHlo.after hostOps2_40 (W51 m ρ c)
/-- After `hostOps2_41`. -/
abbrev W53 : Dev nD → Valuation τ sig (Elt F) := fun c => StableHlo.after hostOps2_41 (W52 m ρ c)
/-- After `hostOps2_42`. -/
abbrev W54 : Dev nD → Valuation τ sig (Elt F) := fun c => StableHlo.after hostOps2_42 (W53 m ρ c)
/-- What region 2 finds. -/
abbrev E2 : (c : Dev nD) → (b : Ref sig .tc) → Buf (Elt F) ((c : Thread nD τ).loc b) := fun c b => W54 m ρ c b
/-- After region 2: its arrays at what its write-backs leave, everything else as it was. -/
def W55 (c : Dev nD) : Valuation τ sig (Elt F) :=
  Pipeline.withArrays spec2 c (W54 m ρ c) fun w => (dat2 (E2 m ρ) c).arrAt w cfg2.N
/-- What region 2 leaves. -/
abbrev X2 : (c : Dev nD) → (b : Ref sig .tc) → Buf (Elt F) ((c : Thread nD τ).loc b) := fun c b => W55 m ρ c b
/-- Region 2's arrays hold what its write-backs leave. -/
theorem W55_arr (c : Dev nD) (w : Fin cfg2.W) :
    W55 m ρ c (Proc.devRef .tc (Pipeline.arrRef spec2 w)) = (dat2 (E2 m ρ) c).arrAt w cfg2.N := by
  unfold W55; exact Pipeline.withArrays_arr spec2 launch2.win.arr_inj c _ _ w
/-- Region 2 leaves all but its arrays alone. -/
theorem W55_of_ne (c : Dev nD) (b : Ref sig .tc) (hb : ∀ w, Pipeline.arrRef spec2 w ≠ b) :
    W55 m ρ c (Proc.devRef .tc b) = W54 m ρ c (Proc.devRef .tc b) := by
  unfold W55; exact Pipeline.withArrays_of_ne spec2 c _ _ b hb
/-- Region 2 changes only its output arrays. -/
theorem W55_of (c : Dev nD) (r : Ref sig .tc) (h : ∀ w : Fin cfg2.W, Pipeline.arrRef spec2 w = r → (cfg2.win w).isOut = false) :
    W55 m ρ c (Proc.devRef .tc r) = W54 m ρ c (Proc.devRef .tc r) := by
  by_cases hw : ∃ w : Fin cfg2.W, Pipeline.arrRef spec2 w = r
  · obtain ⟨w, rfl⟩ := hw
    exact (W55_arr m ρ c w).trans (((dat2 (E2 m ρ) c).arrAt_in w (h w rfl) _).trans (A_eq2 (E2 m ρ) c w))
  · exact W55_of_ne m ρ c r fun w e => hw ⟨w, e⟩
/-- The same, of the buffers outside region 2's arrays. -/
theorem rest2 (c : Dev nD) : ∀ b, b ∉ Finset.univ.image (Pipeline.arrRef spec2) → X2 m ρ c b = E2 m ρ c b :=
  fun b hb => W55_of_ne m ρ c b fun w e => hb (Finset.mem_image.mpr ⟨w, Finset.mem_univ _, e⟩)
/-- After `hostOps3`. -/
abbrev W56 : Dev nD → Valuation τ sig (Elt F) := fun c => StableHlo.after hostOps3 (W55 m ρ c)
/-- The last host code changes only what it writes. -/
theorem W56_of (c : Dev nD) (r : Ref sig .tc) (h : r ∉ hostOps3_W) : W56 m ρ c (Proc.devRef .tc r) = W55 m ρ c (Proc.devRef .tc r) :=
  StableHlo.after_of_writes_sub hostOps3 _ hostOps3_writes h

/-! ## The arguments end as launched -/

/-- The argument arrays. -/
abbrev argRefs : List (Ref sig .tc) := [main_arg0, main_arg1, main_arg2, main_arg3, main_arg4]

/-- No host code writes an argument. -/
theorem args_host : ∀ a ∈ argRefs, (∀ l ∈ [hostOps0_W, hostOps3_W], a ∉ l) ∧ (∀ l ∈ writesA, a ∉ l) ∧ (∀ l ∈ writesB, a ∉ l)
    ∧ (∀ l ∈ writesC, a ∉ l) ∧ (∀ l ∈ writesD, a ∉ l) ∧ (∀ l ∈ writesE, a ∉ l) ∧ ∀ l ∈ writesG, a ∉ l :=
  ListAll.forall_mem_of_all_decide (by decide +kernel)
/-- The arguments are no outputs of region 0. -/
theorem args_region0 : ∀ a ∈ argRefs, ∀ w : Fin cfg0.W, Pipeline.arrRef spec0 w = a → (cfg0.win w).isOut = false :=
  ListAll.forall_mem_of_all_decide (by decide +kernel)
/-- The arguments are no outputs of region 1. -/
theorem args_region1 : ∀ a ∈ argRefs, ∀ w : Fin cfg1.W, Pipeline.arrRef spec1 w = a → (cfg1.win w).isOut = false :=
  ListAll.forall_mem_of_all_decide (by decide +kernel)
/-- The arguments are no outputs of region 2. -/
theorem args_region2 : ∀ a ∈ argRefs, ∀ w : Fin cfg2.W, Pipeline.arrRef spec2 w = a → (cfg2.win w).isOut = false :=
  ListAll.forall_mem_of_all_decide (by decide +kernel)

/-- No item changes an argument array. -/
theorem W56_args (c : Dev nD) (a : Ref sig .tc) (ha : a ∈ argRefs) :
    W56 m ρ c (Proc.devRef .tc a) = m ((c : Thread nD τ).loc a) := by
  obtain ⟨h, hA, hB, hC, hD, hE, hG⟩ := args_host a ha
  exact (W56_of m ρ c a (h _ (by simp))).trans <| (W55_of m ρ c a (args_region2 a ha)).trans <|
    (hostG_keeps _ a hG).trans <| (hostE_keeps _ a hE).trans <| (hostD_keeps _ a hD).trans <| (hostC_keeps _ a hC).trans <|
    (W11_of m ρ c a (args_region1 a ha)).trans <| (hostB_keeps _ a hB).trans <| (hostA_keeps _ a hA).trans <|
    (W2_of m ρ c a (args_region0 a ha)).trans (W1_of m ρ c a (h _ (by simp)))

/-! ## The segments -/

/-- No pipeline prefetches a table. -/
abbrev adm : (p : Fin 3) → (pcfgs (F := F) p).Adm := fun p => (cfgs p).toPCfg_adm
/-- Each pipeline's data, at what its region finds. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
/-- No core owes another anything. -/
abbrev L : GSem nD τ sig → Finset Unit := fun _ => ∅
abbrev lv : GSem nD τ sig → Unit → ℕ := fun _ _ => 0
/-- What rides beside the buffers: the generator register and nothing owed. -/
abbrev Rest (c : Dev nD) : sProp (MT nD τ sig Unit (Elt F) ℕ (UR sig nD τ) ℕ) := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- A buffer of the program's own is among those held throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The buffers at the end, beside the generator register. -/
abbrev Tend (c : Dev nD) : sProp (MT nD τ sig Unit (Elt F) ℕ (UR sig nD τ) ℕ) := iprop(StableHlo.held (c : Thread nD τ) (Pipeline.ucRefs τ sig) (W56 m ρ c) ∗ ∃ r, prngReg c r)

-- the library's lemmas are stated over a pinned configuration
set_option backward.isDefEq.respectTransparency.types false in
/-- Region 0 as a segment: entered at `W1`, left at `W2`. -/
def reg0 : Pipeline.RegionSeg (pcfgs (F := F)) adm (pdats m ρ) () defs₀ Variants.none L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) (A_eq0 (E0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (fun w => (W2_arr m ρ c w).symm) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over a pinned configuration
set_option backward.isDefEq.respectTransparency.types false in
/-- Region 1 as a segment: entered at `W10`, left at `W11`. -/
def reg1 : Pipeline.RegionSeg (pcfgs (F := F)) adm (pdats m ρ) () defs₀ Variants.none L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W10 m ρ c) ∗ Rest c)
  post c := iprop(StableHlo.held (c : Thread nD τ) (Pipeline.ucRefs τ sig) (W11 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) (A_eq1 (E1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (fun w => (W11_arr m ρ c w).symm) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over a pinned configuration
set_option backward.isDefEq.respectTransparency.types false in
/-- Region 2 as a segment: entered at `W54`, left at `W55`. -/
def reg2 : Pipeline.RegionSeg (pcfgs (F := F)) adm (pdats m ρ) () defs₀ Variants.none L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W54 m ρ c) ∗ Rest c)
  post c := iprop(StableHlo.held (c : Thread nD τ) (Pipeline.ucRefs τ sig) (W55 m ρ c) ∗ Rest c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) (A_eq2 (E2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (fun w => (W55_arr m ρ c w).symm) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's items in order. -/
abbrev segs : List (Pipeline.Seg (pcfgs (F := F)) adm (pdats m ρ) () defs₀ Variants.none L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .region (reg1 m ρ),
    .host (hseg hostOps2 hostOps2_sub hostOps2_fresh (W11 m ρ)),
    .host (hseg hostOps2_1 hostOps2_1_sub hostOps2_1_fresh (W12 m ρ)),
    .host (hseg hostOps2_2 hostOps2_2_sub hostOps2_2_fresh (W13 m ρ)),
    .host (hseg hostOps2_3 hostOps2_3_sub hostOps2_3_fresh (W14 m ρ)),
    .host (hseg hostOps2_4 hostOps2_4_sub hostOps2_4_fresh (W15 m ρ)),
    .host (hseg hostOps2_5 hostOps2_5_sub hostOps2_5_fresh (W16 m ρ)),
    .host (hseg hostOps2_6 hostOps2_6_sub hostOps2_6_fresh (W17 m ρ)),
    .host (hseg hostOps2_7 hostOps2_7_sub hostOps2_7_fresh (W18 m ρ)),
    .host (hseg hostOps2_8 hostOps2_8_sub hostOps2_8_fresh (W19 m ρ)),
    .host (hseg hostOps2_9 hostOps2_9_sub hostOps2_9_fresh (W20 m ρ)),
    .host (hseg hostOps2_10 hostOps2_10_sub hostOps2_10_fresh (W21 m ρ)),
    .host (hseg hostOps2_11 hostOps2_11_sub hostOps2_11_fresh (W22 m ρ)),
    .host (hseg hostOps2_12 hostOps2_12_sub hostOps2_12_fresh (W23 m ρ)),
    .host (hseg hostOps2_13 hostOps2_13_sub hostOps2_13_fresh (W24 m ρ)),
    .host (hseg hostOps2_14 hostOps2_14_sub hostOps2_14_fresh (W25 m ρ)),
    .host (hseg hostOps2_15 hostOps2_15_sub hostOps2_15_fresh (W26 m ρ)),
    .host (hseg hostOps2_16 hostOps2_16_sub hostOps2_16_fresh (W27 m ρ)),
    .host (hseg hostOps2_17 hostOps2_17_sub hostOps2_17_fresh (W28 m ρ)),
    .host (hseg hostOps2_18 hostOps2_18_sub hostOps2_18_fresh (W29 m ρ)),
    .host (hseg hostOps2_19 hostOps2_19_sub hostOps2_19_fresh (W30 m ρ)),
    .host (hseg hostOps2_20 hostOps2_20_sub hostOps2_20_fresh (W31 m ρ)),
    .host (hseg hostOps2_21 hostOps2_21_sub hostOps2_21_fresh (W32 m ρ)),
    .host (hseg hostOps2_22 hostOps2_22_sub hostOps2_22_fresh (W33 m ρ)),
    .host (hseg hostOps2_23 hostOps2_23_sub hostOps2_23_fresh (W34 m ρ)),
    .host (hseg hostOps2_24 hostOps2_24_sub hostOps2_24_fresh (W35 m ρ)),
    .host (hseg hostOps2_25 hostOps2_25_sub hostOps2_25_fresh (W36 m ρ)),
    .host (hseg hostOps2_26 hostOps2_26_sub hostOps2_26_fresh (W37 m ρ)),
    .host (hseg hostOps2_27 hostOps2_27_sub hostOps2_27_fresh (W38 m ρ)),
    .host (hseg hostOps2_28 hostOps2_28_sub hostOps2_28_fresh (W39 m ρ)),
    .host (hseg hostOps2_29 hostOps2_29_sub hostOps2_29_fresh (W40 m ρ)),
    .host (hseg hostOps2_30 hostOps2_30_sub hostOps2_30_fresh (W41 m ρ)),
    .host (hseg hostOps2_31 hostOps2_31_sub hostOps2_31_fresh (W42 m ρ)),
    .host (hseg hostOps2_32 hostOps2_32_sub hostOps2_32_fresh (W43 m ρ)),
    .host (hseg hostOps2_33 hostOps2_33_sub hostOps2_33_fresh (W44 m ρ)),
    .host (hseg hostOps2_34 hostOps2_34_sub hostOps2_34_fresh (W45 m ρ)),
    .host (hseg hostOps2_35 hostOps2_35_sub hostOps2_35_fresh (W46 m ρ)),
    .host (hseg hostOps2_36 hostOps2_36_sub hostOps2_36_fresh (W47 m ρ)),
    .host (hseg hostOps2_37 hostOps2_37_sub hostOps2_37_fresh (W48 m ρ)),
    .host (hseg hostOps2_38 hostOps2_38_sub hostOps2_38_fresh (W49 m ρ)),
    .host (hseg hostOps2_39 hostOps2_39_sub hostOps2_39_fresh (W50 m ρ)),
    .host (hseg hostOps2_40 hostOps2_40_sub hostOps2_40_fresh (W51 m ρ)),
    .host (hseg hostOps2_41 hostOps2_41_sub hostOps2_41_fresh (W52 m ρ)),
    .host (hseg hostOps2_42 hostOps2_42_sub hostOps2_42_fresh (W53 m ρ)),
    .region (reg2 m ρ),
    .host (hseg hostOps3 hostOps3_sub hostOps3_fresh (W55 m ρ)) ]
/-- The program is the run of the segments. -/
theorem main_run (c : Dev nD) : main (F := F) c = Pipeline.Seg.run (segs m ρ) := (main_chain c).trans (by chain_rfl)

/-- Every counter belongs to a region. -/
theorem no_unscoped : ∀ sm : SemLoc sig, sm.isScoped .tc = true := by decide

set_option backward.isDefEq.respectTransparency.types false in
/-- Every run ends, with every buffer of the program at `W56` and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W56 m ρ c b) ∧ r.2.sem = fun _ => 0) :=
  Pipeline.θ_run_regions_kit_sems (pcfgs (F := F)) adm (pdats m ρ) () cellOf_inj emb₁ defs₀ Variants.none L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ Rest c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W56 m ρ c b)
    (hfin := fun c s' => by
      iintro ⟨⟨Hh, -⟩, HSI⟩
      unfold StableHlo.held
      imodintro
      iapply (pointsTo_read_all (Pipeline.ucRefs τ sig) (fun b => (((c : Thread nD τ)).1, b)) (W56 m ρ c) s')
      isplitl [Hh] <;> iassumption)
    (hQ := fun s h hz => ⟨h, funext fun g => hz g (.inr (no_unscoped g.2))⟩)

/-- A run's final memory at the arguments and at the result. -/
theorem run_end : θ_run defs (onTc (τ := τ) (main (F := F))) ⟨m, fun _ => 0, ρ⟩ (fun r => (∀ c : Dev nD,
      r.2.mem ((c.tc : Thread nD τ).loc main_v285) = W56 m ρ c (Proc.devRef .tc main_v285)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨h.1 c _ (mem_uc main_v285 (by decide)),
     (h.1 c _ (mem_uc main_arg0 (by decide))).trans (W56_args m ρ c main_arg0 (by decide)),
     (h.1 c _ (mem_uc main_arg1 (by decide))).trans (W56_args m ρ c main_arg1 (by decide)),
     (h.1 c _ (mem_uc main_arg2 (by decide))).trans (W56_args m ρ c main_arg2 (by decide)),
     (h.1 c _ (mem_uc main_arg3 (by decide))).trans (W56_args m ρ c main_arg3 (by decide)),
     (h.1 c _ (mem_uc main_arg4 (by decide))).trans (W56_args m ρ c main_arg4 (by decide))⟩, h.2⟩) (run m ρ)

end Cert.KernelIdeal.Run

end
-- ==== Proof.Frames.lean ====
module

public import proofs.«01_k».proof.Defs
public import proofs.«01_k».proof.Proof.Run
public import proofs.«01_k».proof.Proof.Gen.Kernel
public import Idealize.ShloMosaic.Lib.Quiescent

@[expose] public section

noncomputable section

namespace Cert.Proof

open Idealize.ShloMosaic Idealize.SL.Sem Idealize.ShloMosaic.Tactic

/-! ## The kernel's frames

The idealization rewrites no operation, so the two printed programs are one program: what is proved of the idealized
one for any float values holds of the kernel as printed. -/

set_option maxRecDepth 100000 in
set_option maxHeartbeats 0 in
/-- The idealized program is the kernel's own, whatever the floats are. -/
theorem main_eq {F : FTy → Type} [FloatOps F] :
    (@Cert.KernelIdeal.main F _ Cert.KernelIdeal.Gen.facts) = (@Cert.Kernel.main F _ Cert.Kernel.Gen.facts) := by sl_kernel_rfl

set_option maxRecDepth 100000 in
set_option maxHeartbeats 0 in
/-- So are its kernels. -/
theorem defs_eq {F : FTy → Type} [FloatOps F] :
    (@Cert.KernelIdeal.defs F _ Cert.KernelIdeal.Gen.facts) = (@Cert.Kernel.defs F _ Cert.Kernel.Gen.facts) := by sl_kernel_rfl

/-- The idealized kernel runs, its arguments unchanged and every counter back at zero. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Run.run_end m g)

/-- The kernel runs, its arguments unchanged and every counter back at zero. -/
theorem frame_kernel : Cert.quiescent_Kernel (hKernel := Cert.Kernel.Gen.facts) := by
  intro m g _
  rw [← main_eq, ← defs_eq]
  exact (θ_run _ _ _).mono (fun _ h => ⟨fun c => (h.1 c).2, h.2⟩) (Cert.KernelIdeal.Run.run_end m g)

end Cert.Proof

end
-- ==== Proof.RefOps.lean ====
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 353 (window `main_part0`). -/
abbrev ops_part0_0 : List (HloOp τ sig (Elt F)) :=
  [ nullary main_cst (constant S_ .f32 0x00000000#32),
    binary main_arg0 main_cst main_v0 ((fun x v => Host.reduceAdd x v reducesTo_S64x256x56x56_S256_d0_2_3 h_S_) : (⟨S64x256x56x56, .f32⟩ : BufTy).Contents (Elt F) → (⟨S_, .f32⟩ : BufTy).Contents (Elt F) → (⟨S256, .f32⟩ : BufTy).Contents (Elt F)),
    nullary main_cst_0 (constant S_ .f32 0x48440000#32),
    unary main_cst_0 main_v1 (broadcastInDim S256 ![] bcast_S_S256 : (⟨S_, .f32⟩ : BufTy).Contents (Elt F) → (⟨S256, .f32⟩ : BufTy).Contents (Elt F)),
    binary main_v0 main_v1 main_v2 (Host.divf : (⟨S256, .f32⟩ : BufTy).Contents (Elt F) → (⟨S256, .f32⟩ : BufTy).Contents (Elt F) → (⟨S256, .f32⟩ : BufTy).Contents (Elt F)),
    nullary main_cst_1 (constant S_ .f32 0x3F600000#32),
    unary main_cst_1 main_v3 (broadcastInDim S256 ![] bcast_S_S256 : (⟨S_, .f32⟩ : BufTy).Contents (Elt F) → (⟨S256, .f32⟩ : BufTy).Contents (Elt F)),
    binary main_v3 main_arg3 main_v4 (mulf : (⟨S256, .f32⟩ : BufTy).Contents (Elt F) → (⟨S256, .f32⟩ : BufTy).Contents (Elt F) → (⟨S256, .f32⟩ : BufTy).Contents (Elt F)),
    nullary main_cst_2 (constant S_ .f32 0x3E000000#32),
    unary main_cst_2 main_v5 (broadcastInDim S256 ![] bcast_S_S256 : (⟨S_, .f32⟩ : BufTy).Contents (Elt F) → (⟨S256, .f32⟩ : BufTy).Contents (Elt F)),
    binary main_v5 main_v2 main_v6 (mulf : (⟨S256, .f32⟩ : BufTy).Contents (Elt F) → (⟨S256, .f32⟩ : BufTy).Contents (Elt F) → (⟨S256, .f32⟩ : BufTy).Contents (Elt F)),
    binary main_v4 main_v6 main_v7 (addf : (⟨S256, .f32⟩ : BufTy).Contents (Elt F) → (⟨S256, .f32⟩ : BufTy).Contents (Elt F) → (⟨S256, .f32⟩ : BufTy).Contents (Elt F)),
    nullary main_cst_3 (constant S_ .f32 0xFF800000#32),
    binary main_v7 main_cst_3 main_v8 ((fun x v => Host.reduce FloatOps.maximumf x v reducesTo_S256_S_d0 h_S_) : (⟨S256, .f32⟩ : BufTy).Contents (Elt F) → (⟨S_, .f32⟩ : BufTy).Contents (Elt F) → (⟨S_, .f32⟩ : BufTy).Contents (Elt F)),
    unary main_v8 main_v9 (Host.absf : (⟨S_, .f32⟩ : BufTy).Contents (Elt F) → (⟨S_, .f32⟩ : BufTy).Contents (Elt F)),
    nullary main_cst_4 (constant S_ .f32 0x7F800000#32),
    binary main_v7 main_cst_4 main_v10 ((fun x v => Host.reduce FloatOps.minimumf x v reducesTo_S256_S_d0 h_S_) : (⟨S256, .f32⟩ : BufTy).Contents (Elt F) → (⟨S_, .f32⟩ : BufTy).Contents (Elt F) → (⟨S_, .f32⟩ : BufTy).Contents (Elt F)),
    unary main_v10 main_v11 (Host.absf : (⟨S_, .f32⟩ : BufTy).Contents (Elt F) → (⟨S_, .f32⟩ : BufTy).Contents (Elt F)),
    binary main_v9 main_v11 main_v12 (maximumf : (⟨S_, .f32⟩ : BufTy).Contents (Elt F) → (⟨S_, .f32⟩ : BufTy).Contents (Elt F) → (⟨S_, .f32⟩ : BufTy).Contents (Elt F)),
    nullary main_cst_5 (constant S_ .f32 0x40000000#32),
    binary main_cst_5 main_v12 main_v13 (mulf : (⟨S_, .f32⟩ : BufTy).Contents (Elt F) → (⟨S_, .f32⟩ : BufTy).Contents (Elt F) → (⟨S_, .f32⟩ : BufTy).Contents (Elt F)),
    nullary main_cst_6 (constant S_ .f32 0x437F0000#32),
    binary main_v13 main_cst_6 main_v14 (Host.divf : (⟨S_, .f32⟩ : BufTy).Contents (Elt F) → (⟨S_, .f32⟩ : BufTy).Contents (Elt F) → (⟨S_, .f32⟩ : BufTy).Contents (Elt F)),
    nullary main_cst_7 (constant S_ .f32 0xC3000000#32),
    binary main_cst_7 main_v14 main_v15 (mulf : (⟨S_, .f32⟩ : BufTy).Contents (Elt F) → (⟨S_, .f32⟩ : BufTy).Contents (Elt F) → (⟨S_, .f32⟩ : BufTy).Contents (Elt F)),
    nullary main_cst_8 (constant S_ .f32 0x42FE0000#32),
    binary main_cst_8 main_v14 main_v16 (mulf : (⟨S_, .f32⟩ : BufTy).Contents (Elt F) → (⟨S_, .f32⟩ : BufTy).Contents (Elt F) → (⟨S_, .f32⟩ : BufTy).Contents (Elt F)),
    nullary main_cst_9 (constant S_ .f32 0x00000000#32),
    binary main_v14 main_cst_9 main_v17 (cmpf .oeq : (⟨S_, .f32⟩ : BufTy).Contents (Elt F) → (⟨S_, .f32⟩ : BufTy).Contents (Elt F) → (⟨S_, .i1⟩ : BufTy).Contents (Elt F)),
    nullary main_cst_10 (constant S_ .f32 0x3F800000#32) ]

/-- @main's operations 31 … 60 of 353 (window `main_part0`). -/
abbrev ops_part0_1 : List (HloOp τ sig (Elt F)) :=
  [ TRef.unary (TRef.of (T := ⟨S_, .f32⟩) main_cst_10) (TRef.of (T := ⟨S_, .f32⟩) main_call0_v0) id,
    TRef.ternary (TRef.of (T := ⟨S_, .i1⟩) main_v17) (TRef.of (T := ⟨S_, .f32⟩) main_call0_v0) (TRef.of (T := ⟨S_, .f32⟩) main_v14) (TRef.of (T := ⟨S_, .f32⟩) main_v18) select,
    TRef.unary (TRef.of (T := ⟨S_, .f32⟩) main_v15) (TRef.of (T := ⟨S256, .f32⟩) main_call1_v0) (broadcastInDim S256 ![] bcast_S_S256),
    TRef.binary (TRef.of (T := ⟨S256, .f32⟩) main_call1_v0) (TRef.of (T := ⟨S256, .f32⟩) main_v7) (TRef.of (T := ⟨S256, .f32⟩) main_call1_v1) maximumf,
    TRef.unary (TRef.of (T := ⟨S_, .f32⟩) main_v16) (TRef.of (T := ⟨S256, .f32⟩) main_call1_v2) (broadcastInDim S256 ![] bcast_S_S256),
    TRef.binary (TRef.of (T := ⟨S256, .f32⟩) main_call1_v2) (TRef.of (T := ⟨S256, .f32⟩) main_call1_v1) (TRef.of (T := ⟨S256, .f32⟩) main_v19) minimumf,
    unary main_v15 main_v20 (broadcastInDim S256 ![] bcast_S_S256 : (⟨S_, .f32⟩ : BufTy).Contents (Elt F) → (⟨S256, .f32⟩ : BufTy).Contents (Elt F)),
    binary main_v19 main_v20 main_v21 (subf : (⟨S256, .f32⟩ : BufTy).Contents (Elt F) → (⟨S256, .f32⟩ : BufTy).Contents (Elt F) → (⟨S256, .f32⟩ : BufTy).Contents (Elt F)),
    unary main_v18 main_v22 (broadcastInDim S256 ![] bcast_S_S256 : (⟨S_, .f32⟩ : BufTy).Contents (Elt F) → (⟨S256, .f32⟩ : BufTy).Contents (Elt F)),
    binary main_v21 main_v22 main_v23 (Host.divf : (⟨S256, .f32⟩ : BufTy).Contents (Elt F) → (⟨S256, .f32⟩ : BufTy).Contents (Elt F) → (⟨S256, .f32⟩ : BufTy).Contents (Elt F)),
    nullary main_cst_11 (constant S_ .f32 0x3F000000#32),
    unary main_cst_11 main_v24 (broadcastInDim S256 ![] bcast_S_S256 : (⟨S_, .f32⟩ : BufTy).Contents (Elt F) → (⟨S256, .f32⟩ : BufTy).Contents (Elt F)),
    binary main_v23 main_v24 main_v25 (addf : (⟨S256, .f32⟩ : BufTy).Contents (Elt F) → (⟨S256, .f32⟩ : BufTy).Contents (Elt F) → (⟨S256, .f32⟩ : BufTy).Contents (Elt F)),
    unary main_v25 main_v26 (Host.floor : (⟨S256, .f32⟩ : BufTy).Contents (Elt F) → (⟨S256, .f32⟩ : BufTy).Contents (Elt F)),
    unary main_v18 main_v27 (broadcastInDim S256 ![] bcast_S_S256 : (⟨S_, .f32⟩ : BufTy).Contents (Elt F) → (⟨S256, .f32⟩ : BufTy).Contents (Elt F)),
    binary main_v26 main_v27 main_v28 (mulf : (⟨S256, .f32⟩ : BufTy).Contents (Elt F) → (⟨S256, .f32⟩ : BufTy).Contents (Elt F) → (⟨S256, .f32⟩ : BufTy).Contents (Elt F)),
    unary main_v15 main_v29 (broadcastInDim S256 ![] bcast_S_S256 : (⟨S_, .f32⟩ : BufTy).Contents (Elt F) → (⟨S256, .f32⟩ : BufTy).Contents (Elt F)),
    binary main_v28 main_v29 main_v30 (addf : (⟨S256, .f32⟩ : BufTy).Contents (Elt F) → (⟨S256, .f32⟩ : BufTy).Contents (Elt F) → (⟨S256, .f32⟩ : BufTy).Contents (Elt F)),
    nullary main_cst_12 (constant S_ .f32 0x00000000#32),
    binary main_v14 main_cst_12 main_v31 (cmpf .oeq : (⟨S_, .f32⟩ : BufTy).Contents (Elt F) → (⟨S_, .f32⟩ : BufTy).Contents (Elt F) → (⟨S_, .i1⟩ : BufTy).Contents (Elt F)),
    TRef.ternary (TRef.of (T := ⟨S_, .i1⟩) main_v31) (TRef.of (T := ⟨S256, .f32⟩) main_v7) (TRef.of (T := ⟨S256, .f32⟩) main_v30) (TRef.of (T := ⟨S256, .f32⟩) main_v32) (fun p a b => select (broadcastInDim S256 ![] bcast_S_S256 p) a b),
    unary main_v32 main_v33 (broadcastInDim S1x256x1x1 ![1] bcast_S256_S1x256x1x1_1 : (⟨S256, .f32⟩ : BufTy).Contents (Elt F) → (⟨S1x256x1x1, .f32⟩ : BufTy).Contents (Elt F)),
    unary main_v33 main_v34 (broadcastInDim S64x256x56x56 ![0, 1, 2, 3] bcast_S1x256x1x1_S64x256x56x56_0_1_2_3 : (⟨S1x256x1x1, .f32⟩ : BufTy).Contents (Elt F) → (⟨S64x256x56x56, .f32⟩ : BufTy).Contents (Elt F)),
    binary main_arg0 main_v34 main_v35 (subf : (⟨S64x256x56x56, .f32⟩ : BufTy).Contents (Elt F) → (⟨S64x256x56x56, .f32⟩ : BufTy).Contents (Elt F) → (⟨S64x256x56x56, .f32⟩ : BufTy).Contents (Elt F)),
    nullary main_cst_13 (constant S_ .f32 0xFF800000#32),
    binary main_v35 main_cst_13 main_v36 ((fun x v => Host.reduce FloatOps.maximumf x v reducesTo_S64x256x56x56_S_d0_1_2_3 h_S_) : (⟨S64x256x56x56, .f32⟩ : BufTy).Contents (Elt F) → (⟨S_, .f32⟩ : BufTy).Contents (Elt F) → (⟨S_, .f32⟩ : BufTy).Contents (Elt F)),
    unary main_v36 main_v37 (Host.absf : (⟨S_, .f32⟩ : BufTy).Contents (Elt F) → (⟨S_, .f32⟩ : BufTy).Contents (Elt F)),
    nullary main_cst_14 (constant S_ .f32 0x7F800000#32),
    binary main_v35 main_cst_14 main_v38 ((fun x v => Host.reduce FloatOps.minimumf x v reducesTo_S64x256x56x56_S_d0_1_2_3 h_S_) : (⟨S64x256x56x56, .f32⟩ : BufTy).Contents (Elt F) → (⟨S_, .f32⟩ : BufTy).Contents (Elt F) → (⟨S_, .f32⟩ : BufTy).Contents (Elt F)),
    unary main_v38 main_v39 (Host.absf : (⟨S_, .f32⟩ : BufTy).Contents (Elt F) → (⟨S_, .f32⟩ : BufTy).Contents (Elt F)) ]

/-- @main's operations 61 … 64 of 353 (window `main_part0`). -/
abbrev ops_part0_2 : List (HloOp τ sig (Elt F)) :=
  [ binary main_v37 main_v39 main_v40 (maximumf : (⟨S_, .f32⟩ : BufTy).Contents (Elt F) → (⟨S_, .f32⟩ : BufTy).Contents (Elt F) → (⟨S_, .f32⟩ : BufTy).Contents (Elt F)),
    nullary main_cst_15 (constant S_ .f32 0x40000000#32),
    binary main_cst_15 main_v40 main_v41 (mulf : (⟨S_, .f32⟩ : BufTy).Contents (Elt F) → (⟨S_, .f32⟩ : BufTy).Contents (Elt F) → (⟨S_, .f32⟩ : BufTy).Contents (Elt F)),
    nullary main_cst_16 (constant S_ .f32 0x437F0000#32) ]

/-- Window `main_part0`'s operations. Not an abbreviation: `main_eq` below splits `ops` into the windows and no further. -/
def ops_part0 : List (HloOp τ sig (Elt F)) :=
  ops_part0_0 ++ (ops_part0_1 ++ (ops_part0_2))

/-- @main's operations 65 … 94 of 353 (window `main_part1`). -/
abbrev ops_part1_0 : List (HloOp τ sig (Elt F)) :=
  [ binary main_v41 main_cst_16 main_v42 (Host.divf : (⟨S_, .f32⟩ : BufTy).Contents (Elt F) → (⟨S_, .f32⟩ : BufTy).Contents (Elt F) → (⟨S_, .f32⟩ : BufTy).Contents (Elt F)),
    nullary main_cst_17 (constant S_ .f32 0xC3000000#32),
    binary main_cst_17 main_v42 main_v43 (mulf : (⟨S_, .f32⟩ : BufTy).Contents (Elt F) → (⟨S_, .f32⟩ : BufTy).Contents (Elt F) → (⟨S_, .f32⟩ : BufTy).Contents (Elt F)),
    nullary main_cst_18 (constant S_ .f32 0x42FE0000#32),
    binary main_cst_18 main_v42 main_v44 (mulf : (⟨S_, .f32⟩ : BufTy).Contents (Elt F) → (⟨S_, .f32⟩ : BufTy).Contents (Elt F) → (⟨S_, .f32⟩ : BufTy).Contents (Elt F)),
    nullary main_cst_19 (constant S_ .f32 0x00000000#32),
    binary main_v42 main_cst_19 main_v45 (cmpf .oeq : (⟨S_, .f32⟩ : BufTy).Contents (Elt F) → (⟨S_, .f32⟩ : BufTy).Contents (Elt F) → (⟨S_, .i1⟩ : BufTy).Contents (Elt F)),
    nullary main_cst_20 (constant S_ .f32 0x3F800000#32),
    TRef.unary (TRef.of (T := ⟨S_, .f32⟩) main_cst_20) (TRef.of (T := ⟨S_, .f32⟩) main_call3_v0) id,
    TRef.ternary (TRef.of (T := ⟨S_, .i1⟩) main_v45) (TRef.of (T := ⟨S_, .f32⟩) main_call3_v0) (TRef.of (T := ⟨S_, .f32⟩) main_v42) (TRef.of (T := ⟨S_, .f32⟩) main_v46) select,
    TRef.unary (TRef.of (T := ⟨S_, .f32⟩) main_v43) (TRef.of (T := ⟨S64x256x56x56, .f32⟩) main_call4_v0) (broadcastInDim S64x256x56x56 ![] bcast_S_S64x256x56x56),
    TRef.binary (TRef.of (T := ⟨S64x256x56x56, .f32⟩) main_call4_v0) (TRef.of (T := ⟨S64x256x56x56, .f32⟩) main_v35) (TRef.of (T := ⟨S64x256x56x56, .f32⟩) main_call4_v1) maximumf,
    TRef.unary (TRef.of (T := ⟨S_, .f32⟩) main_v44) (TRef.of (T := ⟨S64x256x56x56, .f32⟩) main_call4_v2) (broadcastInDim S64x256x56x56 ![] bcast_S_S64x256x56x56),
    TRef.binary (TRef.of (T := ⟨S64x256x56x56, .f32⟩) main_call4_v2) (TRef.of (T := ⟨S64x256x56x56, .f32⟩) main_call4_v1) (TRef.of (T := ⟨S64x256x56x56, .f32⟩) main_v47) minimumf,
    unary main_v43 main_v48 (broadcastInDim S64x256x56x56 ![] bcast_S_S64x256x56x56 : (⟨S_, .f32⟩ : BufTy).Contents (Elt F) → (⟨S64x256x56x56, .f32⟩ : BufTy).Contents (Elt F)),
    binary main_v47 main_v48 main_v49 (subf : (⟨S64x256x56x56, .f32⟩ : BufTy).Contents (Elt F) → (⟨S64x256x56x56, .f32⟩ : BufTy).Contents (Elt F) → (⟨S64x256x56x56, .f32⟩ : BufTy).Contents (Elt F)),
    unary main_v46 main_v50 (broadcastInDim S64x256x56x56 ![] bcast_S_S64x256x56x56 : (⟨S_, .f32⟩ : BufTy).Contents (Elt F) → (⟨S64x256x56x56, .f32⟩ : BufTy).Contents (Elt F)),
    binary main_v49 main_v50 main_v51 (Host.divf : (⟨S64x256x56x56, .f32⟩ : BufTy).Contents (Elt F) → (⟨S64x256x56x56, .f32⟩ : BufTy).Contents (Elt F) → (⟨S64x256x56x56, .f32⟩ : BufTy).Contents (Elt F)),
    nullary main_cst_21 (constant S_ .f32 0x3F000000#32),
    unary main_cst_21 main_v52 (broadcastInDim S64x256x56x56 ![] bcast_S_S64x256x56x56 : (⟨S_, .f32⟩ : BufTy).Contents (Elt F) → (⟨S64x256x56x56, .f32⟩ : BufTy).Contents (Elt F)),
    binary main_v51 main_v52 main_v53 (addf : (⟨S64x256x56x56, .f32⟩ : BufTy).Contents (Elt F) → (⟨S64x256x56x56, .f32⟩ : BufTy).Contents (Elt F) → (⟨S64x256x56x56, .f32⟩ : BufTy).Contents (Elt F)),
    unary main_v53 main_v54 (Host.floor : (⟨S64x256x56x56, .f32⟩ : BufTy).Contents (Elt F) → (⟨S64x256x56x56, .f32⟩ : BufTy).Contents (Elt F)),
    unary main_v46 main_v55 (broadcastInDim S64x256x56x56 ![] bcast_S_S64x256x56x56 : (⟨S_, .f32⟩ : BufTy).Contents (Elt F) → (⟨S64x256x56x56, .f32⟩ : BufTy).Contents (Elt F)),
    binary main_v54 main_v55 main_v56 (mulf : (⟨S64x256x56x56, .f32⟩ : BufTy).Contents (Elt F) → (⟨S64x256x56x56, .f32⟩ : BufTy).Contents (Elt F) → (⟨S64x256x56x56, .f32⟩ : BufTy).Contents (Elt F)),
    unary main_v43 main_v57 (broadcastInDim S64x256x56x56 ![] bcast_S_S64x256x56x56 : (⟨S_, .f32⟩ : BufTy).Contents (Elt F) → (⟨S64x256x56x56, .f32⟩ : BufTy).Contents (Elt F)),
    binary main_v56 main_v57 main_v58 (addf : (⟨S64x256x56x56, .f32⟩ : BufTy).Contents (Elt F) → (⟨S64x256x56x56, .f32⟩ : BufTy).Contents (Elt F) → (⟨S64x256x56x56, .f32⟩ : BufTy).Contents (Elt F)),
    nullary main_cst_22 (constant S_ .f32 0x00000000#32),
    binary main_v42 main_cst_22 main_v59 (cmpf .oeq : (⟨S_, .f32⟩ : BufTy).Contents (Elt F) → (⟨S_, .f32⟩ : BufTy).Contents (Elt F) → (⟨S_, .i1⟩ : BufTy).Contents (Elt F)),
    TRef.ternary (TRef.of (T := ⟨S_, .i1⟩) main_v59) (TRef.of (T := ⟨S64x256x56x56, .f32⟩) main_v35) (TRef.of (T := ⟨S64x256x56x56, .f32⟩) main_v58) (TRef.of (T := ⟨S64x256x56x56, .f32⟩) main_v60) (fun p a b => select (broadcastInDim S64x256x56x56 ![] bcast_S_S64x256x56x56 p) a b),
    binary main_v60 main_v60 main_v61 (mulf : (⟨S64x256x56x56, .f32⟩ : BufTy).Contents (Elt F) → (⟨S64x256x56x56, .f32⟩ : BufTy).Contents (Elt F) → (⟨S64x256x56x56, .f32⟩ : BufTy).Contents (Elt F)) ]

/-- @main's operations 95 … 124 of 353 (window `main_part1`). -/
abbrev ops_part1_1 : List (HloOp τ sig (Elt F)) :=
  [ nullary main_cst_23 (constant S_ .f32 0x00000000#32),
    binary main_v61 main_cst_23 main_v62 ((fun x v => Host.reduceAdd x v reducesTo_S64x256x56x56_S256_d0_2_3 h_S_) : (⟨S64x256x56x56, .f32⟩ : BufTy).Contents (Elt F) → (⟨S_, .f32⟩ : BufTy).Contents (Elt F) → (⟨S256, .f32⟩ : BufTy).Contents (Elt F)),
    nullary main_cst_24 (constant S_ .f32 0x48440000#32),
    unary main_cst_24 main_v63 (broadcastInDim S256 ![] bcast_S_S256 : (⟨S_, .f32⟩ : BufTy).Contents (Elt F) → (⟨S256, .f32⟩ : BufTy).Contents (Elt F)),
    binary main_v62 main_v63 main_v64 (Host.divf : (⟨S256, .f32⟩ : BufTy).Contents (Elt F) → (⟨S256, .f32⟩ : BufTy).Contents (Elt F) → (⟨S256, .f32⟩ : BufTy).Contents (Elt F)),
    nullary main_cst_25 (constant S_ .f32 0x3F600000#32),
    unary main_cst_25 main_v65 (broadcastInDim S256 ![] bcast_S_S256 : (⟨S_, .f32⟩ : BufTy).Contents (Elt F) → (⟨S256, .f32⟩ : BufTy).Contents (Elt F)),
    binary main_v65 main_arg4 main_v66 (mulf : (⟨S256, .f32⟩ : BufTy).Contents (Elt F) → (⟨S256, .f32⟩ : BufTy).Contents (Elt F) → (⟨S256, .f32⟩ : BufTy).Contents (Elt F)),
    nullary main_cst_26 (constant S_ .f32 0x3E000000#32),
    unary main_cst_26 main_v67 (broadcastInDim S256 ![] bcast_S_S256 : (⟨S_, .f32⟩ : BufTy).Contents (Elt F) → (⟨S256, .f32⟩ : BufTy).Contents (Elt F)),
    binary main_v67 main_v64 main_v68 (mulf : (⟨S256, .f32⟩ : BufTy).Contents (Elt F) → (⟨S256, .f32⟩ : BufTy).Contents (Elt F) → (⟨S256, .f32⟩ : BufTy).Contents (Elt F)),
    binary main_v66 main_v68 main_v69 (addf : (⟨S256, .f32⟩ : BufTy).Contents (Elt F) → (⟨S256, .f32⟩ : BufTy).Contents (Elt F) → (⟨S256, .f32⟩ : BufTy).Contents (Elt F)),
    nullary main_cst_27 (constant S_ .f32 0xFF800000#32),
    binary main_v69 main_cst_27 main_v70 ((fun x v => Host.reduce FloatOps.maximumf x v reducesTo_S256_S_d0 h_S_) : (⟨S256, .f32⟩ : BufTy).Contents (Elt F) → (⟨S_, .f32⟩ : BufTy).Contents (Elt F) → (⟨S_, .f32⟩ : BufTy).Contents (Elt F)),
    unary main_v70 main_v71 (Host.absf : (⟨S_, .f32⟩ : BufTy).Contents (Elt F) → (⟨S_, .f32⟩ : BufTy).Contents (Elt F)),
    nullary main_cst_28 (constant S_ .f32 0x7F800000#32),
    binary main_v69 main_cst_28 main_v72 ((fun x v => Host.reduce FloatOps.minimumf x v reducesTo_S256_S_d0 h_S_) : (⟨S256, .f32⟩ : BufTy).Contents (Elt F) → (⟨S_, .f32⟩ : BufTy).Contents (Elt F) → (⟨S_, .f32⟩ : BufTy).Contents (Elt F)),
    unary main_v72 main_v73 (Host.absf : (⟨S_, .f32⟩ : BufTy).Contents (Elt F) → (⟨S_, .f32⟩ : BufTy).Contents (Elt F)),
    binary main_v71 main_v73 main_v74 (maximumf : (⟨S_, .f32⟩ : BufTy).Contents (Elt F) → (⟨S_, .f32⟩ : BufTy).Contents (Elt F) → (⟨S_, .f32⟩ : BufTy).Contents (Elt F)),
    nullary main_cst_29 (constant S_ .f32 0x40000000#32),
    binary main_cst_29 main_v74 main_v75 (mulf : (⟨S_, .f32⟩ : BufTy).Contents (Elt F) → (⟨S_, .f32⟩ : BufTy).Contents (Elt F) → (⟨S_, .f32⟩ : BufTy).Contents (Elt F)),
    nullary main_cst_30 (constant S_ .f32 0x437F0000#32),
    binary main_v75 main_cst_30 main_v76 (Host.divf : (⟨S_, .f32⟩ : BufTy).Contents (Elt F) → (⟨S_, .f32⟩ : BufTy).Contents (Elt F) → (⟨S_, .f32⟩ : BufTy).Contents (Elt F)),
    nullary main_cst_31 (constant S_ .f32 0xC3000000#32),
    binary main_cst_31 main_v76 main_v77 (mulf : (⟨S_, .f32⟩ : BufTy).Contents (Elt F) → (⟨S_, .f32⟩ : BufTy).Contents (Elt F) → (⟨S_, .f32⟩ : BufTy).Contents (Elt F)),
    nullary main_cst_32 (constant S_ .f32 0x42FE0000#32),
    binary main_cst_32 main_v76 main_v78 (mulf : (⟨S_, .f32⟩ : BufTy).Contents (Elt F) → (⟨S_, .f32⟩ : BufTy).Contents (Elt F) → (⟨S_, .f32⟩ : BufTy).Contents (Elt F)),
    nullary main_cst_33 (constant S_ .f32 0x00000000#32),
    binary main_v76 main_cst_33 main_v79 (cmpf .oeq : (⟨S_, .f32⟩ : BufTy).Contents (Elt F) → (⟨S_, .f32⟩ : BufTy).Contents (Elt F) → (⟨S_, .i1⟩ : BufTy).Contents (Elt F)),
    nullary main_cst_34 (constant S_ .f32 0x3F800000#32) ]

/-- @main's operations 125 … 132 of 353 (window `main_part1`). -/
abbrev ops_part1_2 : List (HloOp τ sig (Elt F)) :=
  [ TRef.unary (TRef.of (T := ⟨S_, .f32⟩) main_cst_34) (TRef.of (T := ⟨S_, .f32⟩) main_call6_v0) id,
    TRef.ternary (TRef.of (T := ⟨S_, .i1⟩) main_v79) (TRef.of (T := ⟨S_, .f32⟩) main_call6_v0) (TRef.of (T := ⟨S_, .f32⟩) main_v76) (TRef.of (T := ⟨S_, .f32⟩) main_v80) select,
    TRef.unary (TRef.of (T := ⟨S_, .f32⟩) main_v77) (TRef.of (T := ⟨S256, .f32⟩) main_call7_v0) (broadcastInDim S256 ![] bcast_S_S256),
    TRef.binary (TRef.of (T := ⟨S256, .f32⟩) main_call7_v0) (TRef.of (T := ⟨S256, .f32⟩) main_v69) (TRef.of (T := ⟨S256, .f32⟩) main_call7_v1) maximumf,
    TRef.unary (TRef.of (T := ⟨S_, .f32⟩) main_v78) (TRef.of (T := ⟨S256, .f32⟩) main_call7_v2) (broadcastInDim S256 ![] bcast_S_S256),
    TRef.binary (TRef.of (T := ⟨S256, .f32⟩) main_call7_v2) (TRef.of (T := ⟨S256, .f32⟩) main_call7_v1) (TRef.of (T := ⟨S256, .f32⟩) main_v81) minimumf,
    unary main_v77 main_v82 (broadcastInDim S256 ![] bcast_S_S256 : (⟨S_, .f32⟩ : BufTy).Contents (Elt F) → (⟨S256, .f32⟩ : BufTy).Contents (Elt F)),
    binary main_v81 main_v82 main_v83 (subf : (⟨S256, .f32⟩ : BufTy).Contents (Elt F) → (⟨S256, .f32⟩ : BufTy).Contents (Elt F) → (⟨S256, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 133 … 162 of 353 (window `main_part2`). -/
abbrev ops_part2_0 : List (HloOp τ sig (Elt F)) :=
  [ unary main_v80 main_v84 (broadcastInDim S256 ![] bcast_S_S256 : (⟨S_, .f32⟩ : BufTy).Contents (Elt F) → (⟨S256, .f32⟩ : BufTy).Contents (Elt F)),
    binary main_v83 main_v84 main_v85 (Host.divf : (⟨S256, .f32⟩ : BufTy).Contents (Elt F) → (⟨S256, .f32⟩ : BufTy).Contents (Elt F) → (⟨S256, .f32⟩ : BufTy).Contents (Elt F)),
    nullary main_cst_35 (constant S_ .f32 0x3F000000#32),
    unary main_cst_35 main_v86 (broadcastInDim S256 ![] bcast_S_S256 : (⟨S_, .f32⟩ : BufTy).Contents (Elt F) → (⟨S256, .f32⟩ : BufTy).Contents (Elt F)),
    binary main_v85 main_v86 main_v87 (addf : (⟨S256, .f32⟩ : BufTy).Contents (Elt F) → (⟨S256, .f32⟩ : BufTy).Contents (Elt F) → (⟨S256, .f32⟩ : BufTy).Contents (Elt F)),
    unary main_v87 main_v88 (Host.floor : (⟨S256, .f32⟩ : BufTy).Contents (Elt F) → (⟨S256, .f32⟩ : BufTy).Contents (Elt F)),
    unary main_v80 main_v89 (broadcastInDim S256 ![] bcast_S_S256 : (⟨S_, .f32⟩ : BufTy).Contents (Elt F) → (⟨S256, .f32⟩ : BufTy).Contents (Elt F)),
    binary main_v88 main_v89 main_v90 (mulf : (⟨S256, .f32⟩ : BufTy).Contents (Elt F) → (⟨S256, .f32⟩ : BufTy).Contents (Elt F) → (⟨S256, .f32⟩ : BufTy).Contents (Elt F)),
    unary main_v77 main_v91 (broadcastInDim S256 ![] bcast_S_S256 : (⟨S_, .f32⟩ : BufTy).Contents (Elt F) → (⟨S256, .f32⟩ : BufTy).Contents (Elt F)),
    binary main_v90 main_v91 main_v92 (addf : (⟨S256, .f32⟩ : BufTy).Contents (Elt F) → (⟨S256, .f32⟩ : BufTy).Contents (Elt F) → (⟨S256, .f32⟩ : BufTy).Contents (Elt F)),
    nullary main_cst_36 (constant S_ .f32 0x00000000#32),
    binary main_v76 main_cst_36 main_v93 (cmpf .oeq : (⟨S_, .f32⟩ : BufTy).Contents (Elt F) → (⟨S_, .f32⟩ : BufTy).Contents (Elt F) → (⟨S_, .i1⟩ : BufTy).Contents (Elt F)),
    TRef.ternary (TRef.of (T := ⟨S_, .i1⟩) main_v93) (TRef.of (T := ⟨S256, .f32⟩) main_v69) (TRef.of (T := ⟨S256, .f32⟩) main_v92) (TRef.of (T := ⟨S256, .f32⟩) main_v94) (fun p a b => select (broadcastInDim S256 ![] bcast_S_S256 p) a b),
    nullary main_cst_37 (constant S_ .f32 0x3727C5AC#32),
    unary main_cst_37 main_v95 (broadcastInDim S256 ![] bcast_S_S256 : (⟨S_, .f32⟩ : BufTy).Contents (Elt F) → (⟨S256, .f32⟩ : BufTy).Contents (Elt F)),
    binary main_v94 main_v95 main_v96 (addf : (⟨S256, .f32⟩ : BufTy).Contents (Elt F) → (⟨S256, .f32⟩ : BufTy).Contents (Elt F) → (⟨S256, .f32⟩ : BufTy).Contents (Elt F)),
    unary main_v96 main_v97 (Host.sqrt : (⟨S256, .f32⟩ : BufTy).Contents (Elt F) → (⟨S256, .f32⟩ : BufTy).Contents (Elt F)),
    nullary main_cst_38 (constant S_ .f32 0xFF800000#32),
    binary main_v97 main_cst_38 main_v98 ((fun x v => Host.reduce FloatOps.maximumf x v reducesTo_S256_S_d0 h_S_) : (⟨S256, .f32⟩ : BufTy).Contents (Elt F) → (⟨S_, .f32⟩ : BufTy).Contents (Elt F) → (⟨S_, .f32⟩ : BufTy).Contents (Elt F)),
    unary main_v98 main_v99 (Host.absf : (⟨S_, .f32⟩ : BufTy).Contents (Elt F) → (⟨S_, .f32⟩ : BufTy).Contents (Elt F)),
    nullary main_cst_39 (constant S_ .f32 0x7F800000#32),
    binary main_v97 main_cst_39 main_v100 ((fun x v => Host.reduce FloatOps.minimumf x v reducesTo_S256_S_d0 h_S_) : (⟨S256, .f32⟩ : BufTy).Contents (Elt F) → (⟨S_, .f32⟩ : BufTy).Contents (Elt F) → (⟨S_, .f32⟩ : BufTy).Contents (Elt F)),
    unary main_v100 main_v101 (Host.absf : (⟨S_, .f32⟩ : BufTy).Contents (Elt F) → (⟨S_, .f32⟩ : BufTy).Contents (Elt F)),
    binary main_v99 main_v101 main_v102 (maximumf : (⟨S_, .f32⟩ : BufTy).Contents (Elt F) → (⟨S_, .f32⟩ : BufTy).Contents (Elt F) → (⟨S_, .f32⟩ : BufTy).Contents (Elt F)),
    nullary main_cst_40 (constant S_ .f32 0x40000000#32),
    binary main_cst_40 main_v102 main_v103 (mulf : (⟨S_, .f32⟩ : BufTy).Contents (Elt F) → (⟨S_, .f32⟩ : BufTy).Contents (Elt F) → (⟨S_, .f32⟩ : BufTy).Contents (Elt F)),
    nullary main_cst_41 (constant S_ .f32 0x437F0000#32),
    binary main_v103 main_cst_41 main_v104 (Host.divf : (⟨S_, .f32⟩ : BufTy).Contents (Elt F) → (⟨S_, .f32⟩ : BufTy).Contents (Elt F) → (⟨S_, .f32⟩ : BufTy).Contents (Elt F)),
    nullary main_cst_42 (constant S_ .f32 0xC3000000#32),
    binary main_cst_42 main_v104 main_v105 (mulf : (⟨S_, .f32⟩ : BufTy).Contents (Elt F) → (⟨S_, .f32⟩ : BufTy).Contents (Elt F) → (⟨S_, .f32⟩ : BufTy).Contents (Elt F)) ]

/-- @main's operations 163 … 192 of 353 (window `main_part2`). -/
abbrev ops_part2_1 : List (HloOp τ sig (Elt F)) :=
  [ nullary main_cst_43 (constant S_ .f32 0x42FE0000#32),
    binary main_cst_43 main_v104 main_v106 (mulf : (⟨S_, .f32⟩ : BufTy).Contents (Elt F) → (⟨S_, .f32⟩ : BufTy).Contents (Elt F) → (⟨S_, .f32⟩ : BufTy).Contents (Elt F)),
    nullary main_cst_44 (constant S_ .f32 0x00000000#32),
    binary main_v104 main_cst_44 main_v107 (cmpf .oeq : (⟨S_, .f32⟩ : BufTy).Contents (Elt F) → (⟨S_, .f32⟩ : BufTy).Contents (Elt F) → (⟨S_, .i1⟩ : BufTy).Contents (Elt F)),
    nullary main_cst_45 (constant S_ .f32 0x3F800000#32),
    TRef.unary (TRef.of (T := ⟨S_, .f32⟩) main_cst_45) (TRef.of (T := ⟨S_, .f32⟩) main_call9_v0) id,
    TRef.ternary (TRef.of (T := ⟨S_, .i1⟩) main_v107) (TRef.of (T := ⟨S_, .f32⟩) main_call9_v0) (TRef.of (T := ⟨S_, .f32⟩) main_v104) (TRef.of (T := ⟨S_, .f32⟩) main_v108) select,
    TRef.unary (TRef.of (T := ⟨S_, .f32⟩) main_v105) (TRef.of (T := ⟨S256, .f32⟩) main_call10_v0) (broadcastInDim S256 ![] bcast_S_S256),
    TRef.binary (TRef.of (T := ⟨S256, .f32⟩) main_call10_v0) (TRef.of (T := ⟨S256, .f32⟩) main_v97) (TRef.of (T := ⟨S256, .f32⟩) main_call10_v1) maximumf,
    TRef.unary (TRef.of (T := ⟨S_, .f32⟩) main_v106) (TRef.of (T := ⟨S256, .f32⟩) main_call10_v2) (broadcastInDim S256 ![] bcast_S_S256),
    TRef.binary (TRef.of (T := ⟨S256, .f32⟩) main_call10_v2) (TRef.of (T := ⟨S256, .f32⟩) main_call10_v1) (TRef.of (T := ⟨S256, .f32⟩) main_v109) minimumf,
    unary main_v105 main_v110 (broadcastInDim S256 ![] bcast_S_S256 : (⟨S_, .f32⟩ : BufTy).Contents (Elt F) → (⟨S256, .f32⟩ : BufTy).Contents (Elt F)),
    binary main_v109 main_v110 main_v111 (subf : (⟨S256, .f32⟩ : BufTy).Contents (Elt F) → (⟨S256, .f32⟩ : BufTy).Contents (Elt F) → (⟨S256, .f32⟩ : BufTy).Contents (Elt F)),
    unary main_v108 main_v112 (broadcastInDim S256 ![] bcast_S_S256 : (⟨S_, .f32⟩ : BufTy).Contents (Elt F) → (⟨S256, .f32⟩ : BufTy).Contents (Elt F)),
    binary main_v111 main_v112 main_v113 (Host.divf : (⟨S256, .f32⟩ : BufTy).Contents (Elt F) → (⟨S256, .f32⟩ : BufTy).Contents (Elt F) → (⟨S256, .f32⟩ : BufTy).Contents (Elt F)),
    nullary main_cst_46 (constant S_ .f32 0x3F000000#32),
    unary main_cst_46 main_v114 (broadcastInDim S256 ![] bcast_S_S256 : (⟨S_, .f32⟩ : BufTy).Contents (Elt F) → (⟨S256, .f32⟩ : BufTy).Contents (Elt F)),
    binary main_v113 main_v114 main_v115 (addf : (⟨S256, .f32⟩ : BufTy).Contents (Elt F) → (⟨S256, .f32⟩ : BufTy).Contents (Elt F) → (⟨S256, .f32⟩ : BufTy).Contents (Elt F)),
    unary main_v115 main_v116 (Host.floor : (⟨S256, .f32⟩ : BufTy).Contents (Elt F) → (⟨S256, .f32⟩ : BufTy).Contents (Elt F)),
    unary main_v108 main_v117 (broadcastInDim S256 ![] bcast_S_S256 : (⟨S_, .f32⟩ : BufTy).Contents (Elt F) → (⟨S256, .f32⟩ : BufTy).Contents (Elt F)),
    binary main_v116 main_v117 main_v118 (mulf : (⟨S256, .f32⟩ : BufTy).Contents (Elt F) → (⟨S256, .f32⟩ : BufTy).Contents (Elt F) → (⟨S256, .f32⟩ : BufTy).Contents (Elt F)),
    unary main_v105 main_v119 (broadcastInDim S256 ![] bcast_S_S256 : (⟨S_, .f32⟩ : BufTy).Contents (Elt F) → (⟨S256, .f32⟩ : BufTy).Contents (Elt F)),
    binary main_v118 main_v119 main_v120 (addf : (⟨S256, .f32⟩ : BufTy).Contents (Elt F) → (⟨S256, .f32⟩ : BufTy).Contents (Elt F) → (⟨S256, .f32⟩ : BufTy).Contents (Elt F)),
    nullary main_cst_47 (constant S_ .f32 0x00000000#32),
    binary main_v104 main_cst_47 main_v121 (cmpf .oeq : (⟨S_, .f32⟩ : BufTy).Contents (Elt F) → (⟨S_, .f32⟩ : BufTy).Contents (Elt F) → (⟨S_, .i1⟩ : BufTy).Contents (Elt F)),
    TRef.ternary (TRef.of (T := ⟨S_, .i1⟩) main_v121) (TRef.of (T := ⟨S256, .f32⟩) main_v97) (TRef.of (T := ⟨S256, .f32⟩) main_v120) (TRef.of (T := ⟨S256, .f32⟩) main_v122) (fun p a b => select (broadcastInDim S256 ![] bcast_S_S256 p) a b),
    unary main_v122 main_v123 (broadcastInDim S1x256x1x1 ![1] bcast_S256_S1x256x1x1_1 : (⟨S256, .f32⟩ : BufTy).Contents (Elt F) → (⟨S1x256x1x1, .f32⟩ : BufTy).Contents (Elt F)),
    unary main_v123 main_v124 (broadcastInDim S64x256x56x56 ![0, 1, 2, 3] bcast_S1x256x1x1_S64x256x56x56_0_1_2_3 : (⟨S1x256x1x1, .f32⟩ : BufTy).Contents (Elt F) → (⟨S64x256x56x56, .f32⟩ : BufTy).Contents (Elt F)),
    binary main_v60 main_v124 main_v125 (Host.divf : (⟨S64x256x56x56, .f32⟩ : BufTy).Contents (Elt F) → (⟨S64x256x56x56, .f32⟩ : BufTy).Contents (Elt F) → (⟨S64x256x56x56, .f32⟩ : BufTy).Contents (Elt F)),
    nullary main_cst_48 (constant S_ .f32 0xFF800000#32) ]

/-- @main's operations 193 … 196 of 353 (window `main_part2`). -/
abbrev ops_part2_2 : List (HloOp τ sig (Elt F)) :=
  [ binary main_v125 main_cst_48 main_v126 ((fun x v => Host.reduce FloatOps.maximumf x v reducesTo_S64x256x56x56_S_d0_1_2_3 h_S_) : (⟨S64x256x56x56, .f32⟩ : BufTy).Contents (Elt F) → (⟨S_, .f32⟩ : BufTy).Contents (Elt F) → (⟨S_, .f32⟩ : BufTy).Contents (Elt F)),
    unary main_v126 main_v127 (Host.absf : (⟨S_, .f32⟩ : BufTy).Contents (Elt F) → (⟨S_, .f32⟩ : BufTy).Contents (Elt F)),
    nullary main_cst_49 (constant S_ .f32 0x7F800000#32),
    binary main_v125 main_cst_49 main_v128 ((fun x v => Host.reduce FloatOps.minimumf x v reducesTo_S64x256x56x56_S_d0_1_2_3 h_S_) : (⟨S64x256x56x56, .f32⟩ : BufTy).Contents (Elt F) → (⟨S_, .f32⟩ : BufTy).Contents (Elt F) → (⟨S_, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 197 … 226 of 353 (window `main_part3`). -/
abbrev ops_part3_0 : List (HloOp τ sig (Elt F)) :=
  [ unary main_v128 main_v129 (Host.absf : (⟨S_, .f32⟩ : BufTy).Contents (Elt F) → (⟨S_, .f32⟩ : BufTy).Contents (Elt F)),
    binary main_v127 main_v129 main_v130 (maximumf : (⟨S_, .f32⟩ : BufTy).Contents (Elt F) → (⟨S_, .f32⟩ : BufTy).Contents (Elt F) → (⟨S_, .f32⟩ : BufTy).Contents (Elt F)),
    nullary main_cst_50 (constant S_ .f32 0x40000000#32),
    binary main_cst_50 main_v130 main_v131 (mulf : (⟨S_, .f32⟩ : BufTy).Contents (Elt F) → (⟨S_, .f32⟩ : BufTy).Contents (Elt F) → (⟨S_, .f32⟩ : BufTy).Contents (Elt F)),
    nullary main_cst_51 (constant S_ .f32 0x437F0000#32),
    binary main_v131 main_cst_51 main_v132 (Host.divf : (⟨S_, .f32⟩ : BufTy).Contents (Elt F) → (⟨S_, .f32⟩ : BufTy).Contents (Elt F) → (⟨S_, .f32⟩ : BufTy).Contents (Elt F)),
    nullary main_cst_52 (constant S_ .f32 0xC3000000#32),
    binary main_cst_52 main_v132 main_v133 (mulf : (⟨S_, .f32⟩ : BufTy).Contents (Elt F) → (⟨S_, .f32⟩ : BufTy).Contents (Elt F) → (⟨S_, .f32⟩ : BufTy).Contents (Elt F)),
    nullary main_cst_53 (constant S_ .f32 0x42FE0000#32),
    binary main_cst_53 main_v132 main_v134 (mulf : (⟨S_, .f32⟩ : BufTy).Contents (Elt F) → (⟨S_, .f32⟩ : BufTy).Contents (Elt F) → (⟨S_, .f32⟩ : BufTy).Contents (Elt F)),
    nullary main_cst_54 (constant S_ .f32 0x00000000#32),
    binary main_v132 main_cst_54 main_v135 (cmpf .oeq : (⟨S_, .f32⟩ : BufTy).Contents (Elt F) → (⟨S_, .f32⟩ : BufTy).Contents (Elt F) → (⟨S_, .i1⟩ : BufTy).Contents (Elt F)),
    nullary main_cst_55 (constant S_ .f32 0x3F800000#32),
    TRef.unary (TRef.of (T := ⟨S_, .f32⟩) main_cst_55) (TRef.of (T := ⟨S_, .f32⟩) main_call12_v0) id,
    TRef.ternary (TRef.of (T := ⟨S_, .i1⟩) main_v135) (TRef.of (T := ⟨S_, .f32⟩) main_call12_v0) (TRef.of (T := ⟨S_, .f32⟩) main_v132) (TRef.of (T := ⟨S_, .f32⟩) main_v136) select,
    TRef.unary (TRef.of (T := ⟨S_, .f32⟩) main_v133) (TRef.of (T := ⟨S64x256x56x56, .f32⟩) main_call13_v0) (broadcastInDim S64x256x56x56 ![] bcast_S_S64x256x56x56),
    TRef.binary (TRef.of (T := ⟨S64x256x56x56, .f32⟩) main_call13_v0) (TRef.of (T := ⟨S64x256x56x56, .f32⟩) main_v125) (TRef.of (T := ⟨S64x256x56x56, .f32⟩) main_call13_v1) maximumf,
    TRef.unary (TRef.of (T := ⟨S_, .f32⟩) main_v134) (TRef.of (T := ⟨S64x256x56x56, .f32⟩) main_call13_v2) (broadcastInDim S64x256x56x56 ![] bcast_S_S64x256x56x56),
    TRef.binary (TRef.of (T := ⟨S64x256x56x56, .f32⟩) main_call13_v2) (TRef.of (T := ⟨S64x256x56x56, .f32⟩) main_call13_v1) (TRef.of (T := ⟨S64x256x56x56, .f32⟩) main_v137) minimumf,
    unary main_v133 main_v138 (broadcastInDim S64x256x56x56 ![] bcast_S_S64x256x56x56 : (⟨S_, .f32⟩ : BufTy).Contents (Elt F) → (⟨S64x256x56x56, .f32⟩ : BufTy).Contents (Elt F)),
    binary main_v137 main_v138 main_v139 (subf : (⟨S64x256x56x56, .f32⟩ : BufTy).Contents (Elt F) → (⟨S64x256x56x56, .f32⟩ : BufTy).Contents (Elt F) → (⟨S64x256x56x56, .f32⟩ : BufTy).Contents (Elt F)),
    unary main_v136 main_v140 (broadcastInDim S64x256x56x56 ![] bcast_S_S64x256x56x56 : (⟨S_, .f32⟩ : BufTy).Contents (Elt F) → (⟨S64x256x56x56, .f32⟩ : BufTy).Contents (Elt F)),
    binary main_v139 main_v140 main_v141 (Host.divf : (⟨S64x256x56x56, .f32⟩ : BufTy).Contents (Elt F) → (⟨S64x256x56x56, .f32⟩ : BufTy).Contents (Elt F) → (⟨S64x256x56x56, .f32⟩ : BufTy).Contents (Elt F)),
    nullary main_cst_56 (constant S_ .f32 0x3F000000#32),
    unary main_cst_56 main_v142 (broadcastInDim S64x256x56x56 ![] bcast_S_S64x256x56x56 : (⟨S_, .f32⟩ : BufTy).Contents (Elt F) → (⟨S64x256x56x56, .f32⟩ : BufTy).Contents (Elt F)),
    binary main_v141 main_v142 main_v143 (addf : (⟨S64x256x56x56, .f32⟩ : BufTy).Contents (Elt F) → (⟨S64x256x56x56, .f32⟩ : BufTy).Contents (Elt F) → (⟨S64x256x56x56, .f32⟩ : BufTy).Contents (Elt F)),
    unary main_v143 main_v144 (Host.floor : (⟨S64x256x56x56, .f32⟩ : BufTy).Contents (Elt F) → (⟨S64x256x56x56, .f32⟩ : BufTy).Contents (Elt F)),
    unary main_v136 main_v145 (broadcastInDim S64x256x56x56 ![] bcast_S_S64x256x56x56 : (⟨S_, .f32⟩ : BufTy).Contents (Elt F) → (⟨S64x256x56x56, .f32⟩ : BufTy).Contents (Elt F)),
    binary main_v144 main_v145 main_v146 (mulf : (⟨S64x256x56x56, .f32⟩ : BufTy).Contents (Elt F) → (⟨S64x256x56x56, .f32⟩ : BufTy).Contents (Elt F) → (⟨S64x256x56x56, .f32⟩ : BufTy).Contents (Elt F)),
    unary main_v133 main_v147 (broadcastInDim S64x256x56x56 ![] bcast_S_S64x256x56x56 : (⟨S_, .f32⟩ : BufTy).Contents (Elt F) → (⟨S64x256x56x56, .f32⟩ : BufTy).Contents (Elt F)) ]

/-- @main's operations 227 … 256 of 353 (window `main_part3`). -/
abbrev ops_part3_1 : List (HloOp τ sig (Elt F)) :=
  [ binary main_v146 main_v147 main_v148 (addf : (⟨S64x256x56x56, .f32⟩ : BufTy).Contents (Elt F) → (⟨S64x256x56x56, .f32⟩ : BufTy).Contents (Elt F) → (⟨S64x256x56x56, .f32⟩ : BufTy).Contents (Elt F)),
    nullary main_cst_57 (constant S_ .f32 0x00000000#32),
    binary main_v132 main_cst_57 main_v149 (cmpf .oeq : (⟨S_, .f32⟩ : BufTy).Contents (Elt F) → (⟨S_, .f32⟩ : BufTy).Contents (Elt F) → (⟨S_, .i1⟩ : BufTy).Contents (Elt F)),
    TRef.ternary (TRef.of (T := ⟨S_, .i1⟩) main_v149) (TRef.of (T := ⟨S64x256x56x56, .f32⟩) main_v125) (TRef.of (T := ⟨S64x256x56x56, .f32⟩) main_v148) (TRef.of (T := ⟨S64x256x56x56, .f32⟩) main_v150) (fun p a b => select (broadcastInDim S64x256x56x56 ![] bcast_S_S64x256x56x56 p) a b),
    nullary main_cst_58 (constant S_ .f32 0xFF800000#32),
    binary main_arg1 main_cst_58 main_v151 ((fun x v => Host.reduce FloatOps.maximumf x v reducesTo_S256_S_d0 h_S_) : (⟨S256, .f32⟩ : BufTy).Contents (Elt F) → (⟨S_, .f32⟩ : BufTy).Contents (Elt F) → (⟨S_, .f32⟩ : BufTy).Contents (Elt F)),
    unary main_v151 main_v152 (Host.absf : (⟨S_, .f32⟩ : BufTy).Contents (Elt F) → (⟨S_, .f32⟩ : BufTy).Contents (Elt F)),
    nullary main_cst_59 (constant S_ .f32 0x7F800000#32),
    binary main_arg1 main_cst_59 main_v153 ((fun x v => Host.reduce FloatOps.minimumf x v reducesTo_S256_S_d0 h_S_) : (⟨S256, .f32⟩ : BufTy).Contents (Elt F) → (⟨S_, .f32⟩ : BufTy).Contents (Elt F) → (⟨S_, .f32⟩ : BufTy).Contents (Elt F)),
    unary main_v153 main_v154 (Host.absf : (⟨S_, .f32⟩ : BufTy).Contents (Elt F) → (⟨S_, .f32⟩ : BufTy).Contents (Elt F)),
    binary main_v152 main_v154 main_v155 (maximumf : (⟨S_, .f32⟩ : BufTy).Contents (Elt F) → (⟨S_, .f32⟩ : BufTy).Contents (Elt F) → (⟨S_, .f32⟩ : BufTy).Contents (Elt F)),
    nullary main_cst_60 (constant S_ .f32 0x40000000#32),
    binary main_cst_60 main_v155 main_v156 (mulf : (⟨S_, .f32⟩ : BufTy).Contents (Elt F) → (⟨S_, .f32⟩ : BufTy).Contents (Elt F) → (⟨S_, .f32⟩ : BufTy).Contents (Elt F)),
    nullary main_cst_61 (constant S_ .f32 0x437F0000#32),
    binary main_v156 main_cst_61 main_v157 (Host.divf : (⟨S_, .f32⟩ : BufTy).Contents (Elt F) → (⟨S_, .f32⟩ : BufTy).Contents (Elt F) → (⟨S_, .f32⟩ : BufTy).Contents (Elt F)),
    nullary main_cst_62 (constant S_ .f32 0xC3000000#32),
    binary main_cst_62 main_v157 main_v158 (mulf : (⟨S_, .f32⟩ : BufTy).Contents (Elt F) → (⟨S_, .f32⟩ : BufTy).Contents (Elt F) → (⟨S_, .f32⟩ : BufTy).Contents (Elt F)),
    nullary main_cst_63 (constant S_ .f32 0x42FE0000#32),
    binary main_cst_63 main_v157 main_v159 (mulf : (⟨S_, .f32⟩ : BufTy).Contents (Elt F) → (⟨S_, .f32⟩ : BufTy).Contents (Elt F) → (⟨S_, .f32⟩ : BufTy).Contents (Elt F)),
    nullary main_cst_64 (constant S_ .f32 0x00000000#32),
    binary main_v157 main_cst_64 main_v160 (cmpf .oeq : (⟨S_, .f32⟩ : BufTy).Contents (Elt F) → (⟨S_, .f32⟩ : BufTy).Contents (Elt F) → (⟨S_, .i1⟩ : BufTy).Contents (Elt F)),
    nullary main_cst_65 (constant S_ .f32 0x3F800000#32),
    TRef.unary (TRef.of (T := ⟨S_, .f32⟩) main_cst_65) (TRef.of (T := ⟨S_, .f32⟩) main_call15_v0) id,
    TRef.ternary (TRef.of (T := ⟨S_, .i1⟩) main_v160) (TRef.of (T := ⟨S_, .f32⟩) main_call15_v0) (TRef.of (T := ⟨S_, .f32⟩) main_v157) (TRef.of (T := ⟨S_, .f32⟩) main_v161) select,
    TRef.unary (TRef.of (T := ⟨S_, .f32⟩) main_v158) (TRef.of (T := ⟨S256, .f32⟩) main_call16_v0) (broadcastInDim S256 ![] bcast_S_S256),
    TRef.binary (TRef.of (T := ⟨S256, .f32⟩) main_call16_v0) (TRef.of (T := ⟨S256, .f32⟩) main_arg1) (TRef.of (T := ⟨S256, .f32⟩) main_call16_v1) maximumf,
    TRef.unary (TRef.of (T := ⟨S_, .f32⟩) main_v159) (TRef.of (T := ⟨S256, .f32⟩) main_call16_v2) (broadcastInDim S256 ![] bcast_S_S256),
    TRef.binary (TRef.of (T := ⟨S256, .f32⟩) main_call16_v2) (TRef.of (T := ⟨S256, .f32⟩) main_call16_v1) (TRef.of (T := ⟨S256, .f32⟩) main_v162) minimumf,
    unary main_v158 main_v163 (broadcastInDim S256 ![] bcast_S_S256 : (⟨S_, .f32⟩ : BufTy).Contents (Elt F) → (⟨S256, .f32⟩ : BufTy).Contents (Elt F)),
    binary main_v162 main_v163 main_v164 (subf : (⟨S256, .f32⟩ : BufTy).Contents (Elt F) → (⟨S256, .f32⟩ : BufTy).Contents (Elt F) → (⟨S256, .f32⟩ : BufTy).Contents (Elt F)) ]

/-- @main's operations 257 … 264 of 353 (window `main_part3`). -/
abbrev ops_part3_2 : List (HloOp τ sig (Elt F)) :=
  [ unary main_v161 main_v165 (broadcastInDim S256 ![] bcast_S_S256 : (⟨S_, .f32⟩ : BufTy).Contents (Elt F) → (⟨S256, .f32⟩ : BufTy).Contents (Elt F)),
    binary main_v164 main_v165 main_v166 (Host.divf : (⟨S256, .f32⟩ : BufTy).Contents (Elt F) → (⟨S256, .f32⟩ : BufTy).Contents (Elt F) → (⟨S256, .f32⟩ : BufTy).Contents (Elt F)),
    nullary main_cst_66 (constant S_ .f32 0x3F000000#32),
    unary main_cst_66 main_v167 (broadcastInDim S256 ![] bcast_S_S256 : (⟨S_, .f32⟩ : BufTy).Contents (Elt F) → (⟨S256, .f32⟩ : BufTy).Contents (Elt F)),
    binary main_v166 main_v167 main_v168 (addf : (⟨S256, .f32⟩ : BufTy).Contents (Elt F) → (⟨S256, .f32⟩ : BufTy).Contents (Elt F) → (⟨S256, .f32⟩ : BufTy).Contents (Elt F)),
    unary main_v168 main_v169 (Host.floor : (⟨S256, .f32⟩ : BufTy).Contents (Elt F) → (⟨S256, .f32⟩ : BufTy).Contents (Elt F)),
    unary main_v161 main_v170 (broadcastInDim S256 ![] bcast_S_S256 : (⟨S_, .f32⟩ : BufTy).Contents (Elt F) → (⟨S256, .f32⟩ : BufTy).Contents (Elt F)),
    binary main_v169 main_v170 main_v171 (mulf : (⟨S256, .f32⟩ : BufTy).Contents (Elt F) → (⟨S256, .f32⟩ : BufTy).Contents (Elt F) → (⟨S256, .f32⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2))

/-- @main's operations 265 … 294 of 353 (window `main_part4`). -/
abbrev ops_part4_0 : List (HloOp τ sig (Elt F)) :=
  [ unary main_v158 main_v172 (broadcastInDim S256 ![] bcast_S_S256 : (⟨S_, .f32⟩ : BufTy).Contents (Elt F) → (⟨S256, .f32⟩ : BufTy).Contents (Elt F)),
    binary main_v171 main_v172 main_v173 (addf : (⟨S256, .f32⟩ : BufTy).Contents (Elt F) → (⟨S256, .f32⟩ : BufTy).Contents (Elt F) → (⟨S256, .f32⟩ : BufTy).Contents (Elt F)),
    nullary main_cst_67 (constant S_ .f32 0x00000000#32),
    binary main_v157 main_cst_67 main_v174 (cmpf .oeq : (⟨S_, .f32⟩ : BufTy).Contents (Elt F) → (⟨S_, .f32⟩ : BufTy).Contents (Elt F) → (⟨S_, .i1⟩ : BufTy).Contents (Elt F)),
    TRef.ternary (TRef.of (T := ⟨S_, .i1⟩) main_v174) (TRef.of (T := ⟨S256, .f32⟩) main_arg1) (TRef.of (T := ⟨S256, .f32⟩) main_v173) (TRef.of (T := ⟨S256, .f32⟩) main_v175) (fun p a b => select (broadcastInDim S256 ![] bcast_S_S256 p) a b),
    nullary main_cst_68 (constant S_ .f32 0xFF800000#32),
    binary main_arg2 main_cst_68 main_v176 ((fun x v => Host.reduce FloatOps.maximumf x v reducesTo_S256_S_d0 h_S_) : (⟨S256, .f32⟩ : BufTy).Contents (Elt F) → (⟨S_, .f32⟩ : BufTy).Contents (Elt F) → (⟨S_, .f32⟩ : BufTy).Contents (Elt F)),
    unary main_v176 main_v177 (Host.absf : (⟨S_, .f32⟩ : BufTy).Contents (Elt F) → (⟨S_, .f32⟩ : BufTy).Contents (Elt F)),
    nullary main_cst_69 (constant S_ .f32 0x7F800000#32),
    binary main_arg2 main_cst_69 main_v178 ((fun x v => Host.reduce FloatOps.minimumf x v reducesTo_S256_S_d0 h_S_) : (⟨S256, .f32⟩ : BufTy).Contents (Elt F) → (⟨S_, .f32⟩ : BufTy).Contents (Elt F) → (⟨S_, .f32⟩ : BufTy).Contents (Elt F)),
    unary main_v178 main_v179 (Host.absf : (⟨S_, .f32⟩ : BufTy).Contents (Elt F) → (⟨S_, .f32⟩ : BufTy).Contents (Elt F)),
    binary main_v177 main_v179 main_v180 (maximumf : (⟨S_, .f32⟩ : BufTy).Contents (Elt F) → (⟨S_, .f32⟩ : BufTy).Contents (Elt F) → (⟨S_, .f32⟩ : BufTy).Contents (Elt F)),
    nullary main_cst_70 (constant S_ .f32 0x40000000#32),
    binary main_cst_70 main_v180 main_v181 (mulf : (⟨S_, .f32⟩ : BufTy).Contents (Elt F) → (⟨S_, .f32⟩ : BufTy).Contents (Elt F) → (⟨S_, .f32⟩ : BufTy).Contents (Elt F)),
    nullary main_cst_71 (constant S_ .f32 0x437F0000#32),
    binary main_v181 main_cst_71 main_v182 (Host.divf : (⟨S_, .f32⟩ : BufTy).Contents (Elt F) → (⟨S_, .f32⟩ : BufTy).Contents (Elt F) → (⟨S_, .f32⟩ : BufTy).Contents (Elt F)),
    nullary main_cst_72 (constant S_ .f32 0xC3000000#32),
    binary main_cst_72 main_v182 main_v183 (mulf : (⟨S_, .f32⟩ : BufTy).Contents (Elt F) → (⟨S_, .f32⟩ : BufTy).Contents (Elt F) → (⟨S_, .f32⟩ : BufTy).Contents (Elt F)),
    nullary main_cst_73 (constant S_ .f32 0x42FE0000#32),
    binary main_cst_73 main_v182 main_v184 (mulf : (⟨S_, .f32⟩ : BufTy).Contents (Elt F) → (⟨S_, .f32⟩ : BufTy).Contents (Elt F) → (⟨S_, .f32⟩ : BufTy).Contents (Elt F)),
    nullary main_cst_74 (constant S_ .f32 0x00000000#32),
    binary main_v182 main_cst_74 main_v185 (cmpf .oeq : (⟨S_, .f32⟩ : BufTy).Contents (Elt F) → (⟨S_, .f32⟩ : BufTy).Contents (Elt F) → (⟨S_, .i1⟩ : BufTy).Contents (Elt F)),
    nullary main_cst_75 (constant S_ .f32 0x3F800000#32),
    TRef.unary (TRef.of (T := ⟨S_, .f32⟩) main_cst_75) (TRef.of (T := ⟨S_, .f32⟩) main_call18_v0) id,
    TRef.ternary (TRef.of (T := ⟨S_, .i1⟩) main_v185) (TRef.of (T := ⟨S_, .f32⟩) main_call18_v0) (TRef.of (T := ⟨S_, .f32⟩) main_v182) (TRef.of (T := ⟨S_, .f32⟩) main_v186) select,
    TRef.unary (TRef.of (T := ⟨S_, .f32⟩) main_v183) (TRef.of (T := ⟨S256, .f32⟩) main_call19_v0) (broadcastInDim S256 ![] bcast_S_S256),
    TRef.binary (TRef.of (T := ⟨S256, .f32⟩) main_call19_v0) (TRef.of (T := ⟨S256, .f32⟩) main_arg2) (TRef.of (T := ⟨S256, .f32⟩) main_call19_v1) maximumf,
    TRef.unary (TRef.of (T := ⟨S_, .f32⟩) main_v184) (TRef.of (T := ⟨S256, .f32⟩) main_call19_v2) (broadcastInDim S256 ![] bcast_S_S256),
    TRef.binary (TRef.of (T := ⟨S256, .f32⟩) main_call19_v2) (TRef.of (T := ⟨S256, .f32⟩) main_call19_v1) (TRef.of (T := ⟨S256, .f32⟩) main_v187) minimumf,
    unary main_v183 main_v188 (broadcastInDim S256 ![] bcast_S_S256 : (⟨S_, .f32⟩ : BufTy).Contents (Elt F) → (⟨S256, .f32⟩ : BufTy).Contents (Elt F)) ]

/-- @main's operations 295 … 324 of 353 (window `main_part4`). -/
abbrev ops_part4_1 : List (HloOp τ sig (Elt F)) :=
  [ binary main_v187 main_v188 main_v189 (subf : (⟨S256, .f32⟩ : BufTy).Contents (Elt F) → (⟨S256, .f32⟩ : BufTy).Contents (Elt F) → (⟨S256, .f32⟩ : BufTy).Contents (Elt F)),
    unary main_v186 main_v190 (broadcastInDim S256 ![] bcast_S_S256 : (⟨S_, .f32⟩ : BufTy).Contents (Elt F) → (⟨S256, .f32⟩ : BufTy).Contents (Elt F)),
    binary main_v189 main_v190 main_v191 (Host.divf : (⟨S256, .f32⟩ : BufTy).Contents (Elt F) → (⟨S256, .f32⟩ : BufTy).Contents (Elt F) → (⟨S256, .f32⟩ : BufTy).Contents (Elt F)),
    nullary main_cst_76 (constant S_ .f32 0x3F000000#32),
    unary main_cst_76 main_v192 (broadcastInDim S256 ![] bcast_S_S256 : (⟨S_, .f32⟩ : BufTy).Contents (Elt F) → (⟨S256, .f32⟩ : BufTy).Contents (Elt F)),
    binary main_v191 main_v192 main_v193 (addf : (⟨S256, .f32⟩ : BufTy).Contents (Elt F) → (⟨S256, .f32⟩ : BufTy).Contents (Elt F) → (⟨S256, .f32⟩ : BufTy).Contents (Elt F)),
    unary main_v193 main_v194 (Host.floor : (⟨S256, .f32⟩ : BufTy).Contents (Elt F) → (⟨S256, .f32⟩ : BufTy).Contents (Elt F)),
    unary main_v186 main_v195 (broadcastInDim S256 ![] bcast_S_S256 : (⟨S_, .f32⟩ : BufTy).Contents (Elt F) → (⟨S256, .f32⟩ : BufTy).Contents (Elt F)),
    binary main_v194 main_v195 main_v196 (mulf : (⟨S256, .f32⟩ : BufTy).Contents (Elt F) → (⟨S256, .f32⟩ : BufTy).Contents (Elt F) → (⟨S256, .f32⟩ : BufTy).Contents (Elt F)),
    unary main_v183 main_v197 (broadcastInDim S256 ![] bcast_S_S256 : (⟨S_, .f32⟩ : BufTy).Contents (Elt F) → (⟨S256, .f32⟩ : BufTy).Contents (Elt F)),
    binary main_v196 main_v197 main_v198 (addf : (⟨S256, .f32⟩ : BufTy).Contents (Elt F) → (⟨S256, .f32⟩ : BufTy).Contents (Elt F) → (⟨S256, .f32⟩ : BufTy).Contents (Elt F)),
    nullary main_cst_77 (constant S_ .f32 0x00000000#32),
    binary main_v182 main_cst_77 main_v199 (cmpf .oeq : (⟨S_, .f32⟩ : BufTy).Contents (Elt F) → (⟨S_, .f32⟩ : BufTy).Contents (Elt F) → (⟨S_, .i1⟩ : BufTy).Contents (Elt F)),
    TRef.ternary (TRef.of (T := ⟨S_, .i1⟩) main_v199) (TRef.of (T := ⟨S256, .f32⟩) main_arg2) (TRef.of (T := ⟨S256, .f32⟩) main_v198) (TRef.of (T := ⟨S256, .f32⟩) main_v200) (fun p a b => select (broadcastInDim S256 ![] bcast_S_S256 p) a b),
    unary main_v175 main_v201 (broadcastInDim S1x256x1x1 ![1] bcast_S256_S1x256x1x1_1 : (⟨S256, .f32⟩ : BufTy).Contents (Elt F) → (⟨S1x256x1x1, .f32⟩ : BufTy).Contents (Elt F)),
    unary main_v201 main_v202 (broadcastInDim S64x256x56x56 ![0, 1, 2, 3] bcast_S1x256x1x1_S64x256x56x56_0_1_2_3 : (⟨S1x256x1x1, .f32⟩ : BufTy).Contents (Elt F) → (⟨S64x256x56x56, .f32⟩ : BufTy).Contents (Elt F)),
    binary main_v202 main_v150 main_v203 (mulf : (⟨S64x256x56x56, .f32⟩ : BufTy).Contents (Elt F) → (⟨S64x256x56x56, .f32⟩ : BufTy).Contents (Elt F) → (⟨S64x256x56x56, .f32⟩ : BufTy).Contents (Elt F)),
    unary main_v200 main_v204 (broadcastInDim S1x256x1x1 ![1] bcast_S256_S1x256x1x1_1 : (⟨S256, .f32⟩ : BufTy).Contents (Elt F) → (⟨S1x256x1x1, .f32⟩ : BufTy).Contents (Elt F)),
    unary main_v204 main_v205 (broadcastInDim S64x256x56x56 ![0, 1, 2, 3] bcast_S1x256x1x1_S64x256x56x56_0_1_2_3 : (⟨S1x256x1x1, .f32⟩ : BufTy).Contents (Elt F) → (⟨S64x256x56x56, .f32⟩ : BufTy).Contents (Elt F)),
    binary main_v203 main_v205 main_v206 (addf : (⟨S64x256x56x56, .f32⟩ : BufTy).Contents (Elt F) → (⟨S64x256x56x56, .f32⟩ : BufTy).Contents (Elt F) → (⟨S64x256x56x56, .f32⟩ : BufTy).Contents (Elt F)),
    nullary main_cst_78 (constant S_ .f32 0xFF800000#32),
    binary main_v206 main_cst_78 main_v207 ((fun x v => Host.reduce FloatOps.maximumf x v reducesTo_S64x256x56x56_S_d0_1_2_3 h_S_) : (⟨S64x256x56x56, .f32⟩ : BufTy).Contents (Elt F) → (⟨S_, .f32⟩ : BufTy).Contents (Elt F) → (⟨S_, .f32⟩ : BufTy).Contents (Elt F)),
    unary main_v207 main_v208 (Host.absf : (⟨S_, .f32⟩ : BufTy).Contents (Elt F) → (⟨S_, .f32⟩ : BufTy).Contents (Elt F)),
    nullary main_cst_79 (constant S_ .f32 0x7F800000#32),
    binary main_v206 main_cst_79 main_v209 ((fun x v => Host.reduce FloatOps.minimumf x v reducesTo_S64x256x56x56_S_d0_1_2_3 h_S_) : (⟨S64x256x56x56, .f32⟩ : BufTy).Contents (Elt F) → (⟨S_, .f32⟩ : BufTy).Contents (Elt F) → (⟨S_, .f32⟩ : BufTy).Contents (Elt F)),
    unary main_v209 main_v210 (Host.absf : (⟨S_, .f32⟩ : BufTy).Contents (Elt F) → (⟨S_, .f32⟩ : BufTy).Contents (Elt F)),
    binary main_v208 main_v210 main_v211 (maximumf : (⟨S_, .f32⟩ : BufTy).Contents (Elt F) → (⟨S_, .f32⟩ : BufTy).Contents (Elt F) → (⟨S_, .f32⟩ : BufTy).Contents (Elt F)),
    nullary main_cst_80 (constant S_ .f32 0x40000000#32),
    binary main_cst_80 main_v211 main_v212 (mulf : (⟨S_, .f32⟩ : BufTy).Contents (Elt F) → (⟨S_, .f32⟩ : BufTy).Contents (Elt F) → (⟨S_, .f32⟩ : BufTy).Contents (Elt F)),
    nullary main_cst_81 (constant S_ .f32 0x437F0000#32) ]

/-- @main's operations 325 … 328 of 353 (window `main_part4`). -/
abbrev ops_part4_2 : List (HloOp τ sig (Elt F)) :=
  [ binary main_v212 main_cst_81 main_v213 (Host.divf : (⟨S_, .f32⟩ : BufTy).Contents (Elt F) → (⟨S_, .f32⟩ : BufTy).Contents (Elt F) → (⟨S_, .f32⟩ : BufTy).Contents (Elt F)),
    nullary main_cst_82 (constant S_ .f32 0xC3000000#32),
    binary main_cst_82 main_v213 main_v214 (mulf : (⟨S_, .f32⟩ : BufTy).Contents (Elt F) → (⟨S_, .f32⟩ : BufTy).Contents (Elt F) → (⟨S_, .f32⟩ : BufTy).Contents (Elt F)),
    nullary main_cst_83 (constant S_ .f32 0x42FE0000#32) ]

/-- Window `main_part4`'s operations. Not an abbreviation: `main_eq` below splits `ops` into the windows and no further. -/
def ops_part4 : List (HloOp τ sig (Elt F)) :=
  ops_part4_0 ++ (ops_part4_1 ++ (ops_part4_2))

/-- @main's operations 329 … 353 of 353 (window `main_part5`). -/
abbrev ops_part5 : List (HloOp τ sig (Elt F)) :=
  [ binary main_cst_83 main_v213 main_v215 (mulf : (⟨S_, .f32⟩ : BufTy).Contents (Elt F) → (⟨S_, .f32⟩ : BufTy).Contents (Elt F) → (⟨S_, .f32⟩ : BufTy).Contents (Elt F)),
    nullary main_cst_84 (constant S_ .f32 0x00000000#32),
    binary main_v213 main_cst_84 main_v216 (cmpf .oeq : (⟨S_, .f32⟩ : BufTy).Contents (Elt F) → (⟨S_, .f32⟩ : BufTy).Contents (Elt F) → (⟨S_, .i1⟩ : BufTy).Contents (Elt F)),
    nullary main_cst_85 (constant S_ .f32 0x3F800000#32),
    TRef.unary (TRef.of (T := ⟨S_, .f32⟩) main_cst_85) (TRef.of (T := ⟨S_, .f32⟩) main_call21_v0) id,
    TRef.ternary (TRef.of (T := ⟨S_, .i1⟩) main_v216) (TRef.of (T := ⟨S_, .f32⟩) main_call21_v0) (TRef.of (T := ⟨S_, .f32⟩) main_v213) (TRef.of (T := ⟨S_, .f32⟩) main_v217) select,
    TRef.unary (TRef.of (T := ⟨S_, .f32⟩) main_v214) (TRef.of (T := ⟨S64x256x56x56, .f32⟩) main_call22_v0) (broadcastInDim S64x256x56x56 ![] bcast_S_S64x256x56x56),
    TRef.binary (TRef.of (T := ⟨S64x256x56x56, .f32⟩) main_call22_v0) (TRef.of (T := ⟨S64x256x56x56, .f32⟩) main_v206) (TRef.of (T := ⟨S64x256x56x56, .f32⟩) main_call22_v1) maximumf,
    TRef.unary (TRef.of (T := ⟨S_, .f32⟩) main_v215) (TRef.of (T := ⟨S64x256x56x56, .f32⟩) main_call22_v2) (broadcastInDim S64x256x56x56 ![] bcast_S_S64x256x56x56),
    TRef.binary (TRef.of (T := ⟨S64x256x56x56, .f32⟩) main_call22_v2) (TRef.of (T := ⟨S64x256x56x56, .f32⟩) main_call22_v1) (TRef.of (T := ⟨S64x256x56x56, .f32⟩) main_v218) minimumf,
    unary main_v214 main_v219 (broadcastInDim S64x256x56x56 ![] bcast_S_S64x256x56x56 : (⟨S_, .f32⟩ : BufTy).Contents (Elt F) → (⟨S64x256x56x56, .f32⟩ : BufTy).Contents (Elt F)),
    binary main_v218 main_v219 main_v220 (subf : (⟨S64x256x56x56, .f32⟩ : BufTy).Contents (Elt F) → (⟨S64x256x56x56, .f32⟩ : BufTy).Contents (Elt F) → (⟨S64x256x56x56, .f32⟩ : BufTy).Contents (Elt F)),
    unary main_v217 main_v221 (broadcastInDim S64x256x56x56 ![] bcast_S_S64x256x56x56 : (⟨S_, .f32⟩ : BufTy).Contents (Elt F) → (⟨S64x256x56x56, .f32⟩ : BufTy).Contents (Elt F)),
    binary main_v220 main_v221 main_v222 (Host.divf : (⟨S64x256x56x56, .f32⟩ : BufTy).Contents (Elt F) → (⟨S64x256x56x56, .f32⟩ : BufTy).Contents (Elt F) → (⟨S64x256x56x56, .f32⟩ : BufTy).Contents (Elt F)),
    nullary main_cst_86 (constant S_ .f32 0x3F000000#32),
    unary main_cst_86 main_v223 (broadcastInDim S64x256x56x56 ![] bcast_S_S64x256x56x56 : (⟨S_, .f32⟩ : BufTy).Contents (Elt F) → (⟨S64x256x56x56, .f32⟩ : BufTy).Contents (Elt F)),
    binary main_v222 main_v223 main_v224 (addf : (⟨S64x256x56x56, .f32⟩ : BufTy).Contents (Elt F) → (⟨S64x256x56x56, .f32⟩ : BufTy).Contents (Elt F) → (⟨S64x256x56x56, .f32⟩ : BufTy).Contents (Elt F)),
    unary main_v224 main_v225 (Host.floor : (⟨S64x256x56x56, .f32⟩ : BufTy).Contents (Elt F) → (⟨S64x256x56x56, .f32⟩ : BufTy).Contents (Elt F)),
    unary main_v217 main_v226 (broadcastInDim S64x256x56x56 ![] bcast_S_S64x256x56x56 : (⟨S_, .f32⟩ : BufTy).Contents (Elt F) → (⟨S64x256x56x56, .f32⟩ : BufTy).Contents (Elt F)),
    binary main_v225 main_v226 main_v227 (mulf : (⟨S64x256x56x56, .f32⟩ : BufTy).Contents (Elt F) → (⟨S64x256x56x56, .f32⟩ : BufTy).Contents (Elt F) → (⟨S64x256x56x56, .f32⟩ : BufTy).Contents (Elt F)),
    unary main_v214 main_v228 (broadcastInDim S64x256x56x56 ![] bcast_S_S64x256x56x56 : (⟨S_, .f32⟩ : BufTy).Contents (Elt F) → (⟨S64x256x56x56, .f32⟩ : BufTy).Contents (Elt F)),
    binary main_v227 main_v228 main_v229 (addf : (⟨S64x256x56x56, .f32⟩ : BufTy).Contents (Elt F) → (⟨S64x256x56x56, .f32⟩ : BufTy).Contents (Elt F) → (⟨S64x256x56x56, .f32⟩ : BufTy).Contents (Elt F)),
    nullary main_cst_87 (constant S_ .f32 0x00000000#32),
    binary main_v213 main_cst_87 main_v230 (cmpf .oeq : (⟨S_, .f32⟩ : BufTy).Contents (Elt F) → (⟨S_, .f32⟩ : BufTy).Contents (Elt F) → (⟨S_, .i1⟩ : BufTy).Contents (Elt F)),
    TRef.ternary (TRef.of (T := ⟨S_, .i1⟩) main_v230) (TRef.of (T := ⟨S64x256x56x56, .f32⟩) main_v206) (TRef.of (T := ⟨S64x256x56x56, .f32⟩) main_v229) (TRef.of (T := ⟨S64x256x56x56, .f32⟩) main_v231) (fun p a b => select (broadcastInDim S64x256x56x56 ![] bcast_S_S64x256x56x56 p) a b) ]

/-- @main's 353 operations, in order (a called function's operations stand in its call's place, spelt `TRef.…`). -/
abbrev ops : List (HloOp τ sig (Elt F)) :=
  ops_part0 ++ (ops_part1 ++ (ops_part2 ++ (ops_part3 ++ (ops_part4 ++ (ops_part5)))))

set_option maxRecDepth 8192 in
set_option maxHeartbeats 4000000 in
/-- The calls' bodies written out, the program's operations in order are the list's. -/
theorem main_part0_eq (c : Dev nD) : main_part0 (F := F) c = seq ops_part0 := by
  simp only [main_part0, ops_part0_0, ops_part0_1, ops_part0_2, ops_part0, seq, List.cons_append, List.nil_append, bind_assoc, pure_bind, bind_pure_unit,
    fn_where.body, fn_clip.body, fn_where_0.body, fn_clip_1.body, fn_where_2.body, fn_clip_3.body, fn_where_4.body, main_call0, main_call1, main_call2, main_call3, main_call4, main_call5, main_call6, main_call7, main_call8, main_call9, main_call10, main_call11, main_call12, main_call13, main_call14, main_call15, main_call16, main_call17, main_call18, main_call19, main_call20, main_call21, main_call22, main_call23]

set_option maxRecDepth 8192 in
set_option maxHeartbeats 4000000 in
/-- The calls' bodies written out, the program's operations in order are the list's. -/
theorem main_part1_eq (c : Dev nD) : main_part1 (F := F) c = seq ops_part1 := by
  simp only [main_part1, ops_part1_0, ops_part1_1, ops_part1_2, ops_part1, seq, List.cons_append, List.nil_append, bind_assoc, pure_bind, bind_pure_unit,
    fn_where.body, fn_clip.body, fn_where_0.body, fn_clip_1.body, fn_where_2.body, fn_clip_3.body, fn_where_4.body, main_call0, main_call1, main_call2, main_call3, main_call4, main_call5, main_call6, main_call7, main_call8, main_call9, main_call10, main_call11, main_call12, main_call13, main_call14, main_call15, main_call16, main_call17, main_call18, main_call19, main_call20, main_call21, main_call22, main_call23]

set_option maxRecDepth 8192 in
set_option maxHeartbeats 4000000 in
/-- The calls' bodies written out, the program's operations in order are the list's. -/
theorem main_part2_eq (c : Dev nD) : main_part2 (F := F) c = seq ops_part2 := by
  simp only [main_part2, ops_part2_0, ops_part2_1, ops_part2_2, ops_part2, seq, List.cons_append, List.nil_append, bind_assoc, pure_bind, bind_pure_unit,
    fn_where.body, fn_clip.body, fn_where_0.body, fn_clip_1.body, fn_where_2.body, fn_clip_3.body, fn_where_4.body, main_call0, main_call1, main_call2, main_call3, main_call4, main_call5, main_call6, main_call7, main_call8, main_call9, main_call10, main_call11, main_call12, main_call13, main_call14, main_call15, main_call16, main_call17, main_call18, main_call19, main_call20, main_call21, main_call22, main_call23]

set_option maxRecDepth 8192 in
set_option maxHeartbeats 4000000 in
/-- The calls' bodies written out, the program's operations in order are the list's. -/
theorem main_part3_eq (c : Dev nD) : main_part3 (F := F) c = seq ops_part3 := by
  simp only [main_part3, ops_part3_0, ops_part3_1, ops_part3_2, ops_part3, seq, List.cons_append, List.nil_append, bind_assoc, pure_bind, bind_pure_unit,
    fn_where.body, fn_clip.body, fn_where_0.body, fn_clip_1.body, fn_where_2.body, fn_clip_3.body, fn_where_4.body, main_call0, main_call1, main_call2, main_call3, main_call4, main_call5, main_call6, main_call7, main_call8, main_call9, main_call10, main_call11, main_call12, main_call13, main_call14, main_call15, main_call16, main_call17, main_call18, main_call19, main_call20, main_call21, main_call22, main_call23]

set_option maxRecDepth 8192 in
set_option maxHeartbeats 4000000 in
/-- The calls' bodies written out, the program's operations in order are the list's. -/
theorem main_part4_eq (c : Dev nD) : main_part4 (F := F) c = seq ops_part4 := by
  simp only [main_part4, ops_part4_0, ops_part4_1, ops_part4_2, ops_part4, seq, List.cons_append, List.nil_append, bind_assoc, pure_bind, bind_pure_unit,
    fn_where.body, fn_clip.body, fn_where_0.body, fn_clip_1.body, fn_where_2.body, fn_clip_3.body, fn_where_4.body, main_call0, main_call1, main_call2, main_call3, main_call4, main_call5, main_call6, main_call7, main_call8, main_call9, main_call10, main_call11, main_call12, main_call13, main_call14, main_call15, main_call16, main_call17, main_call18, main_call19, main_call20, main_call21, main_call22, main_call23]

set_option maxRecDepth 8192 in
set_option maxHeartbeats 4000000 in
/-- The calls' bodies written out, the program's operations in order are the list's. -/
theorem main_part5_eq (c : Dev nD) : main_part5 (F := F) c = seq ops_part5 := by
  simp only [main_part5, ops_part5, seq, List.cons_append, List.nil_append, bind_assoc, pure_bind, bind_pure_unit,
    fn_where.body, fn_clip.body, fn_where_0.body, fn_clip_1.body, fn_where_2.body, fn_clip_3.body, fn_where_4.body, main_call0, main_call1, main_call2, main_call3, main_call4, main_call5, main_call6, main_call7, main_call8, main_call9, main_call10, main_call11, main_call12, main_call13, main_call14, main_call15, main_call16, main_call17, main_call18, main_call19, main_call20, main_call21, main_call22, main_call23]

set_option maxRecDepth 8192 in
/-- The reference is its operations in a row. -/
theorem main_eq (c : Dev nD) : main (F := F) c = seq ops := by
  simp only [ops, seq_append, ← main_part0_eq c, ← main_part1_eq c, ← main_part2_eq c, ← main_part3_eq c, ← main_part4_eq c, ← main_part5_eq c]
  rfl
/-- No buffer of the reference belongs to a region. -/
theorem scopedRefs_eq : (Finset.univ.filter fun b : Ref sig .tc => b.isScoped) = ∅ := by decide
/-- Nor does a counter. -/
theorem scopedSems_eq : (Finset.univ.filter fun sm : SemLoc sig => sm.isScoped .tc) = ∅ := by decide
set_option maxRecDepth 8192 in
/-- These operations use the reference's buffers only. -/
theorem ops_part0_0_sub : (ops_part0_0 : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., binary_bufs_sub .., unary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub ..⟩
set_option maxRecDepth 8192 in
/-- None of these operations makes a new buffer. -/
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations use the reference's buffers only. -/
theorem ops_part0_1_sub : (ops_part0_1 : List (HloOp τ sig (Elt F))).Forall fun op => op.bufs ⊆ tcRefs τ sig :=
  ⟨unary_bufs_sub .., ternary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., binary_bufs_sub .., nullary_bufs_sub .., binary_bufs_sub .., ternary_bufs_sub .., unary_bufs_sub .., unary_bufs_sub .., binary_bufs_sub .., nullary_bufs_sub .., binary_bufs_sub .., unary_bufs_sub .., nullary_bufs_sub .., binary_bufs_sub .., unary_bufs_sub ..⟩
set_option maxRecDepth 8192 in
/-- None of these operations makes a new buffer. -/
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations use the reference's buffers only. -/
theorem ops_part0_2_sub : (ops_part0_2 : List (HloOp τ sig (Elt F))).Forall fun op => op.bufs ⊆ tcRefs τ sig :=
  ⟨binary_bufs_sub .., nullary_bufs_sub .., binary_bufs_sub .., nullary_bufs_sub ..⟩
set_option maxRecDepth 8192 in
/-- None of these operations makes a new buffer. -/
theorem ops_part0_2_fresh : (ops_part0_2 : List (HloOp τ sig (Elt F))).Forall fun op => op.fresh = ∅ :=
  ⟨rfl, rfl, rfl, rfl⟩
set_option maxRecDepth 8192 in
/-- These operations use the reference's buffers only. -/
theorem ops_part1_0_sub : (ops_part1_0 : List (HloOp τ sig (Elt F))).Forall fun op => op.bufs ⊆ tcRefs τ sig :=
  ⟨binary_bufs_sub .., nullary_bufs_sub .., binary_bufs_sub .., nullary_bufs_sub .., binary_bufs_sub .., nullary_bufs_sub .., binary_bufs_sub .., nullary_bufs_sub .., unary_bufs_sub .., ternary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., binary_bufs_sub .., nullary_bufs_sub .., binary_bufs_sub .., ternary_bufs_sub .., binary_bufs_sub ..⟩
set_option maxRecDepth 8192 in
/-- None of these operations makes a new buffer. -/
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations use the reference's buffers only. -/
theorem ops_part1_1_sub : (ops_part1_1 : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., binary_bufs_sub .., unary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub ..⟩
set_option maxRecDepth 8192 in
/-- None of these operations makes a new buffer. -/
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations use the reference's buffers only. -/
theorem ops_part1_2_sub : (ops_part1_2 : List (HloOp τ sig (Elt F))).Forall fun op => op.bufs ⊆ tcRefs τ sig :=
  ⟨unary_bufs_sub .., ternary_bufs_sub .., unary_bufs_sub .., binary_bufs_sub .., unary_bufs_sub .., binary_bufs_sub .., unary_bufs_sub .., binary_bufs_sub ..⟩
set_option maxRecDepth 8192 in
/-- None of these operations makes a new buffer. -/
theorem ops_part1_2_fresh : (ops_part1_2 : List (HloOp τ sig (Elt F))).Forall fun op => op.fresh = ∅ :=
  ⟨rfl, rfl, rfl, rfl, rfl, rfl, rfl, rfl⟩
set_option maxRecDepth 8192 in
/-- These operations use the reference's buffers only. -/
theorem ops_part2_0_sub : (ops_part2_0 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., binary_bufs_sub .., nullary_bufs_sub .., binary_bufs_sub .., ternary_bufs_sub .., nullary_bufs_sub .., unary_bufs_sub .., binary_bufs_sub .., unary_bufs_sub .., nullary_bufs_sub .., binary_bufs_sub .., unary_bufs_sub .., nullary_bufs_sub .., binary_bufs_sub .., unary_bufs_sub .., binary_bufs_sub .., nullary_bufs_sub .., binary_bufs_sub .., nullary_bufs_sub .., binary_bufs_sub .., nullary_bufs_sub .., binary_bufs_sub ..⟩
set_option maxRecDepth 8192 in
/-- None of these operations makes a new buffer. -/
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations use the reference's buffers only. -/
theorem ops_part2_1_sub : (ops_part2_1 : List (HloOp τ sig (Elt F))).Forall fun op => op.bufs ⊆ tcRefs τ sig :=
  ⟨nullary_bufs_sub .., binary_bufs_sub .., nullary_bufs_sub .., binary_bufs_sub .., nullary_bufs_sub .., unary_bufs_sub .., ternary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., binary_bufs_sub .., nullary_bufs_sub .., binary_bufs_sub .., ternary_bufs_sub .., unary_bufs_sub .., unary_bufs_sub .., binary_bufs_sub .., nullary_bufs_sub ..⟩
set_option maxRecDepth 8192 in
/-- None of these operations makes a new buffer. -/
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations use the reference's buffers only. -/
theorem ops_part2_2_sub : (ops_part2_2 : List (HloOp τ sig (Elt F))).Forall fun op => op.bufs ⊆ tcRefs τ sig :=
  ⟨binary_bufs_sub .., unary_bufs_sub .., nullary_bufs_sub .., binary_bufs_sub ..⟩
set_option maxRecDepth 8192 in
/-- None of these operations makes a new buffer. -/
theorem ops_part2_2_fresh : (ops_part2_2 : List (HloOp τ sig (Elt F))).Forall fun op => op.fresh = ∅ :=
  ⟨rfl, rfl, rfl, rfl⟩
set_option maxRecDepth 8192 in
/-- These operations use the reference's buffers only. -/
theorem ops_part3_0_sub : (ops_part3_0 : List (HloOp τ sig (Elt F))).Forall fun op => op.bufs ⊆ tcRefs τ sig :=
  ⟨unary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., unary_bufs_sub .., ternary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub ..⟩
set_option maxRecDepth 8192 in
/-- None of these operations makes a new buffer. -/
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations use the reference's buffers only. -/
theorem ops_part3_1_sub : (ops_part3_1 : List (HloOp τ sig (Elt F))).Forall fun op => op.bufs ⊆ tcRefs τ sig :=
  ⟨binary_bufs_sub .., nullary_bufs_sub .., binary_bufs_sub .., ternary_bufs_sub .., nullary_bufs_sub .., binary_bufs_sub .., unary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., unary_bufs_sub .., ternary_bufs_sub .., unary_bufs_sub .., binary_bufs_sub .., unary_bufs_sub .., binary_bufs_sub .., unary_bufs_sub .., binary_bufs_sub ..⟩
set_option maxRecDepth 8192 in
/-- None of these operations makes a new buffer. -/
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations use the reference's buffers only. -/
theorem ops_part3_2_sub : (ops_part3_2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub ..⟩
set_option maxRecDepth 8192 in
/-- None of these operations makes a new buffer. -/
theorem ops_part3_2_fresh : (ops_part3_2 : List (HloOp τ sig (Elt F))).Forall fun op => op.fresh = ∅ :=
  ⟨rfl, rfl, rfl, rfl, rfl, rfl, rfl, rfl⟩
set_option maxRecDepth 8192 in
/-- These operations use the reference's buffers only. -/
theorem ops_part4_0_sub : (ops_part4_0 : List (HloOp τ sig (Elt F))).Forall fun op => op.bufs ⊆ tcRefs τ sig :=
  ⟨unary_bufs_sub .., binary_bufs_sub .., nullary_bufs_sub .., binary_bufs_sub .., ternary_bufs_sub .., nullary_bufs_sub .., binary_bufs_sub .., unary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., unary_bufs_sub .., ternary_bufs_sub .., unary_bufs_sub .., binary_bufs_sub .., unary_bufs_sub .., binary_bufs_sub .., unary_bufs_sub ..⟩
set_option maxRecDepth 8192 in
/-- None of these operations makes a new buffer. -/
theorem ops_part4_0_fresh : (ops_part4_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations use the reference's buffers only. -/
theorem ops_part4_1_sub : (ops_part4_1 : List (HloOp τ sig (Elt F))).Forall fun op => op.bufs ⊆ tcRefs τ sig :=
  ⟨binary_bufs_sub .., unary_bufs_sub .., binary_bufs_sub .., nullary_bufs_sub .., unary_bufs_sub .., binary_bufs_sub .., unary_bufs_sub .., unary_bufs_sub .., binary_bufs_sub .., unary_bufs_sub .., binary_bufs_sub .., nullary_bufs_sub .., binary_bufs_sub .., ternary_bufs_sub .., unary_bufs_sub .., unary_bufs_sub .., binary_bufs_sub .., unary_bufs_sub .., unary_bufs_sub .., binary_bufs_sub .., nullary_bufs_sub .., binary_bufs_sub .., unary_bufs_sub .., nullary_bufs_sub .., binary_bufs_sub .., unary_bufs_sub .., binary_bufs_sub .., nullary_bufs_sub .., binary_bufs_sub .., nullary_bufs_sub ..⟩
set_option maxRecDepth 8192 in
/-- None of these operations makes a new buffer. -/
theorem ops_part4_1_fresh : (ops_part4_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations use the reference's buffers only. -/
theorem ops_part4_2_sub : (ops_part4_2 : List (HloOp τ sig (Elt F))).Forall fun op => op.bufs ⊆ tcRefs τ sig :=
  ⟨binary_bufs_sub .., nullary_bufs_sub .., binary_bufs_sub .., nullary_bufs_sub ..⟩
set_option maxRecDepth 8192 in
/-- None of these operations makes a new buffer. -/
theorem ops_part4_2_fresh : (ops_part4_2 : List (HloOp τ sig (Elt F))).Forall fun op => op.fresh = ∅ :=
  ⟨rfl, rfl, rfl, rfl⟩
set_option maxRecDepth 8192 in
/-- These operations use the reference's buffers only. -/
theorem ops_part5_sub : (ops_part5 : List (HloOp τ sig (Elt F))).Forall fun op => op.bufs ⊆ tcRefs τ sig :=
  ⟨binary_bufs_sub .., nullary_bufs_sub .., binary_bufs_sub .., nullary_bufs_sub .., unary_bufs_sub .., ternary_bufs_sub .., unary_bufs_sub .., binary_bufs_sub .., unary_bufs_sub .., binary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., binary_bufs_sub .., nullary_bufs_sub .., binary_bufs_sub .., ternary_bufs_sub ..⟩
set_option maxRecDepth 8192 in
/-- None of these operations makes a new buffer. -/
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
/-- The operations use the reference's buffers only. -/
theorem ops_sub : (ops : List (HloOp τ sig (Elt F))).Forall fun op => op.bufs ⊆ tcRefs τ sig :=
  List.forall_iff_forall_mem.mpr fun op h => by
    simp only [ops, ops_part0, ops_part1, ops_part2, ops_part3, ops_part4, List.mem_append, or_assoc] at h
    rcases h with h | h | h | h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_0_sub op h, List.forall_iff_forall_mem.mp ops_part4_1_sub op h, List.forall_iff_forall_mem.mp ops_part4_2_sub op h, List.forall_iff_forall_mem.mp ops_part5_sub op h]
/-- No operation makes a new buffer. -/
theorem ops_fresh : ∀ op ∈ (ops : List (HloOp τ sig (Elt F))), op.fresh = ∅ := fun op h => by
    simp only [ops, ops_part0, ops_part1, ops_part2, ops_part3, ops_part4, List.mem_append, or_assoc] at h
    rcases h with h | h | h | h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_0_fresh op h, List.forall_iff_forall_mem.mp ops_part4_1_fresh op h, List.forall_iff_forall_mem.mp ops_part4_2_fresh op h, List.forall_iff_forall_mem.mp ops_part5_fresh op h]

end Cert.ReferenceIdeal.Ref

end
-- ==== Proof.RefVals1.lean ====
module

public import proofs.«01_k».proof.Proof.RefOps

@[expose] public section

set_option Elab.async false

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v7`'s composed term of the arguments (named: it is used 4 times). -/
def res_main_v7 (V0 : Valuation τ sig (Elt F)) : (Proc.devRef .tc main_v7 : DevRef τ sig).ty.Contents (Elt F) :=
  addf (mulf (broadcastInDim S256 ![] bcast_S_S256 (constant S_ .f32 0x3F600000#32)) (V0 (Proc.devRef .tc main_arg3))) (mulf (broadcastInDim S256 ![] bcast_S_S256 (constant S_ .f32 0x3E000000#32)) (Host.divf (Host.reduceAdd (V0 (Proc.devRef .tc main_arg0)) (constant S_ .f32 0x00000000#32) reducesTo_S64x256x56x56_S256_d0_2_3 h_S_) (broadcastInDim S256 ![] bcast_S_S256 (constant S_ .f32 0x48440000#32))))

set_option maxRecDepth 8192 in
/-- `main_v14`'s composed term of the arguments (named: it is used 5 times). -/
def res_main_v14 (V0 : Valuation τ sig (Elt F)) : (Proc.devRef .tc main_v14 : DevRef τ sig).ty.Contents (Elt F) :=
  Host.divf (mulf (constant S_ .f32 0x40000000#32) (maximumf (Host.absf (Host.reduce FloatOps.maximumf (res_main_v7 V0) (constant S_ .f32 0xFF800000#32) reducesTo_S256_S_d0 h_S_)) (Host.absf (Host.reduce FloatOps.minimumf (res_main_v7 V0) (constant S_ .f32 0x7F800000#32) reducesTo_S256_S_d0 h_S_)))) (constant S_ .f32 0x437F0000#32)

set_option maxRecDepth 8192 in
/-- `main_v15`'s composed term of the arguments (named: it is used 3 times). -/
def res_main_v15 (V0 : Valuation τ sig (Elt F)) : (Proc.devRef .tc main_v15 : DevRef τ sig).ty.Contents (Elt F) :=
  mulf (constant S_ .f32 0xC3000000#32) (res_main_v14 V0)

set_option maxRecDepth 8192 in
/-- `main_v18`'s composed term of the arguments (named: it is used 2 times). -/
def res_main_v18 (V0 : Valuation τ sig (Elt F)) : (Proc.devRef .tc main_v18 : DevRef τ sig).ty.Contents (Elt F) :=
  select (cmpf .oeq (res_main_v14 V0) (constant S_ .f32 0x00000000#32)) (id (constant S_ .f32 0x3F800000#32)) (res_main_v14 V0)

set_option maxRecDepth 8192 in
/-- `main_v35`'s composed term of the arguments (named: it is used 4 times). -/
def res_main_v35 (V0 : Valuation τ sig (Elt F)) : (Proc.devRef .tc main_v35 : DevRef τ sig).ty.Contents (Elt F) :=
  subf (V0 (Proc.devRef .tc main_arg0)) (broadcastInDim S64x256x56x56 ![0, 1, 2, 3] bcast_S1x256x1x1_S64x256x56x56_0_1_2_3 (broadcastInDim S1x256x1x1 ![1] bcast_S256_S1x256x1x1_1 (select (broadcastInDim S256 ![] bcast_S_S256 (cmpf .oeq (res_main_v14 V0) (constant S_ .f32 0x00000000#32))) (res_main_v7 V0) (addf (mulf (Host.floor (addf (Host.divf (subf (minimumf (broadcastInDim S256 ![] bcast_S_S256 (mulf (constant S_ .f32 0x42FE0000#32) (res_main_v14 V0))) (maximumf (broadcastInDim S256 ![] bcast_S_S256 (res_main_v15 V0)) (res_main_v7 V0))) (broadcastInDim S256 ![] bcast_S_S256 (res_main_v15 V0))) (broadcastInDim S256 ![] bcast_S_S256 (res_main_v18 V0))) (broadcastInDim S256 ![] bcast_S_S256 (constant S_ .f32 0x3F000000#32)))) (broadcastInDim S256 ![] bcast_S_S256 (res_main_v18 V0))) (broadcastInDim S256 ![] bcast_S_S256 (res_main_v15 V0))))))

set_option maxRecDepth 8192 in
/-- `main_v42`'s composed term of the arguments (named: it is used 5 times). -/
def res_main_v42 (V0 : Valuation τ sig (Elt F)) : (Proc.devRef .tc main_v42 : DevRef τ sig).ty.Contents (Elt F) :=
  Host.divf (mulf (constant S_ .f32 0x40000000#32) (maximumf (Host.absf (Host.reduce FloatOps.maximumf (res_main_v35 V0) (constant S_ .f32 0xFF800000#32) reducesTo_S64x256x56x56_S_d0_1_2_3 h_S_)) (Host.absf (Host.reduce FloatOps.minimumf (res_main_v35 V0) (constant S_ .f32 0x7F800000#32) reducesTo_S64x256x56x56_S_d0_1_2_3 h_S_)))) (constant S_ .f32 0x437F0000#32)

set_option maxRecDepth 8192 in
/-- `main_v43`'s composed term of the arguments (named: it is used 3 times). -/
def res_main_v43 (V0 : Valuation τ sig (Elt F)) : (Proc.devRef .tc main_v43 : DevRef τ sig).ty.Contents (Elt F) :=
  mulf (constant S_ .f32 0xC3000000#32) (res_main_v42 V0)

set_option maxRecDepth 8192 in
/-- `main_v46`'s composed term of the arguments (named: it is used 2 times). -/
def res_main_v46 (V0 : Valuation τ sig (Elt F)) : (Proc.devRef .tc main_v46 : DevRef τ sig).ty.Contents (Elt F) :=
  select (cmpf .oeq (res_main_v42 V0) (constant S_ .f32 0x00000000#32)) (id (constant S_ .f32 0x3F800000#32)) (res_main_v42 V0)

set_option maxRecDepth 8192 in
/-- `main_v60`'s composed term of the arguments (named: it is used 3 times). -/
def res_main_v60 (V0 : Valuation τ sig (Elt F)) : (Proc.devRef .tc main_v60 : DevRef τ sig).ty.Contents (Elt F) :=
  select (broadcastInDim S64x256x56x56 ![] bcast_S_S64x256x56x56 (cmpf .oeq (res_main_v42 V0) (constant S_ .f32 0x00000000#32))) (res_main_v35 V0) (addf (mulf (Host.floor (addf (Host.divf (subf (minimumf (broadcastInDim S64x256x56x56 ![] bcast_S_S64x256x56x56 (mulf (constant S_ .f32 0x42FE0000#32) (res_main_v42 V0))) (maximumf (broadcastInDim S64x256x56x56 ![] bcast_S_S64x256x56x56 (res_main_v43 V0)) (res_main_v35 V0))) (broadcastInDim S64x256x56x56 ![] bcast_S_S64x256x56x56 (res_main_v43 V0))) (broadcastInDim S64x256x56x56 ![] bcast_S_S64x256x56x56 (res_main_v46 V0))) (broadcastInDim S64x256x56x56 ![] bcast_S_S64x256x56x56 (constant S_ .f32 0x3F000000#32)))) (broadcastInDim S64x256x56x56 ![] bcast_S_S64x256x56x56 (res_main_v46 V0))) (broadcastInDim S64x256x56x56 ![] bcast_S_S64x256x56x56 (res_main_v43 V0)))

set_option maxRecDepth 8192 in
/-- `main_v69`'s composed term of the arguments (named: it is used 4 times). -/
def res_main_v69 (V0 : Valuation τ sig (Elt F)) : (Proc.devRef .tc main_v69 : DevRef τ sig).ty.Contents (Elt F) :=
  addf (mulf (broadcastInDim S256 ![] bcast_S_S256 (constant S_ .f32 0x3F600000#32)) (V0 (Proc.devRef .tc main_arg4))) (mulf (broadcastInDim S256 ![] bcast_S_S256 (constant S_ .f32 0x3E000000#32)) (Host.divf (Host.reduceAdd (mulf (res_main_v60 V0) (res_main_v60 V0)) (constant S_ .f32 0x00000000#32) reducesTo_S64x256x56x56_S256_d0_2_3 h_S_) (broadcastInDim S256 ![] bcast_S_S256 (constant S_ .f32 0x48440000#32))))

set_option maxRecDepth 8192 in
/-- `main_v76`'s composed term of the arguments (named: it is used 5 times). -/
def res_main_v76 (V0 : Valuation τ sig (Elt F)) : (Proc.devRef .tc main_v76 : DevRef τ sig).ty.Contents (Elt F) :=
  Host.divf (mulf (constant S_ .f32 0x40000000#32) (maximumf (Host.absf (Host.reduce FloatOps.maximumf (res_main_v69 V0) (constant S_ .f32 0xFF800000#32) reducesTo_S256_S_d0 h_S_)) (Host.absf (Host.reduce FloatOps.minimumf (res_main_v69 V0) (constant S_ .f32 0x7F800000#32) reducesTo_S256_S_d0 h_S_)))) (constant S_ .f32 0x437F0000#32)

set_option maxRecDepth 8192 in
/-- `main_v77`'s composed term of the arguments (named: it is used 3 times). -/
def res_main_v77 (V0 : Valuation τ sig (Elt F)) : (Proc.devRef .tc main_v77 : DevRef τ sig).ty.Contents (Elt F) :=
  mulf (constant S_ .f32 0xC3000000#32) (res_main_v76 V0)

set_option maxRecDepth 8192 in
/-- `main_v80`'s composed term of the arguments (named: it is used 2 times). -/
def res_main_v80 (V0 : Valuation τ sig (Elt F)) : (Proc.devRef .tc main_v80 : DevRef τ sig).ty.Contents (Elt F) :=
  select (cmpf .oeq (res_main_v76 V0) (constant S_ .f32 0x00000000#32)) (id (constant S_ .f32 0x3F800000#32)) (res_main_v76 V0)

set_option maxRecDepth 8192 in
/-- `main_v97`'s composed term of the arguments (named: it is used 4 times). -/
def res_main_v97 (V0 : Valuation τ sig (Elt F)) : (Proc.devRef .tc main_v97 : DevRef τ sig).ty.Contents (Elt F) :=
  Host.sqrt (addf (select (broadcastInDim S256 ![] bcast_S_S256 (cmpf .oeq (res_main_v76 V0) (constant S_ .f32 0x00000000#32))) (res_main_v69 V0) (addf (mulf (Host.floor (addf (Host.divf (subf (minimumf (broadcastInDim S256 ![] bcast_S_S256 (mulf (constant S_ .f32 0x42FE0000#32) (res_main_v76 V0))) (maximumf (broadcastInDim S256 ![] bcast_S_S256 (res_main_v77 V0)) (res_main_v69 V0))) (broadcastInDim S256 ![] bcast_S_S256 (res_main_v77 V0))) (broadcastInDim S256 ![] bcast_S_S256 (res_main_v80 V0))) (broadcastInDim S256 ![] bcast_S_S256 (constant S_ .f32 0x3F000000#32)))) (broadcastInDim S256 ![] bcast_S_S256 (res_main_v80 V0))) (broadcastInDim S256 ![] bcast_S_S256 (res_main_v77 V0)))) (broadcastInDim S256 ![] bcast_S_S256 (constant S_ .f32 0x3727C5AC#32)))

set_option maxRecDepth 8192 in
/-- `main_v104`'s composed term of the arguments (named: it is used 5 times). -/
def res_main_v104 (V0 : Valuation τ sig (Elt F)) : (Proc.devRef .tc main_v104 : DevRef τ sig).ty.Contents (Elt F) :=
  Host.divf (mulf (constant S_ .f32 0x40000000#32) (maximumf (Host.absf (Host.reduce FloatOps.maximumf (res_main_v97 V0) (constant S_ .f32 0xFF800000#32) reducesTo_S256_S_d0 h_S_)) (Host.absf (Host.reduce FloatOps.minimumf (res_main_v97 V0) (constant S_ .f32 0x7F800000#32) reducesTo_S256_S_d0 h_S_)))) (constant S_ .f32 0x437F0000#32)

set_option maxRecDepth 8192 in
/-- `main_v105`'s composed term of the arguments (named: it is used 3 times). -/
def res_main_v105 (V0 : Valuation τ sig (Elt F)) : (Proc.devRef .tc main_v105 : DevRef τ sig).ty.Contents (Elt F) :=
  mulf (constant S_ .f32 0xC3000000#32) (res_main_v104 V0)

set_option maxRecDepth 8192 in
/-- `main_v108`'s composed term of the arguments (named: it is used 2 times). -/
def res_main_v108 (V0 : Valuation τ sig (Elt F)) : (Proc.devRef .tc main_v108 : DevRef τ sig).ty.Contents (Elt F) :=
  select (cmpf .oeq (res_main_v104 V0) (constant S_ .f32 0x00000000#32)) (id (constant S_ .f32 0x3F800000#32)) (res_main_v104 V0)

set_option maxRecDepth 8192 in
/-- `main_v125`'s composed term of the arguments (named: it is used 4 times). -/
def res_main_v125 (V0 : Valuation τ sig (Elt F)) : (Proc.devRef .tc main_v125 : DevRef τ sig).ty.Contents (Elt F) :=
  Host.divf (res_main_v60 V0) (broadcastInDim S64x256x56x56 ![0, 1, 2, 3] bcast_S1x256x1x1_S64x256x56x56_0_1_2_3 (broadcastInDim S1x256x1x1 ![1] bcast_S256_S1x256x1x1_1 (select (broadcastInDim S256 ![] bcast_S_S256 (cmpf .oeq (res_main_v104 V0) (constant S_ .f32 0x00000000#32))) (res_main_v97 V0) (addf (mulf (Host.floor (addf (Host.divf (subf (minimumf (broadcastInDim S256 ![] bcast_S_S256 (mulf (constant S_ .f32 0x42FE0000#32) (res_main_v104 V0))) (maximumf (broadcastInDim S256 ![] bcast_S_S256 (res_main_v105 V0)) (res_main_v97 V0))) (broadcastInDim S256 ![] bcast_S_S256 (res_main_v105 V0))) (broadcastInDim S256 ![] bcast_S_S256 (res_main_v108 V0))) (broadcastInDim S256 ![] bcast_S_S256 (constant S_ .f32 0x3F000000#32)))) (broadcastInDim S256 ![] bcast_S_S256 (res_main_v108 V0))) (broadcastInDim S256 ![] bcast_S_S256 (res_main_v105 V0))))))

set_option maxRecDepth 8192 in
/-- `main_v132`'s composed term of the arguments (named: it is used 5 times). -/
def res_main_v132 (V0 : Valuation τ sig (Elt F)) : (Proc.devRef .tc main_v132 : DevRef τ sig).ty.Contents (Elt F) :=
  Host.divf (mulf (constant S_ .f32 0x40000000#32) (maximumf (Host.absf (Host.reduce FloatOps.maximumf (res_main_v125 V0) (constant S_ .f32 0xFF800000#32) reducesTo_S64x256x56x56_S_d0_1_2_3 h_S_)) (Host.absf (Host.reduce FloatOps.minimumf (res_main_v125 V0) (constant S_ .f32 0x7F800000#32) reducesTo_S64x256x56x56_S_d0_1_2_3 h_S_)))) (constant S_ .f32 0x437F0000#32)

set_option maxRecDepth 8192 in
/-- `main_v133`'s composed term of the arguments (named: it is used 3 times). -/
def res_main_v133 (V0 : Valuation τ sig (Elt F)) : (Proc.devRef .tc main_v133 : DevRef τ sig).ty.Contents (Elt F) :=
  mulf (constant S_ .f32 0xC3000000#32) (res_main_v132 V0)

set_option maxRecDepth 8192 in
/-- `main_v136`'s composed term of the arguments (named: it is used 2 times). -/
def res_main_v136 (V0 : Valuation τ sig (Elt F)) : (Proc.devRef .tc main_v136 : DevRef τ sig).ty.Contents (Elt F) :=
  select (cmpf .oeq (res_main_v132 V0) (constant S_ .f32 0x00000000#32)) (id (constant S_ .f32 0x3F800000#32)) (res_main_v132 V0)

set_option maxRecDepth 8192 in
/-- `main_v157`'s composed term of the arguments (named: it is used 5 times). -/
def res_main_v157 (V0 : Valuation τ sig (Elt F)) : (Proc.devRef .tc main_v157 : DevRef τ sig).ty.Contents (Elt F) :=
  Host.divf (mulf (constant S_ .f32 0x40000000#32) (maximumf (Host.absf (Host.reduce FloatOps.maximumf (V0 (Proc.devRef .tc main_arg1)) (constant S_ .f32 0xFF800000#32) reducesTo_S256_S_d0 h_S_)) (Host.absf (Host.reduce FloatOps.minimumf (V0 (Proc.devRef .tc main_arg1)) (constant S_ .f32 0x7F800000#32) reducesTo_S256_S_d0 h_S_)))) (constant S_ .f32 0x437F0000#32)

set_option maxRecDepth 8192 in
/-- `main_v158`'s composed term of the arguments (named: it is used 3 times). -/
def res_main_v158 (V0 : Valuation τ sig (Elt F)) : (Proc.devRef .tc main_v158 : DevRef τ sig).ty.Contents (Elt F) :=
  mulf (constant S_ .f32 0xC3000000#32) (res_main_v157 V0)

set_option maxRecDepth 8192 in
/-- `main_v161`'s composed term of the arguments (named: it is used 2 times). -/
def res_main_v161 (V0 : Valuation τ sig (Elt F)) : (Proc.devRef .tc main_v161 : DevRef τ sig).ty.Contents (Elt F) :=
  select (cmpf .oeq (res_main_v157 V0) (constant S_ .f32 0x00000000#32)) (id (constant S_ .f32 0x3F800000#32)) (res_main_v157 V0)

set_option maxRecDepth 8192 in
/-- `main_v182`'s composed term of the arguments (named: it is used 5 times). -/
def res_main_v182 (V0 : Valuation τ sig (Elt F)) : (Proc.devRef .tc main_v182 : DevRef τ sig).ty.Contents (Elt F) :=
  Host.divf (mulf (constant S_ .f32 0x40000000#32) (maximumf (Host.absf (Host.reduce FloatOps.maximumf (V0 (Proc.devRef .tc main_arg2)) (constant S_ .f32 0xFF800000#32) reducesTo_S256_S_d0 h_S_)) (Host.absf (Host.reduce FloatOps.minimumf (V0 (Proc.devRef .tc main_arg2)) (constant S_ .f32 0x7F800000#32) reducesTo_S256_S_d0 h_S_)))) (constant S_ .f32 0x437F0000#32)

set_option maxRecDepth 8192 in
/-- `main_v183`'s composed term of the arguments (named: it is used 3 times). -/
def res_main_v183 (V0 : Valuation τ sig (Elt F)) : (Proc.devRef .tc main_v183 : DevRef τ sig).ty.Contents (Elt F) :=
  mulf (constant S_ .f32 0xC3000000#32) (res_main_v182 V0)

set_option maxRecDepth 8192 in
/-- `main_v186`'s composed term of the arguments (named: it is used 2 times). -/
def res_main_v186 (V0 : Valuation τ sig (Elt F)) : (Proc.devRef .tc main_v186 : DevRef τ sig).ty.Contents (Elt F) :=
  select (cmpf .oeq (res_main_v182 V0) (constant S_ .f32 0x00000000#32)) (id (constant S_ .f32 0x3F800000#32)) (res_main_v182 V0)

set_option maxRecDepth 8192 in
/-- `main_v206`'s composed term of the arguments (named: it is used 4 times). -/
def res_main_v206 (V0 : Valuation τ sig (Elt F)) : (Proc.devRef .tc main_v206 : DevRef τ sig).ty.Contents (Elt F) :=
  addf (mulf (broadcastInDim S64x256x56x56 ![0, 1, 2, 3] bcast_S1x256x1x1_S64x256x56x56_0_1_2_3 (broadcastInDim S1x256x1x1 ![1] bcast_S256_S1x256x1x1_1 (select (broadcastInDim S256 ![] bcast_S_S256 (cmpf .oeq (res_main_v157 V0) (constant S_ .f32 0x00000000#32))) (V0 (Proc.devRef .tc main_arg1)) (addf (mulf (Host.floor (addf (Host.divf (subf (minimumf (broadcastInDim S256 ![] bcast_S_S256 (mulf (constant S_ .f32 0x42FE0000#32) (res_main_v157 V0))) (maximumf (broadcastInDim S256 ![] bcast_S_S256 (res_main_v158 V0)) (V0 (Proc.devRef .tc main_arg1)))) (broadcastInDim S256 ![] bcast_S_S256 (res_main_v158 V0))) (broadcastInDim S256 ![] bcast_S_S256 (res_main_v161 V0))) (broadcastInDim S256 ![] bcast_S_S256 (constant S_ .f32 0x3F000000#32)))) (broadcastInDim S256 ![] bcast_S_S256 (res_main_v161 V0))) (broadcastInDim S256 ![] bcast_S_S256 (res_main_v158 V0)))))) (select (broadcastInDim S64x256x56x56 ![] bcast_S_S64x256x56x56 (cmpf .oeq (res_main_v132 V0) (constant S_ .f32 0x00000000#32))) (res_main_v125 V0) (addf (mulf (Host.floor (addf (Host.divf (subf (minimumf (broadcastInDim S64x256x56x56 ![] bcast_S_S64x256x56x56 (mulf (constant S_ .f32 0x42FE0000#32) (res_main_v132 V0))) (maximumf (broadcastInDim S64x256x56x56 ![] bcast_S_S64x256x56x56 (res_main_v133 V0)) (res_main_v125 V0))) (broadcastInDim S64x256x56x56 ![] bcast_S_S64x256x56x56 (res_main_v133 V0))) (broadcastInDim S64x256x56x56 ![] bcast_S_S64x256x56x56 (res_main_v136 V0))) (broadcastInDim S64x256x56x56 ![] bcast_S_S64x256x56x56 (constant S_ .f32 0x3F000000#32)))) (broadcastInDim S64x256x56x56 ![] bcast_S_S64x256x56x56 (res_main_v136 V0))) (broadcastInDim S64x256x56x56 ![] bcast_S_S64x256x56x56 (res_main_v133 V0))))) (broadcastInDim S64x256x56x56 ![0, 1, 2, 3] bcast_S1x256x1x1_S64x256x56x56_0_1_2_3 (broadcastInDim S1x256x1x1 ![1] bcast_S256_S1x256x1x1_1 (select (broadcastInDim S256 ![] bcast_S_S256 (cmpf .oeq (res_main_v182 V0) (constant S_ .f32 0x00000000#32))) (V0 (Proc.devRef .tc main_arg2)) (addf (mulf (Host.floor (addf (Host.divf (subf (minimumf (broadcastInDim S256 ![] bcast_S_S256 (mulf (constant S_ .f32 0x42FE0000#32) (res_main_v182 V0))) (maximumf (broadcastInDim S256 ![] bcast_S_S256 (res_main_v183 V0)) (V0 (Proc.devRef .tc main_arg2)))) (broadcastInDim S256 ![] bcast_S_S256 (res_main_v183 V0))) (broadcastInDim S256 ![] bcast_S_S256 (res_main_v186 V0))) (broadcastInDim S256 ![] bcast_S_S256 (constant S_ .f32 0x3F000000#32)))) (broadcastInDim S256 ![] bcast_S_S256 (res_main_v186 V0))) (broadcastInDim S256 ![] bcast_S_S256 (res_main_v183 V0))))))

set_option maxRecDepth 8192 in
/-- `main_v213`'s composed term of the arguments (named: it is used 5 times). -/
def res_main_v213 (V0 : Valuation τ sig (Elt F)) : (Proc.devRef .tc main_v213 : DevRef τ sig).ty.Contents (Elt F) :=
  Host.divf (mulf (constant S_ .f32 0x40000000#32) (maximumf (Host.absf (Host.reduce FloatOps.maximumf (res_main_v206 V0) (constant S_ .f32 0xFF800000#32) reducesTo_S64x256x56x56_S_d0_1_2_3 h_S_)) (Host.absf (Host.reduce FloatOps.minimumf (res_main_v206 V0) (constant S_ .f32 0x7F800000#32) reducesTo_S64x256x56x56_S_d0_1_2_3 h_S_)))) (constant S_ .f32 0x437F0000#32)

set_option maxRecDepth 8192 in
/-- `main_v214`'s composed term of the arguments (named: it is used 3 times). -/
def res_main_v214 (V0 : Valuation τ sig (Elt F)) : (Proc.devRef .tc main_v214 : DevRef τ sig).ty.Contents (Elt F) :=
  mulf (constant S_ .f32 0xC3000000#32) (res_main_v213 V0)

set_option maxRecDepth 8192 in
/-- `main_v217`'s composed term of the arguments (named: it is used 2 times). -/
def res_main_v217 (V0 : Valuation τ sig (Elt F)) : (Proc.devRef .tc main_v217 : DevRef τ sig).ty.Contents (Elt F) :=
  select (cmpf .oeq (res_main_v213 V0) (constant S_ .f32 0x00000000#32)) (id (constant S_ .f32 0x3F800000#32)) (res_main_v213 V0)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_cst_0, main_v1, main_v2, main_cst_1, main_v3, main_v4, main_cst_2, main_v5, main_v6, main_v7, main_cst_3, main_v8, main_v9, main_cst_4, main_v10, main_v11, main_v12, main_cst_5, main_v13, main_cst_6, main_v14, main_cst_7, main_v15, main_cst_8, main_v16, main_cst_9, main_v17, main_cst_10]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
set_option maxRecDepth 8192 in
set_option maxHeartbeats 2000000 in
theorem val0_1_main_v7 (V0 : Valuation τ sig (Elt F)) : val0_1 V0 (no_index (Proc.devRef .tc main_v7)) = res_main_v7 V0 := by
  unfold val0_1
  simp only [ops_part0_0]
  after_results_simp
  simp only [val0_main_arg0, val0_main_arg3] <;> rfl
set_option maxRecDepth 8192 in
set_option maxHeartbeats 2000000 in
theorem val0_1_main_v14 (V0 : Valuation τ sig (Elt F)) : val0_1 V0 (no_index (Proc.devRef .tc main_v14)) = res_main_v14 V0 := by
  unfold val0_1
  simp only [ops_part0_0]
  after_results_simp
  simp only [val0_main_arg0, val0_main_arg3] <;> rfl
set_option maxRecDepth 8192 in
set_option maxHeartbeats 2000000 in
theorem val0_1_main_v15 (V0 : Valuation τ sig (Elt F)) : val0_1 V0 (no_index (Proc.devRef .tc main_v15)) = res_main_v15 V0 := by
  unfold val0_1
  simp only [ops_part0_0]
  after_results_simp
  simp only [val0_main_arg0, val0_main_arg3] <;> rfl
set_option maxRecDepth 8192 in
set_option maxHeartbeats 2000000 in
theorem val0_1_main_v16 (V0 : Valuation τ sig (Elt F)) : val0_1 V0 (no_index (Proc.devRef .tc main_v16)) = mulf (constant S_ .f32 0x42FE0000#32) (res_main_v14 V0) := by
  unfold val0_1
  simp only [ops_part0_0]
  after_results_simp
  simp only [val0_main_arg0, val0_main_arg3] <;> rfl
set_option maxRecDepth 8192 in
set_option maxHeartbeats 2000000 in
theorem val0_1_main_v17 (V0 : Valuation τ sig (Elt F)) : val0_1 V0 (no_index (Proc.devRef .tc main_v17)) = cmpf .oeq (res_main_v14 V0) (constant S_ .f32 0x00000000#32) := by
  unfold val0_1
  simp only [ops_part0_0]
  after_results_simp
  simp only [val0_main_arg0, val0_main_arg3] <;> rfl
set_option maxRecDepth 8192 in
set_option maxHeartbeats 2000000 in
theorem val0_1_main_cst_10 (V0 : Valuation τ sig (Elt F)) : val0_1 V0 (no_index (Proc.devRef .tc main_cst_10)) = constant S_ .f32 0x3F800000#32 := by
  unfold val0_1
  simp only [ops_part0_0]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call0_v0, main_v18, main_call1_v0, main_call1_v1, main_call1_v2, main_v19, main_v20, main_v21, main_v22, main_v23, main_cst_11, main_v24, main_v25, main_v26, main_v27, main_v28, main_v29, main_v30, main_cst_12, main_v31, main_v32, main_v33, main_v34, main_v35, main_cst_13, main_v36, main_v37, main_cst_14, main_v38, main_v39]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
set_option maxRecDepth 8192 in
set_option maxHeartbeats 2000000 in
theorem val0_2_main_v35 (V0 : Valuation τ sig (Elt F)) : val0_2 V0 (no_index (Proc.devRef .tc main_v35)) = res_main_v35 V0 := by
  unfold val0_2
  simp only [ops_part0_1, TRef.binary, TRef.ternary, TRef.unary, TRef.toBuf, TRef.ofBuf, cast_eq]
  after_results_simp
  simp only [val0_1_main_v15, val0_1_main_v14, val0_1_main_cst_10, val0_1_main_v17, val0_1_main_v16, val0_1_main_v7, val0_1_main_arg0] <;> rfl
set_option maxRecDepth 8192 in
set_option maxHeartbeats 2000000 in
theorem val0_2_main_v37 (V0 : Valuation τ sig (Elt F)) : val0_2 V0 (no_index (Proc.devRef .tc main_v37)) = Host.absf (Host.reduce FloatOps.maximumf (res_main_v35 V0) (constant S_ .f32 0xFF800000#32) reducesTo_S64x256x56x56_S_d0_1_2_3 h_S_) := by
  unfold val0_2
  simp only [ops_part0_1, TRef.binary, TRef.ternary, TRef.unary, TRef.toBuf, TRef.ofBuf, cast_eq]
  after_results_simp
  simp only [val0_1_main_v15, val0_1_main_v14, val0_1_main_cst_10, val0_1_main_v17, val0_1_main_v16, val0_1_main_v7, val0_1_main_arg0] <;> rfl
set_option maxRecDepth 8192 in
set_option maxHeartbeats 2000000 in
theorem val0_2_main_v39 (V0 : Valuation τ sig (Elt F)) : val0_2 V0 (no_index (Proc.devRef .tc main_v39)) = Host.absf (Host.reduce FloatOps.minimumf (res_main_v35 V0) (constant S_ .f32 0x7F800000#32) reducesTo_S64x256x56x56_S_d0_1_2_3 h_S_) := by
  unfold val0_2
  simp only [ops_part0_1, TRef.binary, TRef.ternary, TRef.unary, TRef.toBuf, TRef.ofBuf, cast_eq]
  after_results_simp
  simp only [val0_1_main_v15, val0_1_main_v14, val0_1_main_cst_10, val0_1_main_v17, val0_1_main_v16, val0_1_main_v7, val0_1_main_arg0] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v40, main_cst_15, main_v41, main_cst_16]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_v35 (V0 : Valuation τ sig (Elt F)) : val1 V0 (no_index (Proc.devRef .tc main_v35)) = res_main_v35 V0 :=
  (val1_keep V0 main_v35 (by decide)).trans (val0_2_main_v35 V0)
set_option maxRecDepth 8192 in
theorem val1_main_v41 (V0 : Valuation τ sig (Elt F)) : val1 V0 (no_index (Proc.devRef .tc main_v41)) = mulf (constant S_ .f32 0x40000000#32) (maximumf (Host.absf (Host.reduce FloatOps.maximumf (res_main_v35 V0) (constant S_ .f32 0xFF800000#32) reducesTo_S64x256x56x56_S_d0_1_2_3 h_S_)) (Host.absf (Host.reduce FloatOps.minimumf (res_main_v35 V0) (constant S_ .f32 0x7F800000#32) reducesTo_S64x256x56x56_S_d0_1_2_3 h_S_))) := by
  unfold val1
  simp only [ops_part0_2]
  after_results_simp
  simp only [val0_2_main_v39, val0_2_main_v37] <;> rfl
set_option maxRecDepth 8192 in
theorem val1_main_cst_16 (V0 : Valuation τ sig (Elt F)) : val1 V0 (no_index (Proc.devRef .tc main_cst_16)) = constant S_ .f32 0x437F0000#32 := by
  unfold val1
  simp only [ops_part0_2]
  after_results_simp
  all_goals rfl

/-- The device's buffer contents after @main's first 94 operations. -/
def val1_1 (V0 : Valuation τ sig (Elt F)) : Valuation τ sig (Elt F) := after ops_part1_0 (val1 V0)
/-- The buffers that window `ops_part1_0`'s operations write. -/
abbrev ops_part1_0_W : List (Ref sig .tc) := [main_v42, main_cst_17, main_v43, main_cst_18, main_v44, main_cst_19, main_v45, main_cst_20, main_call3_v0, main_v46, main_call4_v0, main_call4_v1, main_call4_v2, main_v47, main_v48, main_v49, main_v50, main_v51, main_cst_21, main_v52, main_v53, main_v54, main_v55, main_v56, main_v57, main_v58, main_cst_22, main_v59, main_v60, main_v61]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
set_option maxRecDepth 8192 in
set_option maxHeartbeats 2000000 in
theorem val1_1_main_v60 (V0 : Valuation τ sig (Elt F)) : val1_1 V0 (no_index (Proc.devRef .tc main_v60)) = res_main_v60 V0 := by
  unfold val1_1
  simp only [ops_part1_0, TRef.binary, TRef.ternary, TRef.unary, TRef.toBuf, TRef.ofBuf, cast_eq]
  after_results_simp
  simp only [val1_main_cst_16, val1_main_v41, val1_main_v35] <;> rfl
set_option maxRecDepth 8192 in
set_option maxHeartbeats 2000000 in
theorem val1_1_main_v61 (V0 : Valuation τ sig (Elt F)) : val1_1 V0 (no_index (Proc.devRef .tc main_v61)) = mulf (res_main_v60 V0) (res_main_v60 V0) := by
  unfold val1_1
  simp only [ops_part1_0, TRef.binary, TRef.ternary, TRef.unary, TRef.toBuf, TRef.ofBuf, cast_eq]
  after_results_simp
  simp only [val1_main_cst_16, val1_main_v41, val1_main_v35] <;> rfl

/-- The device's buffer contents after @main's first 124 operations. -/
def val1_2 (V0 : Valuation τ sig (Elt F)) : Valuation τ sig (Elt F) := after ops_part1_1 (val1_1 V0)
/-- The buffers that window `ops_part1_1`'s operations write. -/
abbrev ops_part1_1_W : List (Ref sig .tc) := [main_cst_23, main_v62, main_cst_24, main_v63, main_v64, main_cst_25, main_v65, main_v66, main_cst_26, main_v67, main_v68, main_v69, main_cst_27, main_v70, main_v71, main_cst_28, main_v72, main_v73, main_v74, main_cst_29, main_v75, main_cst_30, main_v76, main_cst_31, main_v77, main_cst_32, main_v78, main_cst_33, main_v79, main_cst_34]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_v60 (V0 : Valuation τ sig (Elt F)) : val1_2 V0 (no_index (Proc.devRef .tc main_v60)) = res_main_v60 V0 :=
  (val1_2_keep V0 main_v60 (by decide)).trans (val1_1_main_v60 V0)
set_option maxRecDepth 8192 in
set_option maxHeartbeats 2000000 in
theorem val1_2_main_v69 (V0 : Valuation τ sig (Elt F)) : val1_2 V0 (no_index (Proc.devRef .tc main_v69)) = res_main_v69 V0 := by
  unfold val1_2
  simp only [ops_part1_1]
  after_results_simp
  simp only [val1_1_main_v61, val1_1_main_arg4] <;> rfl
set_option maxRecDepth 8192 in
set_option maxHeartbeats 2000000 in
theorem val1_2_main_v76 (V0 : Valuation τ sig (Elt F)) : val1_2 V0 (no_index (Proc.devRef .tc main_v76)) = res_main_v76 V0 := by
  unfold val1_2
  simp only [ops_part1_1]
  after_results_simp
  simp only [val1_1_main_v61, val1_1_main_arg4] <;> rfl
set_option maxRecDepth 8192 in
set_option maxHeartbeats 2000000 in
theorem val1_2_main_v77 (V0 : Valuation τ sig (Elt F)) : val1_2 V0 (no_index (Proc.devRef .tc main_v77)) = res_main_v77 V0 := by
  unfold val1_2
  simp only [ops_part1_1]
  after_results_simp
  simp only [val1_1_main_v61, val1_1_main_arg4] <;> rfl
set_option maxRecDepth 8192 in
set_option maxHeartbeats 2000000 in
theorem val1_2_main_v78 (V0 : Valuation τ sig (Elt F)) : val1_2 V0 (no_index (Proc.devRef .tc main_v78)) = mulf (constant S_ .f32 0x42FE0000#32) (res_main_v76 V0) := by
  unfold val1_2
  simp only [ops_part1_1]
  after_results_simp
  simp only [val1_1_main_v61, val1_1_main_arg4] <;> rfl
set_option maxRecDepth 8192 in
set_option maxHeartbeats 2000000 in
theorem val1_2_main_v79 (V0 : Valuation τ sig (Elt F)) : val1_2 V0 (no_index (Proc.devRef .tc main_v79)) = cmpf .oeq (res_main_v76 V0) (constant S_ .f32 0x00000000#32) := by
  unfold val1_2
  simp only [ops_part1_1]
  after_results_simp
  simp only [val1_1_main_v61, val1_1_main_arg4] <;> rfl
set_option maxRecDepth 8192 in
set_option maxHeartbeats 2000000 in
theorem val1_2_main_cst_34 (V0 : Valuation τ sig (Elt F)) : val1_2 V0 (no_index (Proc.devRef .tc main_cst_34)) = constant S_ .f32 0x3F800000#32 := by
  unfold val1_2
  simp only [ops_part1_1]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_call6_v0, main_v80, main_call7_v0, main_call7_v1, main_call7_v2, main_v81, main_v82, main_v83]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_v60 (V0 : Valuation τ sig (Elt F)) : val2 V0 (no_index (Proc.devRef .tc main_v60)) = res_main_v60 V0 :=
  (val2_keep V0 main_v60 (by decide)).trans (val1_2_main_v60 V0)
theorem val2_main_v69 (V0 : Valuation τ sig (Elt F)) : val2 V0 (no_index (Proc.devRef .tc main_v69)) = res_main_v69 V0 :=
  (val2_keep V0 main_v69 (by decide)).trans (val1_2_main_v69 V0)
theorem val2_main_v76 (V0 : Valuation τ sig (Elt F)) : val2 V0 (no_index (Proc.devRef .tc main_v76)) = res_main_v76 V0 :=
  (val2_keep V0 main_v76 (by decide)).trans (val1_2_main_v76 V0)
theorem val2_main_v77 (V0 : Valuation τ sig (Elt F)) : val2 V0 (no_index (Proc.devRef .tc main_v77)) = res_main_v77 V0 :=
  (val2_keep V0 main_v77 (by decide)).trans (val1_2_main_v77 V0)
set_option maxRecDepth 8192 in
theorem val2_main_v80 (V0 : Valuation τ sig (Elt F)) : val2 V0 (no_index (Proc.devRef .tc main_v80)) = res_main_v80 V0 := by
  unfold val2
  simp only [ops_part1_2, TRef.binary, TRef.ternary, TRef.unary, TRef.toBuf, TRef.ofBuf, cast_eq]
  after_results_simp
  simp only [val1_2_main_v76, val1_2_main_cst_34, val1_2_main_v79] <;> rfl
set_option maxRecDepth 8192 in
theorem val2_main_v83 (V0 : Valuation τ sig (Elt F)) : val2 V0 (no_index (Proc.devRef .tc main_v83)) = subf (minimumf (broadcastInDim S256 ![] bcast_S_S256 (mulf (constant S_ .f32 0x42FE0000#32) (res_main_v76 V0))) (maximumf (broadcastInDim S256 ![] bcast_S_S256 (res_main_v77 V0)) (res_main_v69 V0))) (broadcastInDim S256 ![] bcast_S_S256 (res_main_v77 V0)) := by
  unfold val2
  simp only [ops_part1_2, TRef.binary, TRef.ternary, TRef.unary, TRef.toBuf, TRef.ofBuf, cast_eq]
  after_results_simp
  simp only [val1_2_main_v77, val1_2_main_v69, val1_2_main_v78] <;> rfl

/-- The device's buffer contents after @main's first 162 operations. -/
def val2_1 (V0 : Valuation τ sig (Elt F)) : Valuation τ sig (Elt F) := after ops_part2_0 (val2 V0)
/-- The buffers that window `ops_part2_0`'s operations write. -/
abbrev ops_part2_0_W : List (Ref sig .tc) := [main_v84, main_v85, main_cst_35, main_v86, main_v87, main_v88, main_v89, main_v90, main_v91, main_v92, main_cst_36, main_v93, main_v94, main_cst_37, main_v95, main_v96, main_v97, main_cst_38, main_v98, main_v99, main_cst_39, main_v100, main_v101, main_v102, main_cst_40, main_v103, main_cst_41, main_v104, main_cst_42, main_v105]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_v60 (V0 : Valuation τ sig (Elt F)) : val2_1 V0 (no_index (Proc.devRef .tc main_v60)) = res_main_v60 V0 :=
  (val2_1_keep V0 main_v60 (by decide)).trans (val2_main_v60 V0)
set_option maxRecDepth 8192 in
set_option maxHeartbeats 2000000 in
theorem val2_1_main_v97 (V0 : Valuation τ sig (Elt F)) : val2_1 V0 (no_index (Proc.devRef .tc main_v97)) = res_main_v97 V0 := by
  unfold val2_1
  simp only [ops_part2_0, TRef.ternary, TRef.toBuf, TRef.ofBuf, cast_eq]
  after_results_simp
  simp only [val2_main_v77, val2_main_v80, val2_main_v83, val2_main_v69, val2_main_v76] <;> rfl
set_option maxRecDepth 8192 in
set_option maxHeartbeats 2000000 in
theorem val2_1_main_v104 (V0 : Valuation τ sig (Elt F)) : val2_1 V0 (no_index (Proc.devRef .tc main_v104)) = res_main_v104 V0 := by
  unfold val2_1
  simp only [ops_part2_0, TRef.ternary, TRef.toBuf, TRef.ofBuf, cast_eq]
  after_results_simp
  simp only [val2_main_v77, val2_main_v80, val2_main_v83, val2_main_v69, val2_main_v76] <;> rfl
set_option maxRecDepth 8192 in
set_option maxHeartbeats 2000000 in
theorem val2_1_main_v105 (V0 : Valuation τ sig (Elt F)) : val2_1 V0 (no_index (Proc.devRef .tc main_v105)) = res_main_v105 V0 := by
  unfold val2_1
  simp only [ops_part2_0, TRef.ternary, TRef.toBuf, TRef.ofBuf, cast_eq]
  after_results_simp
  simp only [val2_main_v77, val2_main_v80, val2_main_v83, val2_main_v69, val2_main_v76] <;> rfl

end Cert.ReferenceIdeal.Ref

end
-- ==== Proof.RefVals2.lean ====
module

public import proofs.«01_k».proof.Proof.RefVals1

@[expose] public section

set_option Elab.async false

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 192 operations. -/
def val2_2 (V0 : Valuation τ sig (Elt F)) : Valuation τ sig (Elt F) := after ops_part2_1 (val2_1 V0)
/-- The buffers that window `ops_part2_1`'s operations write. -/
abbrev ops_part2_1_W : List (Ref sig .tc) := [main_cst_43, main_v106, main_cst_44, main_v107, main_cst_45, main_call9_v0, main_v108, main_call10_v0, main_call10_v1, main_call10_v2, main_v109, main_v110, main_v111, main_v112, main_v113, main_cst_46, main_v114, main_v115, main_v116, main_v117, main_v118, main_v119, main_v120, main_cst_47, main_v121, main_v122, main_v123, main_v124, main_v125, main_cst_48]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
set_option maxRecDepth 8192 in
set_option maxHeartbeats 2000000 in
theorem val2_2_main_v125 (V0 : Valuation τ sig (Elt F)) : val2_2 V0 (no_index (Proc.devRef .tc main_v125)) = res_main_v125 V0 := by
  unfold val2_2
  simp only [ops_part2_1, TRef.binary, TRef.ternary, TRef.unary, TRef.toBuf, TRef.ofBuf, cast_eq]
  after_results_simp
  simp only [val2_1_main_v105, val2_1_main_v104, val2_1_main_v97, val2_1_main_v60] <;> rfl
set_option maxRecDepth 8192 in
set_option maxHeartbeats 2000000 in
theorem val2_2_main_cst_48 (V0 : Valuation τ sig (Elt F)) : val2_2 V0 (no_index (Proc.devRef .tc main_cst_48)) = constant S_ .f32 0xFF800000#32 := by
  unfold val2_2
  simp only [ops_part2_1, TRef.binary, TRef.ternary, TRef.unary, TRef.toBuf, TRef.ofBuf, cast_eq]
  after_results_simp
  all_goals rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v126, main_v127, main_cst_49, main_v128]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_v125 (V0 : Valuation τ sig (Elt F)) : val3 V0 (no_index (Proc.devRef .tc main_v125)) = res_main_v125 V0 :=
  (val3_keep V0 main_v125 (by decide)).trans (val2_2_main_v125 V0)
set_option maxRecDepth 8192 in
theorem val3_main_v127 (V0 : Valuation τ sig (Elt F)) : val3 V0 (no_index (Proc.devRef .tc main_v127)) = Host.absf (Host.reduce FloatOps.maximumf (res_main_v125 V0) (constant S_ .f32 0xFF800000#32) reducesTo_S64x256x56x56_S_d0_1_2_3 h_S_) := by
  unfold val3
  simp only [ops_part2_2]
  after_results_simp
  simp only [val2_2_main_cst_48, val2_2_main_v125] <;> rfl
set_option maxRecDepth 8192 in
theorem val3_main_v128 (V0 : Valuation τ sig (Elt F)) : val3 V0 (no_index (Proc.devRef .tc main_v128)) = Host.reduce FloatOps.minimumf (res_main_v125 V0) (constant S_ .f32 0x7F800000#32) reducesTo_S64x256x56x56_S_d0_1_2_3 h_S_ := by
  unfold val3
  simp only [ops_part2_2]
  after_results_simp
  simp only [val2_2_main_v125] <;> rfl

/-- The device's buffer contents after @main's first 226 operations. -/
def val3_1 (V0 : Valuation τ sig (Elt F)) : Valuation τ sig (Elt F) := after ops_part3_0 (val3 V0)
/-- The buffers that window `ops_part3_0`'s operations write. -/
abbrev ops_part3_0_W : List (Ref sig .tc) := [main_v129, main_v130, main_cst_50, main_v131, main_cst_51, main_v132, main_cst_52, main_v133, main_cst_53, main_v134, main_cst_54, main_v135, main_cst_55, main_call12_v0, main_v136, main_call13_v0, main_call13_v1, main_call13_v2, main_v137, main_v138, main_v139, main_v140, main_v141, main_cst_56, main_v142, main_v143, main_v144, main_v145, main_v146, main_v147]
set_option maxRecDepth 8192 in
theorem ops_part3_0_writes : (ops_part3_0 : List (HloOp τ sig (Elt F))).Forall fun op => op.writes ⊆ (ops_part3_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_arg2 (V0 : Valuation τ sig (Elt F)) : val3_1 V0 (no_index (Proc.devRef .tc main_arg2)) = V0 (Proc.devRef .tc main_arg2) :=
  (val3_1_keep V0 main_arg2 (by decide)).trans (val3_main_arg2 V0)
theorem val3_1_main_arg3 (V0 : Valuation τ sig (Elt F)) : val3_1 V0 (no_index (Proc.devRef .tc main_arg3)) = V0 (Proc.devRef .tc main_arg3) :=
  (val3_1_keep V0 main_arg3 (by decide)).trans (val3_main_arg3 V0)
theorem val3_1_main_arg4 (V0 : Valuation τ sig (Elt F)) : val3_1 V0 (no_index (Proc.devRef .tc main_arg4)) = V0 (Proc.devRef .tc main_arg4) :=
  (val3_1_keep V0 main_arg4 (by decide)).trans (val3_main_arg4 V0)
theorem val3_1_main_v125 (V0 : Valuation τ sig (Elt F)) : val3_1 V0 (no_index (Proc.devRef .tc main_v125)) = res_main_v125 V0 :=
  (val3_1_keep V0 main_v125 (by decide)).trans (val3_main_v125 V0)
set_option maxRecDepth 8192 in
set_option maxHeartbeats 2000000 in
theorem val3_1_main_v132 (V0 : Valuation τ sig (Elt F)) : val3_1 V0 (no_index (Proc.devRef .tc main_v132)) = res_main_v132 V0 := by
  unfold val3_1
  simp only [ops_part3_0, TRef.binary, TRef.ternary, TRef.unary, TRef.toBuf, TRef.ofBuf, cast_eq]
  after_results_simp
  simp only [val3_main_v128, val3_main_v127] <;> rfl
set_option maxRecDepth 8192 in
set_option maxHeartbeats 2000000 in
theorem val3_1_main_v146 (V0 : Valuation τ sig (Elt F)) : val3_1 V0 (no_index (Proc.devRef .tc main_v146)) = mulf (Host.floor (addf (Host.divf (subf (minimumf (broadcastInDim S64x256x56x56 ![] bcast_S_S64x256x56x56 (mulf (constant S_ .f32 0x42FE0000#32) (res_main_v132 V0))) (maximumf (broadcastInDim S64x256x56x56 ![] bcast_S_S64x256x56x56 (res_main_v133 V0)) (res_main_v125 V0))) (broadcastInDim S64x256x56x56 ![] bcast_S_S64x256x56x56 (res_main_v133 V0))) (broadcastInDim S64x256x56x56 ![] bcast_S_S64x256x56x56 (res_main_v136 V0))) (broadcastInDim S64x256x56x56 ![] bcast_S_S64x256x56x56 (constant S_ .f32 0x3F000000#32)))) (broadcastInDim S64x256x56x56 ![] bcast_S_S64x256x56x56 (res_main_v136 V0)) := by
  unfold val3_1
  simp only [ops_part3_0, TRef.binary, TRef.ternary, TRef.unary, TRef.toBuf, TRef.ofBuf, cast_eq]
  after_results_simp
  simp only [val3_main_v128, val3_main_v127, val3_main_v125] <;> rfl
set_option maxRecDepth 8192 in
set_option maxHeartbeats 2000000 in
theorem val3_1_main_v147 (V0 : Valuation τ sig (Elt F)) : val3_1 V0 (no_index (Proc.devRef .tc main_v147)) = broadcastInDim S64x256x56x56 ![] bcast_S_S64x256x56x56 (res_main_v133 V0) := by
  unfold val3_1
  simp only [ops_part3_0, TRef.binary, TRef.ternary, TRef.unary, TRef.toBuf, TRef.ofBuf, cast_eq]
  after_results_simp
  simp only [val3_main_v128, val3_main_v127] <;> rfl

/-- The device's buffer contents after @main's first 256 operations. -/
def val3_2 (V0 : Valuation τ sig (Elt F)) : Valuation τ sig (Elt F) := after ops_part3_1 (val3_1 V0)
/-- The buffers that window `ops_part3_1`'s operations write. -/
abbrev ops_part3_1_W : List (Ref sig .tc) := [main_v148, main_cst_57, main_v149, main_v150, main_cst_58, main_v151, main_v152, main_cst_59, main_v153, main_v154, main_v155, main_cst_60, main_v156, main_cst_61, main_v157, main_cst_62, main_v158, main_cst_63, main_v159, main_cst_64, main_v160, main_cst_65, main_call15_v0, main_v161, main_call16_v0, main_call16_v1, main_call16_v2, main_v162, main_v163, main_v164]
set_option maxRecDepth 8192 in
theorem ops_part3_1_writes : (ops_part3_1 : List (HloOp τ sig (Elt F))).Forall fun op => op.writes ⊆ (ops_part3_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_arg2 (V0 : Valuation τ sig (Elt F)) : val3_2 V0 (no_index (Proc.devRef .tc main_arg2)) = V0 (Proc.devRef .tc main_arg2) :=
  (val3_2_keep V0 main_arg2 (by decide)).trans (val3_1_main_arg2 V0)
theorem val3_2_main_arg3 (V0 : Valuation τ sig (Elt F)) : val3_2 V0 (no_index (Proc.devRef .tc main_arg3)) = V0 (Proc.devRef .tc main_arg3) :=
  (val3_2_keep V0 main_arg3 (by decide)).trans (val3_1_main_arg3 V0)
theorem val3_2_main_arg4 (V0 : Valuation τ sig (Elt F)) : val3_2 V0 (no_index (Proc.devRef .tc main_arg4)) = V0 (Proc.devRef .tc main_arg4) :=
  (val3_2_keep V0 main_arg4 (by decide)).trans (val3_1_main_arg4 V0)
set_option maxRecDepth 8192 in
set_option maxHeartbeats 2000000 in
theorem val3_2_main_v150 (V0 : Valuation τ sig (Elt F)) : val3_2 V0 (no_index (Proc.devRef .tc main_v150)) = select (broadcastInDim S64x256x56x56 ![] bcast_S_S64x256x56x56 (cmpf .oeq (res_main_v132 V0) (constant S_ .f32 0x00000000#32))) (res_main_v125 V0) (addf (mulf (Host.floor (addf (Host.divf (subf (minimumf (broadcastInDim S64x256x56x56 ![] bcast_S_S64x256x56x56 (mulf (constant S_ .f32 0x42FE0000#32) (res_main_v132 V0))) (maximumf (broadcastInDim S64x256x56x56 ![] bcast_S_S64x256x56x56 (res_main_v133 V0)) (res_main_v125 V0))) (broadcastInDim S64x256x56x56 ![] bcast_S_S64x256x56x56 (res_main_v133 V0))) (broadcastInDim S64x256x56x56 ![] bcast_S_S64x256x56x56 (res_main_v136 V0))) (broadcastInDim S64x256x56x56 ![] bcast_S_S64x256x56x56 (constant S_ .f32 0x3F000000#32)))) (broadcastInDim S64x256x56x56 ![] bcast_S_S64x256x56x56 (res_main_v136 V0))) (broadcastInDim S64x256x56x56 ![] bcast_S_S64x256x56x56 (res_main_v133 V0))) := by
  unfold val3_2
  simp only [ops_part3_1, TRef.binary, TRef.ternary, TRef.unary, TRef.toBuf, TRef.ofBuf, cast_eq]
  after_results_simp
  simp only [val3_1_main_v147, val3_1_main_v146, val3_1_main_v125, val3_1_main_v132] <;> rfl
set_option maxRecDepth 8192 in
set_option maxHeartbeats 2000000 in
theorem val3_2_main_v157 (V0 : Valuation τ sig (Elt F)) : val3_2 V0 (no_index (Proc.devRef .tc main_v157)) = res_main_v157 V0 := by
  unfold val3_2
  simp only [ops_part3_1, TRef.binary, TRef.ternary, TRef.unary, TRef.toBuf, TRef.ofBuf, cast_eq]
  after_results_simp
  simp only [val3_1_main_arg1] <;> rfl
set_option maxRecDepth 8192 in
set_option maxHeartbeats 2000000 in
theorem val3_2_main_v158 (V0 : Valuation τ sig (Elt F)) : val3_2 V0 (no_index (Proc.devRef .tc main_v158)) = res_main_v158 V0 := by
  unfold val3_2
  simp only [ops_part3_1, TRef.binary, TRef.ternary, TRef.unary, TRef.toBuf, TRef.ofBuf, cast_eq]
  after_results_simp
  simp only [val3_1_main_arg1] <;> rfl
set_option maxRecDepth 8192 in
set_option maxHeartbeats 2000000 in
theorem val3_2_main_v161 (V0 : Valuation τ sig (Elt F)) : val3_2 V0 (no_index (Proc.devRef .tc main_v161)) = res_main_v161 V0 := by
  unfold val3_2
  simp only [ops_part3_1, TRef.binary, TRef.ternary, TRef.unary, TRef.toBuf, TRef.ofBuf, cast_eq]
  after_results_simp
  simp only [val3_1_main_arg1] <;> rfl
set_option maxRecDepth 8192 in
set_option maxHeartbeats 2000000 in
theorem val3_2_main_v164 (V0 : Valuation τ sig (Elt F)) : val3_2 V0 (no_index (Proc.devRef .tc main_v164)) = subf (minimumf (broadcastInDim S256 ![] bcast_S_S256 (mulf (constant S_ .f32 0x42FE0000#32) (res_main_v157 V0))) (maximumf (broadcastInDim S256 ![] bcast_S_S256 (res_main_v158 V0)) (V0 (Proc.devRef .tc main_arg1)))) (broadcastInDim S256 ![] bcast_S_S256 (res_main_v158 V0)) := by
  unfold val3_2
  simp only [ops_part3_1, TRef.binary, TRef.ternary, TRef.unary, TRef.toBuf, TRef.ofBuf, cast_eq]
  after_results_simp
  simp only [val3_1_main_arg1] <;> rfl

/-- The device's buffer contents after @main's first 4 windows. -/
def val4 (V0 : Valuation τ sig (Elt F)) : Valuation τ sig (Elt F) := after ops_part3_2 (val3_2 V0)
/-- The buffers that window `ops_part3_2`'s operations write. -/
abbrev ops_part3_2_W : List (Ref sig .tc) := [main_v165, main_v166, main_cst_66, main_v167, main_v168, main_v169, main_v170, main_v171]
set_option maxRecDepth 8192 in
theorem ops_part3_2_writes : (ops_part3_2 : List (HloOp τ sig (Elt F))).Forall fun op => op.writes ⊆ (ops_part3_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_2` does not write keeps its contents through it. -/
theorem val4_keep (V0 : Valuation τ sig (Elt F)) (r : Ref sig .tc) (h : r ∉ ops_part3_2_W) :
    val4 V0 (Proc.devRef .tc r) = val3_2 V0 (Proc.devRef .tc r) :=
  after_of_writes_sub ops_part3_2 _ ops_part3_2_writes h
theorem val4_main_arg0 (V0 : Valuation τ sig (Elt F)) : val4 V0 (no_index (Proc.devRef .tc main_arg0)) = V0 (Proc.devRef .tc main_arg0) :=
  (val4_keep V0 main_arg0 (by decide)).trans (val3_2_main_arg0 V0)
theorem val4_main_arg1 (V0 : Valuation τ sig (Elt F)) : val4 V0 (no_index (Proc.devRef .tc main_arg1)) = V0 (Proc.devRef .tc main_arg1) :=
  (val4_keep V0 main_arg1 (by decide)).trans (val3_2_main_arg1 V0)
theorem val4_main_arg2 (V0 : Valuation τ sig (Elt F)) : val4 V0 (no_index (Proc.devRef .tc main_arg2)) = V0 (Proc.devRef .tc main_arg2) :=
  (val4_keep V0 main_arg2 (by decide)).trans (val3_2_main_arg2 V0)
theorem val4_main_arg3 (V0 : Valuation τ sig (Elt F)) : val4 V0 (no_index (Proc.devRef .tc main_arg3)) = V0 (Proc.devRef .tc main_arg3) :=
  (val4_keep V0 main_arg3 (by decide)).trans (val3_2_main_arg3 V0)
theorem val4_main_arg4 (V0 : Valuation τ sig (Elt F)) : val4 V0 (no_index (Proc.devRef .tc main_arg4)) = V0 (Proc.devRef .tc main_arg4) :=
  (val4_keep V0 main_arg4 (by decide)).trans (val3_2_main_arg4 V0)
theorem val4_main_v150 (V0 : Valuation τ sig (Elt F)) : val4 V0 (no_index (Proc.devRef .tc main_v150)) = select (broadcastInDim S64x256x56x56 ![] bcast_S_S64x256x56x56 (cmpf .oeq (res_main_v132 V0) (constant S_ .f32 0x00000000#32))) (res_main_v125 V0) (addf (mulf (Host.floor (addf (Host.divf (subf (minimumf (broadcastInDim S64x256x56x56 ![] bcast_S_S64x256x56x56 (mulf (constant S_ .f32 0x42FE0000#32) (res_main_v132 V0))) (maximumf (broadcastInDim S64x256x56x56 ![] bcast_S_S64x256x56x56 (res_main_v133 V0)) (res_main_v125 V0))) (broadcastInDim S64x256x56x56 ![] bcast_S_S64x256x56x56 (res_main_v133 V0))) (broadcastInDim S64x256x56x56 ![] bcast_S_S64x256x56x56 (res_main_v136 V0))) (broadcastInDim S64x256x56x56 ![] bcast_S_S64x256x56x56 (constant S_ .f32 0x3F000000#32)))) (broadcastInDim S64x256x56x56 ![] bcast_S_S64x256x56x56 (res_main_v136 V0))) (broadcastInDim S64x256x56x56 ![] bcast_S_S64x256x56x56 (res_main_v133 V0))) :=
  (val4_keep V0 main_v150 (by decide)).trans (val3_2_main_v150 V0)
theorem val4_main_v157 (V0 : Valuation τ sig (Elt F)) : val4 V0 (no_index (Proc.devRef .tc main_v157)) = res_main_v157 V0 :=
  (val4_keep V0 main_v157 (by decide)).trans (val3_2_main_v157 V0)
theorem val4_main_v158 (V0 : Valuation τ sig (Elt F)) : val4 V0 (no_index (Proc.devRef .tc main_v158)) = res_main_v158 V0 :=
  (val4_keep V0 main_v158 (by decide)).trans (val3_2_main_v158 V0)
set_option maxRecDepth 8192 in
theorem val4_main_v171 (V0 : Valuation τ sig (Elt F)) : val4 V0 (no_index (Proc.devRef .tc main_v171)) = mulf (Host.floor (addf (Host.divf (subf (minimumf (broadcastInDim S256 ![] bcast_S_S256 (mulf (constant S_ .f32 0x42FE0000#32) (res_main_v157 V0))) (maximumf (broadcastInDim S256 ![] bcast_S_S256 (res_main_v158 V0)) (V0 (Proc.devRef .tc main_arg1)))) (broadcastInDim S256 ![] bcast_S_S256 (res_main_v158 V0))) (broadcastInDim S256 ![] bcast_S_S256 (res_main_v161 V0))) (broadcastInDim S256 ![] bcast_S_S256 (constant S_ .f32 0x3F000000#32)))) (broadcastInDim S256 ![] bcast_S_S256 (res_main_v161 V0)) := by
  unfold val4
  simp only [ops_part3_2]
  after_results_simp
  simp only [val3_2_main_v161, val3_2_main_v164] <;> rfl

/-- The device's buffer contents after @main's first 294 operations. -/
def val4_1 (V0 : Valuation τ sig (Elt F)) : Valuation τ sig (Elt F) := after ops_part4_0 (val4 V0)
/-- The buffers that window `ops_part4_0`'s operations write. -/
abbrev ops_part4_0_W : List (Ref sig .tc) := [main_v172, main_v173, main_cst_67, main_v174, main_v175, main_cst_68, main_v176, main_v177, main_cst_69, main_v178, main_v179, main_v180, main_cst_70, main_v181, main_cst_71, main_v182, main_cst_72, main_v183, main_cst_73, main_v184, main_cst_74, main_v185, main_cst_75, main_call18_v0, main_v186, main_call19_v0, main_call19_v1, main_call19_v2, main_v187, main_v188]
set_option maxRecDepth 8192 in
theorem ops_part4_0_writes : (ops_part4_0 : List (HloOp τ sig (Elt F))).Forall fun op => op.writes ⊆ (ops_part4_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part4_0` does not write keeps its contents through it. -/
theorem val4_1_keep (V0 : Valuation τ sig (Elt F)) (r : Ref sig .tc) (h : r ∉ ops_part4_0_W) :
    val4_1 V0 (Proc.devRef .tc r) = val4 V0 (Proc.devRef .tc r) :=
  after_of_writes_sub ops_part4_0 _ ops_part4_0_writes h
theorem val4_1_main_arg0 (V0 : Valuation τ sig (Elt F)) : val4_1 V0 (no_index (Proc.devRef .tc main_arg0)) = V0 (Proc.devRef .tc main_arg0) :=
  (val4_1_keep V0 main_arg0 (by decide)).trans (val4_main_arg0 V0)
theorem val4_1_main_arg1 (V0 : Valuation τ sig (Elt F)) : val4_1 V0 (no_index (Proc.devRef .tc main_arg1)) = V0 (Proc.devRef .tc main_arg1) :=
  (val4_1_keep V0 main_arg1 (by decide)).trans (val4_main_arg1 V0)
theorem val4_1_main_arg2 (V0 : Valuation τ sig (Elt F)) : val4_1 V0 (no_index (Proc.devRef .tc main_arg2)) = V0 (Proc.devRef .tc main_arg2) :=
  (val4_1_keep V0 main_arg2 (by decide)).trans (val4_main_arg2 V0)
theorem val4_1_main_arg3 (V0 : Valuation τ sig (Elt F)) : val4_1 V0 (no_index (Proc.devRef .tc main_arg3)) = V0 (Proc.devRef .tc main_arg3) :=
  (val4_1_keep V0 main_arg3 (by decide)).trans (val4_main_arg3 V0)
theorem val4_1_main_arg4 (V0 : Valuation τ sig (Elt F)) : val4_1 V0 (no_index (Proc.devRef .tc main_arg4)) = V0 (Proc.devRef .tc main_arg4) :=
  (val4_1_keep V0 main_arg4 (by decide)).trans (val4_main_arg4 V0)
theorem val4_1_main_v150 (V0 : Valuation τ sig (Elt F)) : val4_1 V0 (no_index (Proc.devRef .tc main_v150)) = select (broadcastInDim S64x256x56x56 ![] bcast_S_S64x256x56x56 (cmpf .oeq (res_main_v132 V0) (constant S_ .f32 0x00000000#32))) (res_main_v125 V0) (addf (mulf (Host.floor (addf (Host.divf (subf (minimumf (broadcastInDim S64x256x56x56 ![] bcast_S_S64x256x56x56 (mulf (constant S_ .f32 0x42FE0000#32) (res_main_v132 V0))) (maximumf (broadcastInDim S64x256x56x56 ![] bcast_S_S64x256x56x56 (res_main_v133 V0)) (res_main_v125 V0))) (broadcastInDim S64x256x56x56 ![] bcast_S_S64x256x56x56 (res_main_v133 V0))) (broadcastInDim S64x256x56x56 ![] bcast_S_S64x256x56x56 (res_main_v136 V0))) (broadcastInDim S64x256x56x56 ![] bcast_S_S64x256x56x56 (constant S_ .f32 0x3F000000#32)))) (broadcastInDim S64x256x56x56 ![] bcast_S_S64x256x56x56 (res_main_v136 V0))) (broadcastInDim S64x256x56x56 ![] bcast_S_S64x256x56x56 (res_main_v133 V0))) :=
  (val4_1_keep V0 main_v150 (by decide)).trans (val4_main_v150 V0)
set_option maxRecDepth 8192 in
set_option maxHeartbeats 2000000 in
theorem val4_1_main_v175 (V0 : Valuation τ sig (Elt F)) : val4_1 V0 (no_index (Proc.devRef .tc main_v175)) = select (broadcastInDim S256 ![] bcast_S_S256 (cmpf .oeq (res_main_v157 V0) (constant S_ .f32 0x00000000#32))) (V0 (Proc.devRef .tc main_arg1)) (addf (mulf (Host.floor (addf (Host.divf (subf (minimumf (broadcastInDim S256 ![] bcast_S_S256 (mulf (constant S_ .f32 0x42FE0000#32) (res_main_v157 V0))) (maximumf (broadcastInDim S256 ![] bcast_S_S256 (res_main_v158 V0)) (V0 (Proc.devRef .tc main_arg1)))) (broadcastInDim S256 ![] bcast_S_S256 (res_main_v158 V0))) (broadcastInDim S256 ![] bcast_S_S256 (res_main_v161 V0))) (broadcastInDim S256 ![] bcast_S_S256 (constant S_ .f32 0x3F000000#32)))) (broadcastInDim S256 ![] bcast_S_S256 (res_main_v161 V0))) (broadcastInDim S256 ![] bcast_S_S256 (res_main_v158 V0))) := by
  unfold val4_1
  simp only [ops_part4_0, TRef.binary, TRef.ternary, TRef.unary, TRef.toBuf, TRef.ofBuf, cast_eq]
  after_results_simp
  simp only [val4_main_v158, val4_main_v171, val4_main_arg1, val4_main_v157] <;> rfl
set_option maxRecDepth 8192 in
set_option maxHeartbeats 2000000 in
theorem val4_1_main_v182 (V0 : Valuation τ sig (Elt F)) : val4_1 V0 (no_index (Proc.devRef .tc main_v182)) = res_main_v182 V0 := by
  unfold val4_1
  simp only [ops_part4_0, TRef.binary, TRef.ternary, TRef.unary, TRef.toBuf, TRef.ofBuf, cast_eq]
  after_results_simp
  simp only [val4_main_arg2] <;> rfl
set_option maxRecDepth 8192 in
set_option maxHeartbeats 2000000 in
theorem val4_1_main_v183 (V0 : Valuation τ sig (Elt F)) : val4_1 V0 (no_index (Proc.devRef .tc main_v183)) = res_main_v183 V0 := by
  unfold val4_1
  simp only [ops_part4_0, TRef.binary, TRef.ternary, TRef.unary, TRef.toBuf, TRef.ofBuf, cast_eq]
  after_results_simp
  simp only [val4_main_arg2] <;> rfl
set_option maxRecDepth 8192 in
set_option maxHeartbeats 2000000 in
theorem val4_1_main_v186 (V0 : Valuation τ sig (Elt F)) : val4_1 V0 (no_index (Proc.devRef .tc main_v186)) = res_main_v186 V0 := by
  unfold val4_1
  simp only [ops_part4_0, TRef.binary, TRef.ternary, TRef.unary, TRef.toBuf, TRef.ofBuf, cast_eq]
  after_results_simp
  simp only [val4_main_arg2] <;> rfl
set_option maxRecDepth 8192 in
set_option maxHeartbeats 2000000 in
theorem val4_1_main_v187 (V0 : Valuation τ sig (Elt F)) : val4_1 V0 (no_index (Proc.devRef .tc main_v187)) = minimumf (broadcastInDim S256 ![] bcast_S_S256 (mulf (constant S_ .f32 0x42FE0000#32) (res_main_v182 V0))) (maximumf (broadcastInDim S256 ![] bcast_S_S256 (res_main_v183 V0)) (V0 (Proc.devRef .tc main_arg2))) := by
  unfold val4_1
  simp only [ops_part4_0, TRef.binary, TRef.ternary, TRef.unary, TRef.toBuf, TRef.ofBuf, cast_eq]
  after_results_simp
  simp only [val4_main_arg2] <;> rfl
set_option maxRecDepth 8192 in
set_option maxHeartbeats 2000000 in
theorem val4_1_main_v188 (V0 : Valuation τ sig (Elt F)) : val4_1 V0 (no_index (Proc.devRef .tc main_v188)) = broadcastInDim S256 ![] bcast_S_S256 (res_main_v183 V0) := by
  unfold val4_1
  simp only [ops_part4_0, TRef.binary, TRef.ternary, TRef.unary, TRef.toBuf, TRef.ofBuf, cast_eq]
  after_results_simp
  simp only [val4_main_arg2] <;> rfl

/-- The device's buffer contents after @main's first 324 operations. -/
def val4_2 (V0 : Valuation τ sig (Elt F)) : Valuation τ sig (Elt F) := after ops_part4_1 (val4_1 V0)
/-- The buffers that window `ops_part4_1`'s operations write. -/
abbrev ops_part4_1_W : List (Ref sig .tc) := [main_v189, main_v190, main_v191, main_cst_76, main_v192, main_v193, main_v194, main_v195, main_v196, main_v197, main_v198, main_cst_77, main_v199, main_v200, main_v201, main_v202, main_v203, main_v204, main_v205, main_v206, main_cst_78, main_v207, main_v208, main_cst_79, main_v209, main_v210, main_v211, main_cst_80, main_v212, main_cst_81]
set_option maxRecDepth 8192 in
theorem ops_part4_1_writes : (ops_part4_1 : List (HloOp τ sig (Elt F))).Forall fun op => op.writes ⊆ (ops_part4_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part4_1` does not write keeps its contents through it. -/
theorem val4_2_keep (V0 : Valuation τ sig (Elt F)) (r : Ref sig .tc) (h : r ∉ ops_part4_1_W) :
    val4_2 V0 (Proc.devRef .tc r) = val4_1 V0 (Proc.devRef .tc r) :=
  after_of_writes_sub ops_part4_1 _ ops_part4_1_writes h
theorem val4_2_main_arg0 (V0 : Valuation τ sig (Elt F)) : val4_2 V0 (no_index (Proc.devRef .tc main_arg0)) = V0 (Proc.devRef .tc main_arg0) :=
  (val4_2_keep V0 main_arg0 (by decide)).trans (val4_1_main_arg0 V0)
theorem val4_2_main_arg1 (V0 : Valuation τ sig (Elt F)) : val4_2 V0 (no_index (Proc.devRef .tc main_arg1)) = V0 (Proc.devRef .tc main_arg1) :=
  (val4_2_keep V0 main_arg1 (by decide)).trans (val4_1_main_arg1 V0)
theorem val4_2_main_arg2 (V0 : Valuation τ sig (Elt F)) : val4_2 V0 (no_index (Proc.devRef .tc main_arg2)) = V0 (Proc.devRef .tc main_arg2) :=
  (val4_2_keep V0 main_arg2 (by decide)).trans (val4_1_main_arg2 V0)
theorem val4_2_main_arg3 (V0 : Valuation τ sig (Elt F)) : val4_2 V0 (no_index (Proc.devRef .tc main_arg3)) = V0 (Proc.devRef .tc main_arg3) :=
  (val4_2_keep V0 main_arg3 (by decide)).trans (val4_1_main_arg3 V0)
theorem val4_2_main_arg4 (V0 : Valuation τ sig (Elt F)) : val4_2 V0 (no_index (Proc.devRef .tc main_arg4)) = V0 (Proc.devRef .tc main_arg4) :=
  (val4_2_keep V0 main_arg4 (by decide)).trans (val4_1_main_arg4 V0)
set_option maxRecDepth 8192 in
set_option maxHeartbeats 2000000 in
theorem val4_2_main_v206 (V0 : Valuation τ sig (Elt F)) : val4_2 V0 (no_index (Proc.devRef .tc main_v206)) = res_main_v206 V0 := by
  unfold val4_2
  simp only [ops_part4_1, TRef.ternary, TRef.toBuf, TRef.ofBuf, cast_eq]
  after_results_simp
  simp only [val4_1_main_v183, val4_1_main_v186, val4_1_main_v188, val4_1_main_v187, val4_1_main_arg2, val4_1_main_v182, val4_1_main_v150, val4_1_main_v175] <;> rfl
set_option maxRecDepth 8192 in
set_option maxHeartbeats 2000000 in
theorem val4_2_main_v212 (V0 : Valuation τ sig (Elt F)) : val4_2 V0 (no_index (Proc.devRef .tc main_v212)) = mulf (constant S_ .f32 0x40000000#32) (maximumf (Host.absf (Host.reduce FloatOps.maximumf (res_main_v206 V0) (constant S_ .f32 0xFF800000#32) reducesTo_S64x256x56x56_S_d0_1_2_3 h_S_)) (Host.absf (Host.reduce FloatOps.minimumf (res_main_v206 V0) (constant S_ .f32 0x7F800000#32) reducesTo_S64x256x56x56_S_d0_1_2_3 h_S_))) := by
  unfold val4_2
  simp only [ops_part4_1, TRef.ternary, TRef.toBuf, TRef.ofBuf, cast_eq]
  after_results_simp
  simp only [val4_1_main_v183, val4_1_main_v186, val4_1_main_v188, val4_1_main_v187, val4_1_main_arg2, val4_1_main_v182, val4_1_main_v150, val4_1_main_v175] <;> rfl
set_option maxRecDepth 8192 in
set_option maxHeartbeats 2000000 in
theorem val4_2_main_cst_81 (V0 : Valuation τ sig (Elt F)) : val4_2 V0 (no_index (Proc.devRef .tc main_cst_81)) = constant S_ .f32 0x437F0000#32 := by
  unfold val4_2
  simp only [ops_part4_1, TRef.ternary, TRef.toBuf, TRef.ofBuf, cast_eq]
  after_results_simp
  all_goals rfl

/-- The device's buffer contents after @main's first 5 windows. -/
def val5 (V0 : Valuation τ sig (Elt F)) : Valuation τ sig (Elt F) := after ops_part4_2 (val4_2 V0)
/-- The buffers that window `ops_part4_2`'s operations write. -/
abbrev ops_part4_2_W : List (Ref sig .tc) := [main_v213, main_cst_82, main_v214, main_cst_83]
set_option maxRecDepth 8192 in
theorem ops_part4_2_writes : (ops_part4_2 : List (HloOp τ sig (Elt F))).Forall fun op => op.writes ⊆ (ops_part4_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part4_2` does not write keeps its contents through it. -/
theorem val5_keep (V0 : Valuation τ sig (Elt F)) (r : Ref sig .tc) (h : r ∉ ops_part4_2_W) :
    val5 V0 (Proc.devRef .tc r) = val4_2 V0 (Proc.devRef .tc r) :=
  after_of_writes_sub ops_part4_2 _ ops_part4_2_writes h
theorem val5_main_arg0 (V0 : Valuation τ sig (Elt F)) : val5 V0 (no_index (Proc.devRef .tc main_arg0)) = V0 (Proc.devRef .tc main_arg0) :=
  (val5_keep V0 main_arg0 (by decide)).trans (val4_2_main_arg0 V0)
theorem val5_main_arg1 (V0 : Valuation τ sig (Elt F)) : val5 V0 (no_index (Proc.devRef .tc main_arg1)) = V0 (Proc.devRef .tc main_arg1) :=
  (val5_keep V0 main_arg1 (by decide)).trans (val4_2_main_arg1 V0)
theorem val5_main_arg2 (V0 : Valuation τ sig (Elt F)) : val5 V0 (no_index (Proc.devRef .tc main_arg2)) = V0 (Proc.devRef .tc main_arg2) :=
  (val5_keep V0 main_arg2 (by decide)).trans (val4_2_main_arg2 V0)
theorem val5_main_arg3 (V0 : Valuation τ sig (Elt F)) : val5 V0 (no_index (Proc.devRef .tc main_arg3)) = V0 (Proc.devRef .tc main_arg3) :=
  (val5_keep V0 main_arg3 (by decide)).trans (val4_2_main_arg3 V0)
theorem val5_main_arg4 (V0 : Valuation τ sig (Elt F)) : val5 V0 (no_index (Proc.devRef .tc main_arg4)) = V0 (Proc.devRef .tc main_arg4) :=
  (val5_keep V0 main_arg4 (by decide)).trans (val4_2_main_arg4 V0)
theorem val5_main_v206 (V0 : Valuation τ sig (Elt F)) : val5 V0 (no_index (Proc.devRef .tc main_v206)) = res_main_v206 V0 :=
  (val5_keep V0 main_v206 (by decide)).trans (val4_2_main_v206 V0)
set_option maxRecDepth 8192 in
theorem val5_main_v213 (V0 : Valuation τ sig (Elt F)) : val5 V0 (no_index (Proc.devRef .tc main_v213)) = res_main_v213 V0 := by
  unfold val5
  simp only [ops_part4_2]
  after_results_simp
  simp only [val4_2_main_cst_81, val4_2_main_v212] <;> rfl
set_option maxRecDepth 8192 in
theorem val5_main_v214 (V0 : Valuation τ sig (Elt F)) : val5 V0 (no_index (Proc.devRef .tc main_v214)) = res_main_v214 V0 := by
  unfold val5
  simp only [ops_part4_2]
  after_results_simp
  simp only [val4_2_main_cst_81, val4_2_main_v212] <;> rfl
set_option maxRecDepth 8192 in
theorem val5_main_cst_83 (V0 : Valuation τ sig (Elt F)) : val5 V0 (no_index (Proc.devRef .tc main_cst_83)) = constant S_ .f32 0x42FE0000#32 := by
  unfold val5
  simp only [ops_part4_2]
  after_results_simp
  all_goals rfl

/-- The device's buffer contents after @main's first 6 windows. -/
def val6 (V0 : Valuation τ sig (Elt F)) : Valuation τ sig (Elt F) := after ops_part5 (val5 V0)
/-- The buffers that window `main_part5`'s operations write. -/
abbrev ops_part5_W : List (Ref sig .tc) := [main_v215, main_cst_84, main_v216, main_cst_85, main_call21_v0, main_v217, main_call22_v0, main_call22_v1, main_call22_v2, main_v218, main_v219, main_v220, main_v221, main_v222, main_cst_86, main_v223, main_v224, main_v225, main_v226, main_v227, main_v228, main_v229, main_cst_87, main_v230, main_v231]
set_option maxRecDepth 8192 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
set_option maxRecDepth 8192 in
set_option maxHeartbeats 2000000 in
theorem val6_main_v231 (V0 : Valuation τ sig (Elt F)) : val6 V0 (no_index (Proc.devRef .tc main_v231)) = select (broadcastInDim S64x256x56x56 ![] bcast_S_S64x256x56x56 (cmpf .oeq (res_main_v213 V0) (constant S_ .f32 0x00000000#32))) (res_main_v206 V0) (addf (mulf (Host.floor (addf (Host.divf (subf (minimumf (broadcastInDim S64x256x56x56 ![] bcast_S_S64x256x56x56 (mulf (constant S_ .f32 0x42FE0000#32) (res_main_v213 V0))) (maximumf (broadcastInDim S64x256x56x56 ![] bcast_S_S64x256x56x56 (res_main_v214 V0)) (res_main_v206 V0))) (broadcastInDim S64x256x56x56 ![] bcast_S_S64x256x56x56 (res_main_v214 V0))) (broadcastInDim S64x256x56x56 ![] bcast_S_S64x256x56x56 (res_main_v217 V0))) (broadcastInDim S64x256x56x56 ![] bcast_S_S64x256x56x56 (constant S_ .f32 0x3F000000#32)))) (broadcastInDim S64x256x56x56 ![] bcast_S_S64x256x56x56 (res_main_v217 V0))) (broadcastInDim S64x256x56x56 ![] bcast_S_S64x256x56x56 (res_main_v214 V0))) := by
  unfold val6
  simp only [ops_part5, TRef.binary, TRef.ternary, TRef.unary, TRef.toBuf, TRef.ofBuf, cast_eq]
  after_results_simp
  simp only [val5_main_v214, val5_main_v213, val5_main_cst_83, val5_main_v206] <;> rfl

theorem after_ops (V0 : Valuation τ sig (Elt F)) : after ops V0 = val6 V0 := by
  simp only [ops, ops_part0, ops_part1, ops_part2, ops_part3, ops_part4, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v231) = select (broadcastInDim S64x256x56x56 ![] bcast_S_S64x256x56x56 (cmpf .oeq (res_main_v213 (launchContents m c)) (constant S_ .f32 0x00000000#32))) (res_main_v206 (launchContents m c)) (addf (mulf (Host.floor (addf (Host.divf (subf (minimumf (broadcastInDim S64x256x56x56 ![] bcast_S_S64x256x56x56 (mulf (constant S_ .f32 0x42FE0000#32) (res_main_v213 (launchContents m c)))) (maximumf (broadcastInDim S64x256x56x56 ![] bcast_S_S64x256x56x56 (res_main_v214 (launchContents m c))) (res_main_v206 (launchContents m c)))) (broadcastInDim S64x256x56x56 ![] bcast_S_S64x256x56x56 (res_main_v214 (launchContents m c)))) (broadcastInDim S64x256x56x56 ![] bcast_S_S64x256x56x56 (res_main_v217 (launchContents m c)))) (broadcastInDim S64x256x56x56 ![] bcast_S_S64x256x56x56 (constant S_ .f32 0x3F000000#32)))) (broadcastInDim S64x256x56x56 ![] bcast_S_S64x256x56x56 (res_main_v217 (launchContents m c)))) (broadcastInDim S64x256x56x56 ![] bcast_S_S64x256x56x56 (res_main_v214 (launchContents m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v231).trans ((congrFun (after_ops (launchContents m c)) (Proc.devRef .tc main_v231)).trans (val6_main_v231 (launchContents m c))),
      (h c main_arg0).trans ((congrFun (after_ops (launchContents m c)) (Proc.devRef .tc main_arg0)).trans (val6_main_arg0 (launchContents m c))),
      (h c main_arg1).trans ((congrFun (after_ops (launchContents m c)) (Proc.devRef .tc main_arg1)).trans (val6_main_arg1 (launchContents m c))),
      (h c main_arg2).trans ((congrFun (after_ops (launchContents m c)) (Proc.devRef .tc main_arg2)).trans (val6_main_arg2 (launchContents m c))),
      (h c main_arg3).trans ((congrFun (after_ops (launchContents m c)) (Proc.devRef .tc main_arg3)).trans (val6_main_arg3 (launchContents m c))),
      (h c main_arg4).trans ((congrFun (after_ops (launchContents m c)) (Proc.devRef .tc main_arg4)).trans (val6_main_arg4 (launchContents m c)))⟩)
    (run_seq scopedRefs_eq scopedSems_eq defs main (fun _ => ops) main_eq (fun _ => ops_sub) m ρ fun _ => ops_fresh)

end Cert.ReferenceIdeal.Ref

end
-- ==== Proof.RefFrame.lean ====
module

public import proofs.«01_k».proof.Defs
public import proofs.«01_k».proof.Proof.RefVals2
public import Idealize.ShloMosaic.Lib.Quiescent

@[expose] public section

noncomputable section

namespace Cert.Proof

open Idealize.ShloMosaic Idealize.SL.Sem

/-- The reference runs, its arguments unchanged; it declares no counter. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Ref.run m g)

end Cert.Proof

end
-- ==== Proof.Quant.lean ====
module

public import Idealize.ShloMosaic.PureOps.Ideal
public import Idealize.ShloMosaic.PureOps.Ideal.Laws

@[expose] public section

noncomputable section

namespace Cert.Quant

open Idealize.ShloMosaic

/-! ## The linear quantiser on the extended reals -/

/-- The step of the quantiser for values between `n` and `M`: twice the largest magnitude over 255. -/
def step (M n : EReal) : EReal := Ideal.div (((2 : ℝ) : EReal) * max (max M (-M)) (max n (-n))) ((255 : ℝ) : EReal)
/-- The least quantised value. -/
def lo (s : EReal) : EReal := ((-128 : ℝ) : EReal) * s
/-- The greatest quantised value. -/
def hi (s : EReal) : EReal := ((127 : ℝ) : EReal) * s
/-- The code of `v`, with the divisor `d`. -/
def code (s d v : EReal) : EReal := Ideal.liftRound Int.floor (Ideal.div (min (hi s) (max (lo s) v) - lo s) d + ((1 / 2 : ℝ) : EReal))
/-- The step, or one where it is zero. -/
def safe (s : EReal) : EReal := if s = 0 then 1 else s
/-- The quantised value: `v` itself where the step is zero. -/
def quant (s v : EReal) : EReal := if s = 0 then v else code s (safe s) v * safe s + lo s

/-- Dividing by a real that is not zero multiplies by its inverse. -/
theorem div_real (x : EReal) {r : ℝ} (hr : r ≠ 0) : Ideal.div x (r : EReal) = x * ((r⁻¹ : ℝ) : EReal) := by
  unfold Ideal.div
  rw [if_neg (by exact_mod_cast hr), EReal.coe_inv]

/-- Division by a positive number keeps the order. -/
theorem div_mono_pos {y : EReal} (hy : 0 < y) : Monotone fun x => Ideal.div x y := by
  intro a b h
  simp only [Ideal.div, if_neg hy.ne']
  exact mul_le_mul_of_nonneg_right h (EReal.inv_nonneg_of_nonneg hy.le)

/-- Division by zero keeps the order. -/
theorem div_mono_zero : Monotone fun x => Ideal.div x 0 := by
  intro a b h
  simp only [Ideal.div, if_pos]
  split_ifs with h1 h2
  · exact le_rfl
  · exact absurd (h1.trans_le h) h2
  · exact bot_le
  · exact le_rfl

/-- Division by a value that is −∞ or not negative keeps the order. -/
theorem div_mono {y : EReal} (hy : y = ⊥ ∨ 0 ≤ y) : Monotone fun x => Ideal.div x y := by
  rcases hy with rfl | hy
  · intro a b _
    simp [Ideal.div]
  · rcases hy.eq_or_lt with rfl | h
    · exact div_mono_zero
    · exact div_mono_pos h

/-- Rounding down keeps the order. -/
theorem floor_mono : Monotone (Ideal.liftRound Int.floor) := by
  intro a b h
  induction a using EReal.rec with
  | bot => exact bot_le
  | top => rw [top_le_iff.mp h]
  | coe a =>
    induction b using EReal.rec with
    | bot => exact absurd (le_bot_iff.mp h) (EReal.coe_ne_bot a)
    | top => exact le_top
    | coe b => exact EReal.coe_le_coe_iff.mpr (Int.cast_le.mpr (Int.floor_mono (EReal.coe_le_coe_iff.mp h)))

/-- The divisor is positive. -/
theorem safe_pos {s : EReal} (hs : 0 ≤ s) : 0 < safe s := by
  unfold safe
  split_ifs with h
  · exact zero_lt_one
  · exact lt_of_le_of_ne hs (Ne.symm h)

/-- The quantiser keeps the order. -/
theorem quant_mono {s : EReal} (hs : 0 ≤ s) : Monotone (quant s) := by
  intro a b h
  unfold quant
  split_ifs
  · exact h
  · refine add_le_add (mul_le_mul_of_nonneg_right (floor_mono (add_le_add ?_ le_rfl)) (safe_pos hs).le) le_rfl
    exact div_mono_pos (safe_pos hs) (EReal.sub_le_sub (min_le_min le_rfl (max_le_max le_rfl h)) le_rfl)

/-- An absolute value is not negative. -/
theorem abs_nonneg' (a : EReal) : 0 ≤ max a (-a) := by
  rcases le_total 0 a with h | h
  · exact le_max_of_le_left h
  · exact le_max_of_le_right (EReal.neg_nonneg.mpr h)

/-- A step isn't negative. -/
theorem step_nonneg (M n : EReal) : 0 ≤ step M n := by
  unfold step
  rw [div_real _ (by norm_num)]
  refine mul_nonneg (mul_nonneg ?_ (le_max_of_le_left (abs_nonneg' M))) ?_
  · exact EReal.coe_nonneg.mpr (by norm_num)
  · exact EReal.coe_nonneg.mpr (by norm_num)

/-- The step is zero only for a range that is zero. -/
theorem step_eq_zero {M n : EReal} (h : step M n = 0) : M = 0 ∧ n = 0 := by
  unfold step at h
  rw [div_real _ (by norm_num)] at h
  have h255 : (((255 : ℝ)⁻¹ : ℝ) : EReal) ≠ 0 := by exact_mod_cast (by norm_num : ((255 : ℝ)⁻¹) ≠ 0)
  have h2 : ((2 : ℝ) : EReal) ≠ 0 := by exact_mod_cast (by norm_num : (2 : ℝ) ≠ 0)
  have hm : max (max M (-M)) (max n (-n)) = 0 := by
    rcases mul_eq_zero.mp h with h | h
    · rcases mul_eq_zero.mp h with h | h
      · exact absurd h h2
      · exact h
    · exact absurd h h255
  have key : ∀ a : EReal, max a (-a) ≤ 0 → a = 0 := fun a ha =>
    le_antisymm ((le_max_left _ _).trans ha) (by
      have : -a ≤ -0 := by rw [neg_zero]; exact (le_max_right a (-a)).trans ha
      exact EReal.neg_le_neg_iff.mp this)
  exact ⟨key M ((le_max_left _ _).trans hm.le), key n ((le_max_right _ _).trans hm.le)⟩

/-- A range that reaches minus infinity has an infinite step. -/
theorem step_top {M n : EReal} (h : n = ⊥) : step M n = ⊤ := by
  subst h
  unfold step
  rw [div_real _ (by norm_num)]
  have : max (max M (-M)) (max ⊥ (-⊥)) = (⊤ : EReal) := by simp
  rw [this, EReal.coe_mul_top_of_pos (by norm_num), EReal.top_mul_coe_of_pos (by norm_num)]

/-- The least value of an infinite step is minus infinity. -/
theorem lo_top : lo ⊤ = ⊥ := EReal.coe_mul_top_of_neg (by norm_num)

/-- With an infinite step everything is quantised to −∞. -/
theorem quant_top (v : EReal) : quant ⊤ v = ⊥ := by
  unfold quant
  rw [if_neg EReal.top_ne_zero, lo_top, EReal.add_bot]

/-- With a positive real step `s`, the code is a whole number from 0 to 255, and at least 128 for a value that isn't negative. -/
theorem code_real {s : ℝ} (hs : 0 < s) (v : EReal) :
    ∃ k : ℤ, 0 ≤ k ∧ k ≤ 255 ∧ code (s : EReal) (s : EReal) v = ((k : ℝ) : EReal) ∧ (0 ≤ v → 128 ≤ k) := by
  have hlo : lo (s : EReal) = ((-128 * s : ℝ) : EReal) := by unfold lo; exact (EReal.coe_mul _ _).symm
  have hhi : hi (s : EReal) = ((127 * s : ℝ) : EReal) := by unfold hi; exact (EReal.coe_mul _ _).symm
  obtain ⟨r, hr, h1, h2, h3⟩ : ∃ r : ℝ, min (hi (s : EReal)) (max (lo (s : EReal)) v) = (r : EReal) ∧ -128 * s ≤ r ∧ r ≤ 127 * s ∧ (0 ≤ v → 0 ≤ r) := by
    rw [hlo, hhi]
    induction v using EReal.rec with
    | bot => exact ⟨-128 * s, by rw [max_eq_left bot_le, min_eq_right]; exact EReal.coe_le_coe_iff.mpr (by nlinarith), le_rfl, by nlinarith, fun h => absurd h (by simp)⟩
    | top => exact ⟨127 * s, by rw [max_eq_right le_top, min_eq_left le_top], by nlinarith, le_rfl, fun _ => by nlinarith⟩
    | coe v =>
      refine ⟨min (127 * s) (max (-128 * s) v), by rw [EReal.coe_strictMono.monotone.map_min, EReal.coe_strictMono.monotone.map_max], ?_, min_le_left _ _, fun h => ?_⟩
      · exact le_min (by nlinarith) (le_max_left _ _)
      · exact le_min (by nlinarith) (le_max_of_le_right (EReal.coe_nonneg.mp h))
  have hcode : code (s : EReal) (s : EReal) v = (((⌊(r - -128 * s) * s⁻¹ + 1 / 2⌋ : ℤ) : ℝ) : EReal) := by
    unfold code
    rw [hr, hlo, div_real _ hs.ne', ← EReal.coe_sub, ← EReal.coe_mul, ← EReal.coe_add]
    rfl
  have hq : (r - -128 * s) * s⁻¹ = r / s + 128 := by field_simp; ring
  have hb1 : -128 ≤ r / s := by rw [le_div_iff₀ hs]; exact h1
  have hb2 : r / s ≤ 127 := by rw [div_le_iff₀ hs]; exact h2
  refine ⟨_, Int.floor_nonneg.mpr (by rw [hq]; linarith), ?_, hcode, fun h => ?_⟩
  · have : ⌊(r - -128 * s) * s⁻¹ + 1 / 2⌋ < 256 := Int.floor_lt.mpr (by rw [hq]; push_cast; linarith)
    omega
  · exact Int.le_floor.mpr (by rw [hq]; have := div_nonneg (h3 h) hs.le; push_cast; linarith)

/-- A quantised value that wasn't negative still isn't, unless the step is infinite. -/
theorem quant_nonneg {s v : EReal} (hs : 0 ≤ s) (hv : 0 ≤ v) : quant s v = ⊥ ∨ 0 ≤ quant s v := by
  induction s using EReal.rec with
  | bot => exact absurd hs (by simp)
  | top => exact .inl (quant_top v)
  | coe s =>
    right
    unfold quant
    split_ifs with h
    · exact hv
    · have hs' : 0 < s := lt_of_le_of_ne (EReal.coe_nonneg.mp hs) (fun e => h (by rw [← e]; rfl))
      obtain ⟨k, _, _, hk, h128⟩ := code_real hs' v
      have hsafe : safe (s : EReal) = s := if_neg h
      rw [hsafe, hk]
      unfold lo
      rw [← EReal.coe_mul, ← EReal.coe_mul, ← EReal.coe_add]
      refine EReal.coe_nonneg.mpr ?_
      have : (128 : ℝ) ≤ k := by exact_mod_cast h128 hv
      nlinarith

/-- The value of an 8-bit code, as a number. -/
def ofCode (u : BitVec 8) : EReal := ((u.toNat : ℝ) : EReal)

/-- Through the 8-bit code and back is the quantiser, where a zero step goes with a zero value. -/
theorem ofCode_code {s v : EReal} (hs : 0 ≤ s) (h0 : s = 0 → v = 0) :
    ofCode (Ideal.fptoui 8 (code s (safe s) v)) * safe s + lo s = quant s v := by
  induction s using EReal.rec with
  | bot => exact absurd hs (by simp)
  | top => rw [quant_top, lo_top, EReal.add_bot]
  | coe s =>
    unfold quant
    split_ifs with h
    · rw [h0 h, h]
      have h1 : safe 0 = ((1 : ℝ) : EReal) := if_pos rfl
      have hl : lo 0 = ((0 : ℝ) : EReal) := mul_zero _
      have hh : hi 0 = ((0 : ℝ) : EReal) := mul_zero _
      have hc : code 0 (safe 0) 0 = ((0 : ℝ) : EReal) := by
        unfold code
        rw [h1, hl, hh, div_real _ one_ne_zero, EReal.coe_zero, max_self, min_self, EReal.sub_self EReal.zero_ne_top EReal.zero_ne_bot, zero_mul, zero_add]
        show (((⌊(1 / 2 : ℝ)⌋ : ℤ) : ℝ) : EReal) = 0
        norm_num
      have hu : Ideal.fptoui 8 ((0 : ℝ) : EReal) = 0#8 := by
        show BitVec.ofInt 8 (max 0 (min _ (if (0 : ℝ) ≤ 0 then ⌊(0 : ℝ)⌋ else _))) = 0#8
        rw [if_pos le_rfl, Int.floor_zero]
        rfl
      rw [hc, hu, hl, EReal.coe_zero, add_zero]
      unfold ofCode
      rw [show (0#8 : BitVec 8).toNat = 0 from rfl, Nat.cast_zero, EReal.coe_zero, zero_mul]
    · have hs' : 0 < s := lt_of_le_of_ne (EReal.coe_nonneg.mp hs) (fun e => h (by rw [← e]; rfl))
      obtain ⟨k, k0, k1, hk, _⟩ := code_real hs' v
      have hsafe : safe (s : EReal) = s := if_neg h
      rw [hsafe, hk]
      congr 2
      have : Ideal.toIntClamped 0 ((2 ^ 8 : Nat) - 1) (((k : ℝ)) : EReal) = k := by
        show max 0 (min _ (if (0 : ℝ) ≤ (k : ℝ) then ⌊(k : ℝ)⌋ else _)) = k
        rw [if_pos (by exact_mod_cast k0), Int.floor_intCast]
        norm_num
        omega
      unfold ofCode Ideal.fptoui
      rw [this]
      lift k to ℕ using k0
      have : (BitVec.ofInt 8 (k : ℤ)).toNat = k := by
        rw [BitVec.ofInt_natCast, BitVec.toNat_ofNat]
        omega
      rw [this]
      norm_cast

/-- A square root is −∞ or not negative. -/
theorem sqrt_sign (x : EReal) : Ideal.sqrt x = ⊥ ∨ 0 ≤ Ideal.sqrt x := by
  induction x using EReal.rec with
  | bot => exact .inl rfl
  | top => exact .inr le_top
  | coe r =>
    show (if r < 0 then ⊥ else (Real.sqrt r : EReal)) = ⊥ ∨ 0 ≤ (if r < 0 then ⊥ else (Real.sqrt r : EReal))
    split_ifs
    · exact .inl rfl
    · exact .inr (EReal.coe_nonneg.mpr (Real.sqrt_nonneg r))

/-- A family of values that are −∞ or not negative keeps that when it is quantised over its own range. -/
theorem quant_sign {M n v : EReal} (hv : v = ⊥ ∨ 0 ≤ v) (hn : n ≤ v) : quant (step M n) v = ⊥ ∨ 0 ≤ quant (step M n) v := by
  rcases hv with rfl | hv
  · rw [step_top (le_bot_iff.mp hn), quant_top]; exact .inl rfl
  · exact quant_nonneg (step_nonneg _ _) hv

/-- Scaling by a weight that isn't negative and adding keeps the order. -/
theorem affine_mono {w : EReal} (hw : 0 ≤ w) (b : EReal) : Monotone fun v => w * v + b :=
  fun _ _ h => add_le_add (mul_le_mul_of_nonneg_left h hw) le_rfl

/-- Scaling by a negative weight and adding turns the order round. -/
theorem affine_anti {w : EReal} (hw : w ≤ 0) (b : EReal) : Antitone fun v => w * v + b := by
  intro x y h
  refine add_le_add ?_ le_rfl
  have := mul_le_mul_of_nonneg_left h (EReal.neg_nonneg.mpr hw)
  rwa [EReal.neg_mul, EReal.neg_mul, EReal.neg_le_neg_iff] at this

/-! ## Extremes over the fibres of a map -/

section Fibres
variable {ι κ : Type*} [Fintype ι] [Fintype κ]

/-- `M k` is the greatest value of `X` over the fibre of `k`. -/
def FibMax (ch : ι → κ) (X : ι → EReal) (M : κ → EReal) : Prop := ∀ k, IsGreatest (X '' {i | ch i = k}) (M k)
/-- `M k` is the least value of `X` over the fibre of `k`. -/
def FibMin (ch : ι → κ) (X : ι → EReal) (M : κ → EReal) : Prop := ∀ k, IsLeast (X '' {i | ch i = k}) (M k)

variable {ch : ι → κ} {X : ι → EReal} {M N : κ → EReal}

/-- A channel's values under a map are the map's values of the channel. -/
theorem fib_image (ch : ι → κ) (X : ι → EReal) (f : κ → EReal → EReal) (k : κ) :
    (fun i => f (ch i) (X i)) '' {i | ch i = k} = f k '' (X '' {i | ch i = k}) := by
  rw [Set.image_image]
  exact Set.image_congr fun i hi => by rw [show ch i = k from hi]

/-- A monotone map of each channel takes the channels' greatest values to the greatest values. -/
theorem FibMax.map (h : FibMax ch X M) {f : κ → EReal → EReal} (hf : ∀ k, Monotone (f k)) :
    FibMax ch (fun i => f (ch i) (X i)) fun k => f k (M k) := fun k => by
  rw [fib_image]; exact (hf k).map_isGreatest (h k)

/-- A monotone map of each channel takes the channels' least values to the least values. -/
theorem FibMin.map (h : FibMin ch X M) {f : κ → EReal → EReal} (hf : ∀ k, Monotone (f k)) :
    FibMin ch (fun i => f (ch i) (X i)) fun k => f k (M k) := fun k => by
  rw [fib_image]; exact (hf k).map_isLeast (h k)

/-- The greatest end of an affine image, by the weight's sign. -/
theorem FibMax.affine (h : FibMax ch X M) (h' : FibMin ch X N) (w b : κ → EReal) :
    FibMax ch (fun i => w (ch i) * X i + b (ch i)) fun k => if 0 ≤ w k then w k * M k + b k else w k * N k + b k := fun k => by
  rw [fib_image ch X (fun k v => w k * v + b k)]
  dsimp only
  split_ifs with hw
  · exact (affine_mono hw _).map_isGreatest (h k)
  · exact (affine_anti (le_of_not_ge hw) _).map_isLeast (h' k)

/-- The least end of an affine image, by the weight's sign. -/
theorem FibMin.affine (h : FibMax ch X M) (h' : FibMin ch X N) (w b : κ → EReal) :
    FibMin ch (fun i => w (ch i) * X i + b (ch i)) fun k => if 0 ≤ w k then w k * N k + b k else w k * M k + b k := fun k => by
  rw [fib_image ch X (fun k v => w k * v + b k)]
  dsimp only
  split_ifs with hw
  · exact (affine_mono hw _).map_isLeast (h' k)
  · exact (affine_anti (le_of_not_ge hw) _).map_isGreatest (h k)

/-- The greatest of the fibres' greatest is the greatest of all. -/
theorem FibMax.sup (h : FibMax ch X M) : Finset.univ.sup M = Finset.univ.sup X := by
  refine le_antisymm (Finset.sup_le fun k _ => ?_) (Finset.sup_le fun i _ => ?_)
  · obtain ⟨i, -, hi⟩ := (h k).1
    exact hi ▸ Finset.le_sup (f := X) (Finset.mem_univ i)
  · exact ((h (ch i)).2 ⟨i, rfl, rfl⟩).trans (Finset.le_sup (f := M) (Finset.mem_univ _))

/-- The least of the fibres' least is the least of all. -/
theorem FibMin.inf (h : FibMin ch X M) : Finset.univ.inf M = Finset.univ.inf X := by
  refine le_antisymm (Finset.le_inf fun i _ => ?_) (Finset.le_inf fun k _ => ?_)
  · exact (Finset.inf_le (f := M) (Finset.mem_univ (ch i))).trans ((h (ch i)).2 ⟨i, rfl, rfl⟩)
  · obtain ⟨i, -, hi⟩ := (h k).1
    exact hi ▸ Finset.inf_le (f := X) (Finset.mem_univ i)

/-- What lies below every bound of a fibre that isn't empty, and above its values, is its greatest value. -/
theorem fibMax_of_le (hne : ∀ k, ∃ i, ch i = k) (h : ∀ k a, M k ≤ a ↔ ∀ i, ch i = k → X i ≤ a) : FibMax ch X M := fun k => by
  classical
  obtain ⟨i₀, h₀⟩ := hne k
  refine ⟨?_, ?_⟩
  · obtain ⟨i, hi, hs⟩ := Finset.exists_mem_eq_sup (Finset.univ.filter fun i => ch i = k) ⟨i₀, by simp [h₀]⟩ X
    refine ⟨i, (Finset.mem_filter.mp hi).2, ?_⟩
    rw [← hs]
    refine le_antisymm (Finset.sup_le fun j hj => (h k (M k)).mp le_rfl j (Finset.mem_filter.mp hj).2) ((h k _).mpr fun j hj => ?_)
    exact Finset.le_sup (f := X) (Finset.mem_filter.mpr ⟨Finset.mem_univ j, hj⟩)
  · rintro _ ⟨i, hi, rfl⟩
    exact (h k (M k)).mp le_rfl i hi

/-- What lies above every lower bound of a fibre that isn't empty, and below its values, is its least value. -/
theorem fibMin_of_le (hne : ∀ k, ∃ i, ch i = k) (h : ∀ k a, a ≤ M k ↔ ∀ i, ch i = k → a ≤ X i) : FibMin ch X M := fun k => by
  classical
  obtain ⟨i₀, h₀⟩ := hne k
  refine ⟨?_, ?_⟩
  · obtain ⟨i, hi, hs⟩ := Finset.exists_mem_eq_inf (Finset.univ.filter fun i => ch i = k) ⟨i₀, by simp [h₀]⟩ X
    refine ⟨i, (Finset.mem_filter.mp hi).2, ?_⟩
    rw [← hs]
    refine le_antisymm ((h k _).mpr fun j hj => ?_) (Finset.le_inf fun j hj => (h k (M k)).mp le_rfl j (Finset.mem_filter.mp hj).2)
    exact Finset.inf_le (f := X) (Finset.mem_filter.mpr ⟨Finset.mem_univ j, hj⟩)
  · rintro _ ⟨i, hi, rfl⟩
    exact (h k (M k)).mp le_rfl i hi

end Fibres

end Cert.Quant

end
-- ==== Proof.Spec.lean ====
module

public import proofs.«01_k».proof.Proof.Quant

@[expose] public section

noncomputable section

namespace Cert.Quant

open Idealize.ShloMosaic

/-! ## Quantised batch normalisation, over any index and channel types -/

/-- A family quantised over its own range. -/
def Q {ι : Type*} [Fintype ι] (v : ι → EReal) (i : ι) : EReal := quant (step (Finset.univ.sup v) (Finset.univ.inf v)) (v i)

section
variable {ι κ : Type*} [Fintype ι] [Fintype κ] [DecidableEq κ]

/-- The running value `old`, moved an eighth of the way to the mean of 200704 values whose sum is `s`. -/
def blend (s old : κ → EReal) (k : κ) : EReal :=
  Ideal.ofBits .f32 0x3F600000#32 * old k + Ideal.ofBits .f32 0x3E000000#32 * Ideal.div (s k) (Ideal.ofBits .f32 0x48440000#32)
/-- The sum over each channel. -/
def chSum (ch : ι → κ) (X : ι → EReal) (k : κ) : EReal := ∑ i with ch i = k, X i

variable (ch : ι → κ) (X : ι → EReal) (w b rm rv : κ → EReal)

/-- The quantised running mean. -/
def mean : κ → EReal := Q (blend (chSum ch X) rm)
/-- The distances from it. -/
def dev (i : ι) : EReal := X i - mean ch X rm (ch i)
/-- The distances, quantised. -/
def ctr : ι → EReal := Q (dev ch X rm)
/-- The quantised running variance. -/
def var : κ → EReal := Q (blend (chSum ch fun i => ctr ch X rm i * ctr ch X rm i) rv)
/-- The standard deviation, before it is quantised. -/
def sd (k : κ) : EReal := Ideal.sqrt (var ch X rm rv k + Ideal.ofBits .f32 0x3727C5AC#32)
/-- The quantised standard deviation. -/
def den : κ → EReal := Q (sd ch X rm rv)
/-- The normalised values. -/
def nrm (i : ι) : EReal := Ideal.div (ctr ch X rm i) (den ch X rm rv (ch i))
/-- The scaled and shifted values. -/
def lin (i : ι) : EReal := Q w (ch i) * Q (nrm ch X rm rv) i + Q b (ch i)
/-- The result. -/
def out : ι → EReal := Q (lin ch X w b rm rv)

/-! ## The same from each channel's sum, greatest and least value -/

variable {ch X rm} {M N : κ → EReal}

/-- The step of the distances, from the channels' extremes. -/
def step1 (M N mu : κ → EReal) : EReal := step (Finset.univ.sup fun k => M k - mu k) (Finset.univ.inf fun k => N k - mu k)
/-- The step of the normalised values, from the channels' extremes. -/
def step2 (M N mu dn : κ → EReal) : EReal :=
  step (Finset.univ.sup fun k => Ideal.div (quant (step1 M N mu) (M k - mu k)) (dn k))
    (Finset.univ.inf fun k => Ideal.div (quant (step1 M N mu) (N k - mu k)) (dn k))
/-- A channel's extreme value after scaling and shifting: of the end `h` for a weight that isn't negative, else of `l`. -/
def edge (w b h l : κ → EReal) (k : κ) : EReal := if 0 ≤ w k then w k * h k + b k else w k * l k + b k
/-- A channel's extreme normalised value, quantised. -/
def end2 (M N mu dn E : κ → EReal) (k : κ) : EReal := quant (step2 M N mu dn) (Ideal.div (quant (step1 M N mu) (E k - mu k)) (dn k))
/-- The step of the scaled and shifted values, from the channels' extremes. -/
def step3 (M N mu dn w b : κ → EReal) : EReal :=
  step (Finset.univ.sup (edge w b (end2 M N mu dn M) (end2 M N mu dn N))) (Finset.univ.inf (edge w b (end2 M N mu dn N) (end2 M N mu dn M)))

/-- The greatest distance of a channel is that of its greatest value. -/
theorem dev_max (h : FibMax ch X M) : FibMax ch (dev ch X rm) fun k => M k - mean ch X rm k :=
  h.map (f := fun k v => v - mean ch X rm k) fun _ _ _ h => EReal.sub_le_sub h le_rfl

/-- The least distance of a channel is that of its least value. -/
theorem dev_min (h : FibMin ch X N) : FibMin ch (dev ch X rm) fun k => N k - mean ch X rm k :=
  h.map (f := fun k v => v - mean ch X rm k) fun _ _ _ h => EReal.sub_le_sub h le_rfl

/-- The step of the distances is the one that the channels' extremes give. -/
theorem step1_eq (h : FibMax ch X M) (h' : FibMin ch X N) :
    step1 M N (mean ch X rm) = step (Finset.univ.sup (dev ch X rm)) (Finset.univ.inf (dev ch X rm)) := by
  unfold step1; rw [(dev_max h).sup, (dev_min h').inf]

/-- Quantising with the step from the channels' extremes gives the quantised distances. -/
theorem ctr_eq (h : FibMax ch X M) (h' : FibMin ch X N) (i : ι) :
    quant (step1 M N (mean ch X rm)) (X i - mean ch X rm (ch i)) = ctr ch X rm i := by rw [step1_eq h h']; rfl

/-- A zero step means that all distances are zero. -/
theorem dev_zero (h : FibMax ch X M) (h' : FibMin ch X N) (h0 : step1 M N (mean ch X rm) = 0) (i : ι) : dev ch X rm i = 0 := by
  rw [step1_eq h h'] at h0
  obtain ⟨h1, h2⟩ := step_eq_zero h0
  exact le_antisymm (h1 ▸ Finset.le_sup (f := dev ch X rm) (Finset.mem_univ i)) (h2 ▸ Finset.inf_le (f := dev ch X rm) (Finset.mem_univ i))

/-- The 8-bit code, read back, is the quantised distance. -/
theorem ctr_code (h : FibMax ch X M) (h' : FibMin ch X N) (i : ι) :
    ofCode (Ideal.fptoui 8 (code (step1 M N (mean ch X rm)) (safe (step1 M N (mean ch X rm))) (X i - mean ch X rm (ch i))))
      * safe (step1 M N (mean ch X rm)) + lo (step1 M N (mean ch X rm)) = ctr ch X rm i :=
  (ofCode_code (step_nonneg _ _) fun h0 => dev_zero (rm := rm) h h' h0 i).trans (ctr_eq h h' i)

/-- The quantised standard deviation is minus infinity or not negative. -/
theorem sd_sign (k : κ) : den ch X rm rv k = ⊥ ∨ 0 ≤ den ch X rm rv k :=
  quant_sign (sqrt_sign _) (Finset.inf_le (Finset.mem_univ k))

/-- The greatest normalised value of a channel comes from its greatest value. -/
theorem nrm_max (h : FibMax ch X M) (h' : FibMin ch X N) :
    FibMax ch (nrm ch X rm rv) fun k => Ideal.div (quant (step1 M N (mean ch X rm)) (M k - mean ch X rm k)) (den ch X rm rv k) := by
  have := (dev_max (rm := rm) h).map (f := fun k v => Ideal.div (quant (step1 M N (mean ch X rm)) v) (den ch X rm rv k))
    fun k => (div_mono (sd_sign rv k)).comp (quant_mono (step_nonneg _ _))
  simp only [dev, ctr_eq h h'] at this
  exact this

/-- The least normalised value of a channel comes from its least value. -/
theorem nrm_min (h : FibMax ch X M) (h' : FibMin ch X N) :
    FibMin ch (nrm ch X rm rv) fun k => Ideal.div (quant (step1 M N (mean ch X rm)) (N k - mean ch X rm k)) (den ch X rm rv k) := by
  have := (dev_min (rm := rm) h').map (f := fun k v => Ideal.div (quant (step1 M N (mean ch X rm)) v) (den ch X rm rv k))
    fun k => (div_mono (sd_sign rv k)).comp (quant_mono (step_nonneg _ _))
  simp only [dev, ctr_eq h h'] at this
  exact this

/-- The step of the normalised values is the one that the channels' extremes give. -/
theorem step2_eq (h : FibMax ch X M) (h' : FibMin ch X N) :
    step2 M N (mean ch X rm) (den ch X rm rv) = step (Finset.univ.sup (nrm ch X rm rv)) (Finset.univ.inf (nrm ch X rm rv)) := by
  unfold step2; rw [(nrm_max rv h h').sup, (nrm_min rv h h').inf]

/-- So does the greatest after quantising. -/
theorem xn_max (h : FibMax ch X M) (h' : FibMin ch X N) :
    FibMax ch (Q (nrm ch X rm rv)) (end2 M N (mean ch X rm) (den ch X rm rv) M) := by
  have := (nrm_max (rm := rm) rv h h').map (f := fun _ => quant (step2 M N (mean ch X rm) (den ch X rm rv))) fun _ => quant_mono (step_nonneg _ _)
  rw [step2_eq rv h h'] at this
  unfold end2
  rw [step2_eq rv h h']
  exact this

/-- So does the least after quantising. -/
theorem xn_min (h : FibMax ch X M) (h' : FibMin ch X N) :
    FibMin ch (Q (nrm ch X rm rv)) (end2 M N (mean ch X rm) (den ch X rm rv) N) := by
  have := (nrm_min (rm := rm) rv h h').map (f := fun _ => quant (step2 M N (mean ch X rm) (den ch X rm rv))) fun _ => quant_mono (step_nonneg _ _)
  rw [step2_eq rv h h'] at this
  unfold end2
  rw [step2_eq rv h h']
  exact this

/-- The step of the scaled and shifted values is the one that the channels' extremes give. -/
theorem step3_eq (h : FibMax ch X M) (h' : FibMin ch X N) :
    step3 M N (mean ch X rm) (den ch X rm rv) (Q w) (Q b) = step (Finset.univ.sup (lin ch X w b rm rv)) (Finset.univ.inf (lin ch X w b rm rv)) := by
  unfold step3
  rw [show Finset.univ.sup (edge (Q w) (Q b) _ _) = _ from (FibMax.affine (xn_max (rm := rm) rv h h') (xn_min (rm := rm) rv h h') (Q w) (Q b)).sup,
    show Finset.univ.inf (edge (Q w) (Q b) _ _) = _ from (FibMin.affine (xn_max (rm := rm) rv h h') (xn_min (rm := rm) rv h h') (Q w) (Q b)).inf]
  rfl

/-- The result, from the channels' extremes and the quantised distance `c`. -/
theorem out_eq (h : FibMax ch X M) (h' : FibMin ch X N) (i : ι) {c : EReal} (hc : c = ctr ch X rm i) :
    quant (step3 M N (mean ch X rm) (den ch X rm rv) (Q w) (Q b))
      (Q w (ch i) * quant (step2 M N (mean ch X rm) (den ch X rm rv)) (Ideal.div c (den ch X rm rv (ch i))) + Q b (ch i))
      = out ch X w b rm rv i := by
  rw [step3_eq w b rv h h', step2_eq rv h h', hc]
  rfl

end

end Cert.Quant

end
-- ==== Proof.Arr.lean ====
module

public import proofs.«01_k».proof.Proof.Spec
public import Idealize.ShloMosaic.PureOps.Reduce

@[expose] public section

noncomputable section

namespace Cert.Arr

open Idealize.ShloMosaic

/-- The shape of a scalar array. -/
abbrev Z : Shape := ⟨0, ![]⟩

section
variable {F : FTy → Type} [FloatOps F] {s : Shape}

/-! ## The quantiser on arrays of any shape -/

/-- The quantiser's step for values between `n` and `M`. -/
def stepA (M n : FVec F Z .f32) : FVec F Z .f32 :=
  Host.divf (mulf (constant Z .f32 0x40000000#32) (maximumf (Host.absf M) (Host.absf n))) (constant Z .f32 0x437F0000#32)
/-- The least quantised value. -/
def loA (s : FVec F Z .f32) : FVec F Z .f32 := mulf (constant Z .f32 0xC3000000#32) s
/-- The greatest quantised value. -/
def hiA (s : FVec F Z .f32) : FVec F Z .f32 := mulf (constant Z .f32 0x42FE0000#32) s
/-- Whether the step is zero. -/
def flatA (s : FVec F Z .f32) : IVec Z 1 := cmpf .oeq s (constant Z .f32 0x00000000#32)
/-- The step, or one where it is zero. -/
def safeA (s : FVec F Z .f32) : FVec F Z .f32 := select (flatA s) (id (constant Z .f32 0x3F800000#32)) s
/-- A scalar on every place of an array. -/
def bcA {α : Type} (hb : Z.BroadcastsInDim s ![]) (x : Z.Idx → α) : s.Idx → α := broadcastInDim s ![] hb x
/-- The quantiser of step `d`, applied to every value. -/
def quantA (hb : Z.BroadcastsInDim s ![]) (d : FVec F Z .f32) (v : FVec F s .f32) : FVec F s .f32 :=
  select (bcA hb (flatA d)) v
    (addf (mulf (Host.floor (addf (Host.divf (subf (minimumf (bcA hb (hiA d)) (maximumf (bcA hb (loA d)) v)) (bcA hb (loA d))) (bcA hb (safeA d)))
      (bcA hb (constant Z .f32 0x3F000000#32)))) (bcA hb (safeA d))) (bcA hb (loA d)))
variable {axes : List (Fin s.rank)}
/-- The largest value. -/
def maxA (hr : s.ReducesTo axes Z) (h0 : 0 < Z.numel) (v : FVec F s .f32) : FVec F Z .f32 :=
  Host.reduce FloatOps.maximumf v (constant Z .f32 0xFF800000#32) hr h0
/-- The smallest value. -/
def minA (hr : s.ReducesTo axes Z) (h0 : 0 < Z.numel) (v : FVec F s .f32) : FVec F Z .f32 :=
  Host.reduce FloatOps.minimumf v (constant Z .f32 0x7F800000#32) hr h0
/-- The running value `old`, moved an eighth of the way to the batch's mean. -/
def blendA (hb : Z.BroadcastsInDim s ![]) (sum old : FVec F s .f32) : FVec F s .f32 :=
  addf (mulf (bcA hb (constant Z .f32 0x3F600000#32)) old)
    (mulf (bcA hb (constant Z .f32 0x3E000000#32)) (Host.divf sum (bcA hb (constant Z .f32 0x48440000#32))))
/-- The standard deviation, before it is quantised. -/
def sdA (hb : Z.BroadcastsInDim s ![]) (v : FVec F s .f32) : FVec F s .f32 := Host.sqrt (addf v (bcA hb (constant Z .f32 0x3727C5AC#32)))
/-- `qw * h + qb` where the weight isn't negative, `qw * l + qb` where it is. -/
def endA (hb : Z.BroadcastsInDim s ![]) (qw qb h l : FVec F s .f32) : FVec F s .f32 :=
  select (cmpf .oge qw (bcA hb (constant Z .f32 0x00000000#32))) (addf (mulf qw h) qb) (addf (mulf qw l) qb)

end

/-! ## Their values on the extended reals -/

open Cert.Quant

/-- The float word of 2. -/
theorem word_two : Ideal.ofBits .f32 0x40000000#32 = ((2 : ℝ) : EReal) := by simp [Ideal.ofBits, Ideal.ieee, -EReal.coe_mul]; norm_num
/-- The float word of 255. -/
theorem word_255 : Ideal.ofBits .f32 0x437F0000#32 = ((255 : ℝ) : EReal) := by simp [Ideal.ofBits, Ideal.ieee, -EReal.coe_mul]; norm_num
/-- The float word of −128. -/
theorem word_m128 : Ideal.ofBits .f32 0xC3000000#32 = ((-128 : ℝ) : EReal) := by simp [Ideal.ofBits, Ideal.ieee, -EReal.coe_mul]; norm_num
/-- The float word of 127. -/
theorem word_127 : Ideal.ofBits .f32 0x42FE0000#32 = ((127 : ℝ) : EReal) := by simp [Ideal.ofBits, Ideal.ieee, -EReal.coe_mul]; norm_num
/-- The float word of a half. -/
theorem word_half : Ideal.ofBits .f32 0x3F000000#32 = ((1 / 2 : ℝ) : EReal) := by simp [Ideal.ofBits, Ideal.ieee, -EReal.coe_mul]; norm_num
/-- The float word of 1. -/
theorem word_one : Ideal.ofBits .f32 0x3F800000#32 = 1 := by simp [Ideal.ofBits, Ideal.ieee, -EReal.coe_mul]; norm_num
/-- The float word of infinity. -/
theorem word_top : Ideal.ofBits .f32 0x7F800000#32 = ⊤ := by simp [Ideal.ofBits, Ideal.ieee]
/-- The float word of minus infinity. -/
theorem word_bot : Ideal.ofBits .f32 0xFF800000#32 = ⊥ := by simp [Ideal.ofBits, Ideal.ieee]

/-- A choice on a comparison for equality with zero. -/
theorem select_oeq {α : Type} (x y : EReal) (a b : α) : Scalar.select (Ideal.cmp .oeq x y) a b = if x = y then a else b := by
  by_cases h : x = y <;> simp [Scalar.select, Ideal.cmp, h]
/-- A choice on a comparison for order. -/
theorem select_oge {α : Type} (x y : EReal) (a b : α) : Scalar.select (Ideal.cmp .oge x y) a b = if y ≤ x then a else b := by
  by_cases h : y ≤ x <;> simp [Scalar.select, Ideal.cmp, h]

variable {s : Shape}

/-- A scalar has one index. -/
theorem z_eq (i j : Z.Idx) : i = j := funext fun a => a.elim0

/-- A broadcast scalar is the scalar everywhere. -/
theorem bcA_at {α : Type} (hb : Z.BroadcastsInDim s ![]) (x : Z.Idx → α) (i : s.Idx) (j : Z.Idx) : bcA hb x i = x j := congrArg x (z_eq _ _)

/-- The step of a range, read. -/
theorem stepA_at (M n : FVec Ideal Z .f32) (j : Z.Idx) : stepA M n j = step (M j) (n j) := by
  show Ideal.div (Ideal.ofBits .f32 0x40000000#32 * max (max (M j) (-(M j))) (max (n j) (-(n j)))) (Ideal.ofBits .f32 0x437F0000#32) = _
  rw [word_two, word_255, step]

/-- The least value of a step, read. -/
theorem loA_at (d : FVec Ideal Z .f32) (j : Z.Idx) : loA d j = lo (d j) := by
  show Ideal.ofBits .f32 0xC3000000#32 * d j = _
  rw [word_m128, lo]

/-- The greatest value of a step, read. -/
theorem hiA_at (d : FVec Ideal Z .f32) (j : Z.Idx) : hiA d j = hi (d j) := by
  show Ideal.ofBits .f32 0x42FE0000#32 * d j = _
  rw [word_127, hi]

/-- The divisor of a step, read. -/
theorem safeA_at (d : FVec Ideal Z .f32) (j : Z.Idx) : safeA d j = safe (d j) := by
  show Scalar.select (Ideal.cmp .oeq (d j) (Ideal.ofBits .f32 0x00000000#32)) (Ideal.ofBits .f32 0x3F800000#32) (d j) = _
  rw [select_oeq, Ideal.ofBits_zero_f32, word_one, safe]

/-- The quantiser, value by value. -/
theorem quantA_at (hb : Z.BroadcastsInDim s ![]) (d : FVec Ideal Z .f32) (v : FVec Ideal s .f32) (i : s.Idx) (j : Z.Idx) :
    quantA hb d v i = quant (d j) (v i) := by
  show Scalar.select (bcA hb (flatA d) i) (v i) (Ideal.liftRound Int.floor (Ideal.div (min (bcA hb (hiA d) i) (max (bcA hb (loA d) i) (v i)) - bcA hb (loA d) i)
    (bcA hb (safeA d) i) + Ideal.ofBits .f32 0x3F000000#32) * bcA hb (safeA d) i + bcA hb (loA d) i) = _
  simp only [bcA_at hb _ i j, hiA_at, loA_at, safeA_at, word_half]
  show Scalar.select (Ideal.cmp .oeq (d j) (Ideal.ofBits .f32 0x00000000#32)) _ _ = _
  rw [select_oeq, Ideal.ofBits_zero_f32]
  rfl

/-- The greatest of all elements. -/
theorem maxA_at {axes : List (Fin s.rank)} (hr : s.ReducesTo axes Z) (h0 : 0 < Z.numel) (v : FVec Ideal s .f32) (j : Z.Idx) :
    maxA hr h0 v j = Finset.univ.sup v := by
  unfold maxA
  rw [Host.reduce_eq_fold, Finset.filter_true_of_mem fun i _ => z_eq _ _]
  show Finset.fold max (Ideal.ofBits .f32 0xFF800000#32) v Finset.univ = _
  rw [word_bot]; rfl

/-- The least of all elements. -/
theorem minA_at {axes : List (Fin s.rank)} (hr : s.ReducesTo axes Z) (h0 : 0 < Z.numel) (v : FVec Ideal s .f32) (j : Z.Idx) :
    minA hr h0 v j = Finset.univ.inf v := by
  unfold minA
  rw [Host.reduce_eq_fold, Finset.filter_true_of_mem fun i _ => z_eq _ _]
  show Finset.fold min (Ideal.ofBits .f32 0x7F800000#32) v Finset.univ = _
  rw [word_top]; rfl

/-- Quantising an array over its own range. -/
theorem quantA_Q (hb : Z.BroadcastsInDim s ![]) {axes : List (Fin s.rank)} (hr : s.ReducesTo axes Z) (h0 : 0 < Z.numel) (v : FVec Ideal s .f32) :
    quantA hb (stepA (maxA hr h0 v) (minA hr h0 v)) v = Q v := funext fun i => by
  rw [quantA_at hb _ v i (Shape.Idx.first h0), stepA_at, maxA_at, minA_at, Q]

/-- The standard deviation, read. -/
theorem sdA_at (hb : Z.BroadcastsInDim s ![]) (v : FVec Ideal s .f32) (i : s.Idx) : sdA hb v i = Ideal.sqrt (v i + Ideal.ofBits .f32 0x3727C5AC#32) := rfl

/-- The running value moved towards the new mean. -/
theorem blendA_at (hb : Z.BroadcastsInDim s ![]) (sum old : FVec Ideal s .f32) : blendA hb sum old = blend sum old := rfl

/-- A channel's extreme value after scaling and shifting. -/
theorem endA_at (hb : Z.BroadcastsInDim s ![]) (qw qb h l : FVec Ideal s .f32) : endA hb qw qb h l = edge qw qb h l := funext fun i => by
  show Scalar.select (Ideal.cmp .oge (qw i) (Ideal.ofBits .f32 0x00000000#32)) _ _ = _
  rw [select_oge, Ideal.ofBits_zero_f32]
  rfl

end Cert.Arr

end
-- ==== Proof.HostDefs.lean ====
module

public import proofs.«01_k».proof.Proof.Run
public import proofs.«01_k».proof.Proof.Arr

@[expose] public section

noncomputable section

namespace Cert.KernelIdeal.Run

open Cert.KernelIdeal.Gen
open Idealize.ShloMosaic Idealize.ShloMosaic.TcCoe
open Cert.Arr

variable {F : FTy → Type} [FloatOps F]

/-! ## The host's arithmetic on arrays with one value for each channel -/

/-- An array with one value for each channel. -/
abbrev AC (F : FTy → Type) [FloatOps F] := FVec F S1x256 .f32

/-- The largest of the channels' values. -/
def maxC (v : AC F) : FVec F Z .f32 := maxA reducesTo_S1x256_S_d0_1 h_S_ v
/-- The smallest of the channels' values. -/
def minC (v : AC F) : FVec F Z .f32 := minA reducesTo_S1x256_S_d0_1 h_S_ v
/-- The quantiser of step `d`, applied to each channel. -/
def quantC (d : FVec F Z .f32) (v : AC F) : AC F := quantA bcast_S_S1x256 d v
/-- The step that the channels' own values give. -/
def stepC (v : AC F) : FVec F Z .f32 := stepA (maxC v) (minC v)
/-- A vector laid out as one row. -/
def rowC (v : FVec F S256 .f32) : AC F := broadcastInDim S1x256 ![1] bcast_S256_S1x256_1 v
/-- The running value, moved an eighth of the way to the batch's mean. -/
def blendC (sum : AC F) (old : FVec F S256 .f32) : AC F := blendA bcast_S_S1x256 sum (rowC old)
/-- The standard deviation, before it is quantised. -/
def sdC (v : AC F) : AC F := sdA bcast_S_S1x256 v
/-- A channel's extreme value after scaling and shifting. -/
def endC (qw qb h l : AC F) : AC F := endA bcast_S_S1x256 qw qb h l
/-- One value for each channel, on every place of a row of the channel. -/
def planeC (v : AC F) : FVec F S1x256x3136 .f32 :=
  broadcastInDim S1x256x3136 ![0, 1, 2] bcast_S1x256x1_S1x256x3136_0_1_2 (broadcastInDim S1x256x1 ![0, 1] bcast_S1x256_S1x256x1_0_1 v)
/-- A scalar as a vector of one value. -/
def oneC (d : FVec F Z .f32) : FVec F S1 .f32 := broadcastInDim S1 ![] bcast_S_S1 d
/-- The parameters of the second kernel. -/
def pack4 (a b c d : FVec F Z .f32) : FVec F S4 .f32 :=
  concatenate S4 0 [⟨S1, oneC a⟩, ⟨S1, oneC b⟩, ⟨S1, oneC c⟩, ⟨S1, oneC d⟩] concatenates_S1_S1_S1_S1_S4_d0
/-- The parameters of the third kernel. -/
def pack12 (a b c d e f g h i j k l : FVec F Z .f32) : FVec F S12 .f32 :=
  concatenate S12 0 [⟨S1, oneC a⟩, ⟨S1, oneC b⟩, ⟨S1, oneC c⟩, ⟨S1, oneC d⟩, ⟨S1, oneC e⟩, ⟨S1, oneC f⟩, ⟨S1, oneC g⟩, ⟨S1, oneC h⟩,
    ⟨S1, oneC i⟩, ⟨S1, oneC j⟩, ⟨S1, oneC k⟩, ⟨S1, oneC l⟩] concatenates_S1_S1_S1_S1_S1_S1_S1_S1_S1_S1_S1_S1_S12_d0

end Cert.KernelIdeal.Run

end
-- ==== Proof.Host.lean ====
module

public import proofs.«01_k».proof.Proof.HostDefs
public import proofs.«01_k».proof.Proof.Keeps

@[expose] public section

set_option maxRecDepth 16384

noncomputable section

namespace Cert.KernelIdeal.Run

open Cert.KernelIdeal.Gen
open Idealize.ShloMosaic Idealize.ShloMosaic.TcCoe Idealize.ShloMosaic.StableHlo
open Cert.Arr

variable {F : FTy → Type} [FloatOps F]

/-! ## What each stretch of host code leaves, from what it finds -/

/-- The quantised mean. -/
theorem hostA_eq (V : Valuation τ sig (Elt F)) :
    hostA V (Proc.devRef .tc main_v34) = quantC (stepC (blendC (V (Proc.devRef .tc main_v1_0)) (V (Proc.devRef .tc main_arg3)))) (blendC (V (Proc.devRef .tc main_v1_0)) (V (Proc.devRef .tc main_arg3))) := by
  (simp only [hostA, hostOps1, hostOps1_1, hostOps1_2, hostOps1_3, hostOps1_4, TRef.binary, TRef.ternary, TRef.unary, TRef.toBuf, TRef.ofBuf, cast_eq]; after_results_simp; rfl)

/-- The distances' step with its least value, greatest value and divisor, and the mean's plane. -/
theorem hostB_eq (V : Valuation τ sig (Elt F)) :
    hostB V (Proc.devRef .tc main_v43) = stepA (maxC (subf (V (Proc.devRef .tc main_v1_1)) (V (Proc.devRef .tc main_v34)))) (minC (subf (V (Proc.devRef .tc main_v1_2)) (V (Proc.devRef .tc main_v34))))
    ∧ hostB V (Proc.devRef .tc main_v44) = loA (stepA (maxC (subf (V (Proc.devRef .tc main_v1_1)) (V (Proc.devRef .tc main_v34)))) (minC (subf (V (Proc.devRef .tc main_v1_2)) (V (Proc.devRef .tc main_v34)))))
    ∧ hostB V (Proc.devRef .tc main_v45) = hiA (stepA (maxC (subf (V (Proc.devRef .tc main_v1_1)) (V (Proc.devRef .tc main_v34)))) (minC (subf (V (Proc.devRef .tc main_v1_2)) (V (Proc.devRef .tc main_v34)))))
    ∧ hostB V (Proc.devRef .tc main_v47) = safeA (stepA (maxC (subf (V (Proc.devRef .tc main_v1_1)) (V (Proc.devRef .tc main_v34)))) (minC (subf (V (Proc.devRef .tc main_v1_2)) (V (Proc.devRef .tc main_v34)))))
    ∧ hostB V (Proc.devRef .tc main_v49) = planeC (V (Proc.devRef .tc main_v34)) := by
  refine ⟨?_, ?_, ?_, ?_, ?_⟩ <;> (simp only [hostB, hostOps1_5, hostOps1_6, hostOps1_7, TRef.binary, TRef.ternary, TRef.unary, TRef.toBuf, TRef.ofBuf, cast_eq]; after_results_simp; rfl)

/-- The quantised standard deviation. -/
theorem hostC_eq (V : Valuation τ sig (Elt F)) :
    hostC V (Proc.devRef .tc main_v116) = quantC (stepC (sdC (quantC (stepC (blendC (V (Proc.devRef .tc main_v55_1)) (V (Proc.devRef .tc main_arg4)))) (blendC (V (Proc.devRef .tc main_v55_1)) (V (Proc.devRef .tc main_arg4)))))) (sdC (quantC (stepC (blendC (V (Proc.devRef .tc main_v55_1)) (V (Proc.devRef .tc main_arg4)))) (blendC (V (Proc.devRef .tc main_v55_1)) (V (Proc.devRef .tc main_arg4))))) := by
  (simp only [hostC, hostOps2, hostOps2_1, hostOps2_2, hostOps2_3, hostOps2_4, hostOps2_5, hostOps2_6, hostOps2_7, hostOps2_8, hostOps2_9, TRef.binary, TRef.ternary, TRef.unary, TRef.toBuf, TRef.ofBuf, cast_eq]; after_results_simp; rfl)

/-- The normalised values' step with its least value, greatest value and divisor, and each channel's ends. -/
theorem hostD_eq (V : Valuation τ sig (Elt F))
    (h44 : V (Proc.devRef .tc main_v44) = loA (V (Proc.devRef .tc main_v43))) (h45 : V (Proc.devRef .tc main_v45) = hiA (V (Proc.devRef .tc main_v43))) (h47 : V (Proc.devRef .tc main_v47) = safeA (V (Proc.devRef .tc main_v43))) :
    hostD V (Proc.devRef .tc main_v155) = stepA (maxC (Host.divf (quantC (V (Proc.devRef .tc main_v43)) (subf (V (Proc.devRef .tc main_v1_1)) (V (Proc.devRef .tc main_v34)))) (V (Proc.devRef .tc main_v116)))) (minC (Host.divf (quantC (V (Proc.devRef .tc main_v43)) (subf (V (Proc.devRef .tc main_v1_2)) (V (Proc.devRef .tc main_v34)))) (V (Proc.devRef .tc main_v116))))
    ∧ hostD V (Proc.devRef .tc main_v156) = loA (stepA (maxC (Host.divf (quantC (V (Proc.devRef .tc main_v43)) (subf (V (Proc.devRef .tc main_v1_1)) (V (Proc.devRef .tc main_v34)))) (V (Proc.devRef .tc main_v116)))) (minC (Host.divf (quantC (V (Proc.devRef .tc main_v43)) (subf (V (Proc.devRef .tc main_v1_2)) (V (Proc.devRef .tc main_v34)))) (V (Proc.devRef .tc main_v116)))))
    ∧ hostD V (Proc.devRef .tc main_v157) = hiA (stepA (maxC (Host.divf (quantC (V (Proc.devRef .tc main_v43)) (subf (V (Proc.devRef .tc main_v1_1)) (V (Proc.devRef .tc main_v34)))) (V (Proc.devRef .tc main_v116)))) (minC (Host.divf (quantC (V (Proc.devRef .tc main_v43)) (subf (V (Proc.devRef .tc main_v1_2)) (V (Proc.devRef .tc main_v34)))) (V (Proc.devRef .tc main_v116)))))
    ∧ hostD V (Proc.devRef .tc main_v159) = safeA (stepA (maxC (Host.divf (quantC (V (Proc.devRef .tc main_v43)) (subf (V (Proc.devRef .tc main_v1_1)) (V (Proc.devRef .tc main_v34)))) (V (Proc.devRef .tc main_v116)))) (minC (Host.divf (quantC (V (Proc.devRef .tc main_v43)) (subf (V (Proc.devRef .tc main_v1_2)) (V (Proc.devRef .tc main_v34)))) (V (Proc.devRef .tc main_v116)))))
    ∧ hostD V (Proc.devRef .tc main_v173) = quantC (stepA (maxC (Host.divf (quantC (V (Proc.devRef .tc main_v43)) (subf (V (Proc.devRef .tc main_v1_1)) (V (Proc.devRef .tc main_v34)))) (V (Proc.devRef .tc main_v116)))) (minC (Host.divf (quantC (V (Proc.devRef .tc main_v43)) (subf (V (Proc.devRef .tc main_v1_2)) (V (Proc.devRef .tc main_v34)))) (V (Proc.devRef .tc main_v116))))) (Host.divf (quantC (V (Proc.devRef .tc main_v43)) (subf (V (Proc.devRef .tc main_v1_1)) (V (Proc.devRef .tc main_v34)))) (V (Proc.devRef .tc main_v116)))
    ∧ hostD V (Proc.devRef .tc main_v187) = quantC (stepA (maxC (Host.divf (quantC (V (Proc.devRef .tc main_v43)) (subf (V (Proc.devRef .tc main_v1_1)) (V (Proc.devRef .tc main_v34)))) (V (Proc.devRef .tc main_v116)))) (minC (Host.divf (quantC (V (Proc.devRef .tc main_v43)) (subf (V (Proc.devRef .tc main_v1_2)) (V (Proc.devRef .tc main_v34)))) (V (Proc.devRef .tc main_v116))))) (Host.divf (quantC (V (Proc.devRef .tc main_v43)) (subf (V (Proc.devRef .tc main_v1_2)) (V (Proc.devRef .tc main_v34)))) (V (Proc.devRef .tc main_v116))) := by
  refine ⟨?_, ?_, ?_, ?_, ?_, ?_⟩ <;> (simp only [hostD, hostOps2_10, hostOps2_11, hostOps2_12, hostOps2_13, hostOps2_14, hostOps2_15, hostOps2_16, hostOps2_17, hostOps2_18, hostOps2_19, hostOps2_20, hostOps2_21, hostOps2_22, hostOps2_23, hostOps2_24, hostOps2_25, TRef.binary, TRef.ternary, TRef.unary, TRef.toBuf, TRef.ofBuf, cast_eq]; after_results_simp; rw [h44, h45, h47]; rfl)

/-- The quantised weight and bias. -/
theorem hostE_eq (V : Valuation τ sig (Elt F)) :
    hostE V (Proc.devRef .tc main_v213) = quantC (stepC (rowC (V (Proc.devRef .tc main_arg1)))) (rowC (V (Proc.devRef .tc main_arg1)))
    ∧ hostE V (Proc.devRef .tc main_v239) = quantC (stepC (rowC (V (Proc.devRef .tc main_arg2)))) (rowC (V (Proc.devRef .tc main_arg2))) := by
  refine ⟨?_, ?_⟩ <;> (simp only [hostE, hostOps2_26, hostOps2_27, hostOps2_28, hostOps2_29, hostOps2_30, hostOps2_31, hostOps2_32, hostOps2_33, hostOps2_34, hostOps2_35, TRef.binary, TRef.ternary, TRef.unary, TRef.toBuf, TRef.ofBuf, cast_eq]; after_results_simp; rfl)

/-- The result's step with its least value, greatest value and divisor, and the planes of the standard deviation, the weight and the bias. -/
theorem hostG_eq (V : Valuation τ sig (Elt F)) :
    hostG V (Proc.devRef .tc main_v260) = stepA (maxC (endC (V (Proc.devRef .tc main_v213)) (V (Proc.devRef .tc main_v239)) (V (Proc.devRef .tc main_v173)) (V (Proc.devRef .tc main_v187)))) (minC (endC (V (Proc.devRef .tc main_v213)) (V (Proc.devRef .tc main_v239)) (V (Proc.devRef .tc main_v187)) (V (Proc.devRef .tc main_v173))))
    ∧ hostG V (Proc.devRef .tc main_v261) = loA (stepA (maxC (endC (V (Proc.devRef .tc main_v213)) (V (Proc.devRef .tc main_v239)) (V (Proc.devRef .tc main_v173)) (V (Proc.devRef .tc main_v187)))) (minC (endC (V (Proc.devRef .tc main_v213)) (V (Proc.devRef .tc main_v239)) (V (Proc.devRef .tc main_v187)) (V (Proc.devRef .tc main_v173)))))
    ∧ hostG V (Proc.devRef .tc main_v262) = hiA (stepA (maxC (endC (V (Proc.devRef .tc main_v213)) (V (Proc.devRef .tc main_v239)) (V (Proc.devRef .tc main_v173)) (V (Proc.devRef .tc main_v187)))) (minC (endC (V (Proc.devRef .tc main_v213)) (V (Proc.devRef .tc main_v239)) (V (Proc.devRef .tc main_v187)) (V (Proc.devRef .tc main_v173)))))
    ∧ hostG V (Proc.devRef .tc main_v264) = safeA (stepA (maxC (endC (V (Proc.devRef .tc main_v213)) (V (Proc.devRef .tc main_v239)) (V (Proc.devRef .tc main_v173)) (V (Proc.devRef .tc main_v187)))) (minC (endC (V (Proc.devRef .tc main_v213)) (V (Proc.devRef .tc main_v239)) (V (Proc.devRef .tc main_v187)) (V (Proc.devRef .tc main_v173)))))
    ∧ hostG V (Proc.devRef .tc main_v279) = planeC (V (Proc.devRef .tc main_v116))
    ∧ hostG V (Proc.devRef .tc main_v281) = planeC (V (Proc.devRef .tc main_v213))
    ∧ hostG V (Proc.devRef .tc main_v283) = planeC (V (Proc.devRef .tc main_v239)) := by
  refine ⟨?_, ?_, ?_, ?_, ?_, ?_, ?_⟩ <;> (simp only [hostG, hostOps2_36, hostOps2_37, hostOps2_38, hostOps2_39, hostOps2_40, hostOps2_41, hostOps2_42, TRef.binary, TRef.ternary, TRef.unary, TRef.toBuf, TRef.ofBuf, cast_eq]; after_results_simp; rfl)

/-- The second kernel's parameters. -/
theorem pack1_of (V : Valuation τ sig (Elt F)) : after hostOps1_7 V (Proc.devRef .tc main_v54) = pack4 (after hostOps1_7 V (Proc.devRef .tc main_v43)) (after hostOps1_7 V (Proc.devRef .tc main_v44)) (after hostOps1_7 V (Proc.devRef .tc main_v45)) (after hostOps1_7 V (Proc.devRef .tc main_v47)) := by
  simp only [hostOps1_7]
  after_results_simp
  rfl

/-- The third kernel's parameters. -/
theorem pack2_of (V : Valuation τ sig (Elt F)) : after hostOps2_42 V (Proc.devRef .tc main_v277) = pack12 (after hostOps2_42 V (Proc.devRef .tc main_v43)) (after hostOps2_42 V (Proc.devRef .tc main_v44)) (after hostOps2_42 V (Proc.devRef .tc main_v45)) (after hostOps2_42 V (Proc.devRef .tc main_v47)) (after hostOps2_42 V (Proc.devRef .tc main_v155)) (after hostOps2_42 V (Proc.devRef .tc main_v156)) (after hostOps2_42 V (Proc.devRef .tc main_v157)) (after hostOps2_42 V (Proc.devRef .tc main_v159)) (after hostOps2_42 V (Proc.devRef .tc main_v260)) (after hostOps2_42 V (Proc.devRef .tc main_v261)) (after hostOps2_42 V (Proc.devRef .tc main_v262)) (after hostOps2_42 V (Proc.devRef .tc main_v264)) := by
  simp only [hostOps2_42]
  after_results_simp
  rfl

end Cert.KernelIdeal.Run

end
-- ==== Proof.Blocks.lean ====
module

public import proofs.«01_k».proof.Proof.HostDefs
public import Idealize.ShloMosaic.Lib.Pipeline.ValueKit.Geometry
public import Idealize.ShloMosaic.Lib.ValueIdx
public import Idealize.ShloMosaic.Lib.Pointwise.Reshape

@[expose] public section

noncomputable section

namespace Cert.KernelIdeal.Run

open Cert.KernelIdeal.Gen
open Idealize.ShloMosaic Idealize.ShloMosaic.TcCoe
open Idealize.ShloMosaic.Pipeline (Dat)
open Idealize.ShloMosaic.ValueIdx (idx2_lt0)
open Cert.Arr Cert.Quant

/-! ## Sums and extremes of the array from those of its sixteen blocks -/

/-- The channel of an element of the whole array. -/
def chK (i : S64x256x3136.Idx) : S1x256.Idx := ValueIdx.ix2 0 (i 1)
/-- The channel of an element of a block. -/
def chB (y : S4x256x3136.Idx) : S1x256.Idx := ValueIdx.ix2 0 (y 1)
/-- Where block `n` puts its element `y`. -/
def place (n : ℕ) (y : S4x256x3136.Idx) : S64x256x3136.Idx :=
  ValueIdx.ix3 ⟨n % 16 * 4 + (y 0).val, by have : (y 0).val < 4 := (y 0).isLt; have := Nat.mod_lt n (show 16 > 0 by decide); omega⟩ (y 1) (y 2)
/-- An element's place in its block. -/
def inBlock (i : S64x256x3136.Idx) : S4x256x3136.Idx := ValueIdx.ix3 ⟨(i 0).val % 4, Nat.mod_lt _ (by decide)⟩ (i 1) (i 2)

/-- A block keeps its elements in their channels. -/
theorem chK_place (n : ℕ) (y : S4x256x3136.Idx) : chK (place n y) = chB y := rfl
/-- An element of the array has the same channel within its block. -/
theorem chB_inBlock (i : S64x256x3136.Idx) : chB (inBlock i) = chK i := rfl

/-- The block of an element puts it back where it was. -/
theorem place_inBlock (i : S64x256x3136.Idx) : place ((i 0).val / 4) (inBlock i) = i := by
  have h : (i 0).val < 64 := (i 0).isLt
  funext a
  match a with
  | ⟨0, _⟩ =>
    apply Fin.ext
    show (i 0).val / 4 % 16 * 4 + (i 0).val % 4 = (i 0).val
    omega
  | ⟨1, _⟩ => rfl
  | ⟨2, _⟩ => rfl

/-- What a block puts somewhere is that element within the block. -/
theorem inBlock_place (n : ℕ) (y : S4x256x3136.Idx) : inBlock (place n y) = y := by
  have h : (y 0).val < 4 := (y 0).isLt
  funext a
  match a with
  | ⟨0, _⟩ =>
    apply Fin.ext
    show (n % 16 * 4 + (y 0).val) % 4 = (y 0).val
    omega
  | ⟨1, _⟩ => rfl
  | ⟨2, _⟩ => rfl

/-- What block `n` puts somewhere lies in block `n`. -/
theorem block_place (n : ℕ) (hn : n < 16) (y : S4x256x3136.Idx) : (place n y 0).val / 4 = n := by
  have h : (y 0).val < 4 := (y 0).isLt
  show (n % 16 * 4 + (y 0).val) / 4 = n
  omega

/-- A channel's sum over the array is the sum of its sums over the blocks. -/
theorem chSum_blocks (X : S64x256x3136.Idx → EReal) (k : S1x256.Idx) :
    chSum chK X k = ∑ n ∈ Finset.range 16, chSum chB (fun y => X (place n y)) k := by
  unfold chSum
  rw [← Finset.sum_product']
  refine Finset.sum_nbij' (fun i => ((i 0).val / 4, inBlock i)) (fun p => place p.1 p.2) ?_ ?_ ?_ ?_ ?_
  · intro i hi
    have h : (i 0).val < 64 := (i 0).isLt
    simp only [Finset.mem_filter, Finset.mem_univ, true_and, Finset.mem_product, Finset.mem_range] at hi ⊢
    exact ⟨by omega, (chB_inBlock i).trans hi⟩
  · intro p hp
    simp only [Finset.mem_filter, Finset.mem_univ, true_and, Finset.mem_product, Finset.mem_range] at hp ⊢
    exact (chK_place _ _).trans hp.2
  · intro i _; exact place_inBlock i
  · intro p hp
    simp only [Finset.mem_product, Finset.mem_range] at hp
    exact Prod.ext (block_place p.1 hp.1 p.2) (inBlock_place p.1 p.2)
  · intro i _; exact congrArg X (place_inBlock i).symm

/-- A bound on a channel's values in every block is a bound on its values in the array. -/
theorem forall_blocks (p : S64x256x3136.Idx → Prop) (k : S1x256.Idx) :
    (∀ i, chK i = k → p i) ↔ ∀ n ≤ 15, ∀ y, chB y = k → p (place n y) :=
  ⟨fun h n _ y hy => h _ ((chK_place n y).trans hy), fun h i hi => by
    have h64 : (i 0).val < 64 := (i 0).isLt
    have := h ((i 0).val / 4) (by omega) (inBlock i) ((chB_inBlock i).trans hi)
    rwa [place_inBlock] at this⟩

/-- Every channel has an element. -/
theorem exists_chK (k : S1x256.Idx) : ∃ i, chK i = k :=
  ⟨ValueIdx.ix3 0 (k 1) 0, funext fun a => match a with | ⟨0, _⟩ => Subsingleton.elim (α := Fin 1) _ _ | ⟨1, _⟩ => rfl⟩

/-- A sum carried through the steps is the sum of all steps so far. -/
theorem carried_add (f : ℕ → S1x256.Idx → EReal) (k : S1x256.Idx) : ∀ n,
    carried (f 0) (fun n a k => a k + f n k) n k = ∑ m ∈ Finset.range (n + 1), f m k
  | 0 => by simp [carried]
  | n + 1 => by rw [Finset.sum_range_succ, ← carried_add f k n]; rfl

/-- A maximum carried through the steps is at most `a` just if every step so far is. -/
theorem carried_max (f : ℕ → S1x256.Idx → EReal) (k : S1x256.Idx) (a : EReal) : ∀ n,
    carried (f 0) (fun n a k => max (a k) (f n k)) n k ≤ a ↔ ∀ m ≤ n, f m k ≤ a
  | 0 => by simp [carried]
  | n + 1 => by
    show max (carried (f 0) (fun n a k => max (a k) (f n k)) n k) (f (n + 1) k) ≤ a ↔ _
    rw [max_le_iff, carried_max f k a n]
    exact ⟨fun h m hm => (Nat.le_succ_iff.mp hm).elim (h.1 m) fun e => e ▸ h.2, fun h => ⟨fun m hm => h m (by omega), h _ le_rfl⟩⟩

/-- A minimum carried through the steps is at least `a` just if every step so far is. -/
theorem carried_min (f : ℕ → S1x256.Idx → EReal) (k : S1x256.Idx) (a : EReal) : ∀ n,
    a ≤ carried (f 0) (fun n a k => min (a k) (f n k)) n k ↔ ∀ m ≤ n, a ≤ f m k
  | 0 => by simp [carried]
  | n + 1 => by
    show a ≤ min (carried (f 0) (fun n a k => min (a k) (f n k)) n k) (f (n + 1) k) ↔ _
    rw [le_min_iff, carried_min f k a n]
    exact ⟨fun h m hm => (Nat.le_succ_iff.mp hm).elim (h.1 m) fun e => e ▸ h.2, fun h => ⟨fun m hm => h m (by omega), h _ le_rfl⟩⟩

/-! ## A block's own sum and extremes -/

/-- The elements that two reductions take to a channel are the channel's. -/
theorem drop_iff (y : S4x256x3136.Idx) (k : S1x256.Idx) :
    reduces_S4x256_S256.drop (reduces_S4x256x3136_S4x256.drop y) = Shape.reshapeEquiv shapeCasts_S256_S1x256 k ↔ chB y = k := by
  have h : Shape.reshapeEquiv shapeCasts_S256_S1x256 k = ValueIdx.ix1 (k 1) := by
    have h0 : (k 0).val = 0 := Nat.lt_one_iff.mp (idx2_lt0 k)
    refine Shape.reshapeEquiv_eq_of_vals _ _ _ _ _ (rowMajor_val1 _) (rowMajor_val2 k 256 rfl) ?_
    rw [h0, Nat.zero_mul, Nat.zero_add]
  have hd : reduces_S4x256_S256.drop (reduces_S4x256x3136_S4x256.drop y) = ValueIdx.ix1 (y 1) := by
    funext a; match a with | ⟨0, _⟩ => rfl
  rw [h, hd]
  refine ⟨fun e => ?_, fun e => ?_⟩
  · funext a
    match a with
    | ⟨0, _⟩ => exact Subsingleton.elim (α := Fin 1) _ _
    | ⟨1, _⟩ => exact congrFun e 0
  · rw [← e]; rfl

/-- Summing a block along its rows and then over its images gives the channel sums. -/
theorem sum_twice (x : S4x256x3136.Idx → EReal) :
    (shapeCast S1x256 (multiReduction .add [0] S256 (multiReduction .add [2] S4x256 x 0x00000000#32 reduces_S4x256x3136_S4x256 (.inl rfl) rfl : FVec Ideal S4x256 .f32)
      0x00000000#32 reduces_S4x256_S256 (.inl rfl) rfl) shapeCasts_S256_S1x256 : FVec Ideal S1x256 .f32) = chSum chB x := funext fun k => by
  show ∑ j with reduces_S4x256_S256.drop j = Shape.reshapeEquiv shapeCasts_S256_S1x256 k, ∑ y with reduces_S4x256x3136_S4x256.drop y = j, x y = _
  unfold chSum
  simp only [← drop_iff]
  rw [← Finset.sum_fiberwise_of_maps_to (s := Finset.univ.filter fun y => reduces_S4x256_S256.drop (reduces_S4x256x3136_S4x256.drop y) = Shape.reshapeEquiv shapeCasts_S256_S1x256 k)
    (t := Finset.univ.filter fun j => reduces_S4x256_S256.drop j = Shape.reshapeEquiv shapeCasts_S256_S1x256 k) (g := fun y => reduces_S4x256x3136_S4x256.drop y)
    fun y hy => by simpa using hy]
  refine Finset.sum_congr rfl fun j hj => Finset.sum_congr ?_ fun _ _ => rfl
  ext y
  simp only [Finset.mem_filter, Finset.mem_univ, true_and] at hj ⊢
  exact ⟨fun h => ⟨h ▸ hj, h⟩, fun h => h.2⟩

/-- A step's sums are the block's channel sums. -/
theorem pay2_eq (x : Vec Ideal S4x256x3136 .f32) : k0_pay2 x = chSum chB x := by
  unfold k0_pay2 k0_pay1
  rw [shapeCast_id]
  exact sum_twice x

/-- A maximum along axes is at most `a` when each element it takes is. -/
theorem red_le {s t : Shape} {axes : List (Fin s.rank)} (h : s.Reduces axes t) (hφ) (hacc) (v : FVec Ideal s .f32) (j : t.Idx) (a : EReal) :
    multiReduction .maximumf axes t v 0xFF800000#32 h hφ hacc j ≤ a ↔ ∀ i, h.drop i = j → v i ≤ a := by
  rw [multiReduction_maximumf_eq_fold]
  show Finset.fold max (Ideal.ofBits .f32 0xFF800000#32) _ _ ≤ a ↔ _
  rw [Finset.fold_max_le, word_bot]
  simp

/-- A minimum along axes is at least `a` when each element it takes is. -/
theorem le_red {s t : Shape} {axes : List (Fin s.rank)} (h : s.Reduces axes t) (hφ) (hacc) (v : FVec Ideal s .f32) (j : t.Idx) (a : EReal) :
    a ≤ multiReduction .minimumf axes t v 0x7F800000#32 h hφ hacc j ↔ ∀ i, h.drop i = j → a ≤ v i := by
  rw [multiReduction_minimumf_eq_fold]
  show a ≤ Finset.fold min (Ideal.ofBits .f32 0x7F800000#32) _ _ ↔ _
  rw [Finset.le_fold_min, word_top]
  simp

/-- A step's greatest values are at most `a` just if the channel's elements in the block are. -/
theorem pay3_le (x : Vec Ideal S4x256x3136 .f32) (k : S1x256.Idx) (a : EReal) : k0_pay3 x k ≤ a ↔ ∀ y, chB y = k → x y ≤ a := by
  unfold k0_pay3 k0_pay1
  rw [shapeCast_id]
  exact (red_le _ _ _ _ _ _).trans ⟨fun h y hy => (red_le _ _ _ _ _ _).mp (h _ ((drop_iff y k).mpr hy)) y rfl,
    fun h j hj => (red_le _ _ _ _ _ _).mpr fun y hy => h y ((drop_iff y k).mp (hy ▸ hj))⟩

/-- A step's least values are at least `a` just if the channel's elements in the block are. -/
theorem le_pay4 (x : Vec Ideal S4x256x3136 .f32) (k : S1x256.Idx) (a : EReal) : a ≤ k0_pay4 x k ↔ ∀ y, chB y = k → a ≤ x y := by
  unfold k0_pay4 k0_pay1
  rw [shapeCast_id]
  exact (le_red _ _ _ _ _ _).trans ⟨fun h y hy => (le_red _ _ _ _ _ _).mp (h _ ((drop_iff y k).mpr hy)) y rfl,
    fun h j hj => (le_red _ _ _ _ _ _).mpr fun y hy => h y ((drop_iff y k).mp (hy ▸ hj))⟩

end Cert.KernelIdeal.Run

end
-- ==== Proof.Region0.lean ====
module

public import proofs.«01_k».proof.Proof.Blocks

@[expose] public section

set_option maxRecDepth 16384

noncomputable section

namespace Cert.KernelIdeal.Run

open Cert.KernelIdeal.Gen
open Idealize.ShloMosaic Idealize.ShloMosaic.TcCoe
open Idealize.ShloMosaic.Pipeline (Dat)
open Cert.Arr Cert.Quant

variable (V : (c : Dev nD) → (b : Ref sig .tc) → Buf (Elt Ideal) ((c : Thread nD τ).loc b)) (c : Dev nD)

/-- Step `t` reads block `t`. -/
theorem win0_0_index : ∀ t : Fin cfg0.N, win0_0.index t = ![t.val, 0, 0] := (by decide +kernel : ∀ t : Fin grid0.N, _)

/-- The block read at step `n`. -/
theorem blk0_at (n : ℕ) (y : S4x256x3136.Idx) : iblk0 V c 0 (pt0 n) y = V c main_v0 (place n y) := by
  blk_simp [iblk0]
  blk_ext [win0_0_index, place, pt0]

/-- After the last point the running sum is the channels' sums. -/
theorem sumAt_last : sumAt V c 15 = chSum chK (V c main_v0) := funext fun k => by
  rw [chSum_blocks]
  refine Eq.trans ?_ (carried_add (fun n => chSum chB fun y => V c main_v0 (place n y)) k 15)
  have h (n : ℕ) : k0_pay2 (iblk0 V c 0 (pt0 n)) = chSum chB fun y => V c main_v0 (place n y) :=
    (pay2_eq _).trans (congrArg (chSum chB) (funext (blk0_at V c n)))
  unfold sumAt
  rw [h]
  refine congrFun (congrArg (fun g => carried _ g 15) (funext fun n => funext fun a => ?_)) k
  unfold k0_pay5
  rw [h, shapeCast_id]
  rfl

/-- After the last point the running maximum is the channels' maxima. -/
theorem maxAt_last : FibMax chK (V c main_v0) (maxAt V c 15) := by
  refine fibMax_of_le exists_chK fun k a => ?_
  rw [forall_blocks]
  refine Iff.trans (iff_of_eq (congrArg (fun M : S1x256.Idx → EReal => M k ≤ a) ?_)) ((carried_max (fun n => k0_pay3 (iblk0 V c 0 (pt0 n))) k a 15).trans
    (forall₂_congr fun n _ => (pay3_le _ k a).trans (forall₂_congr fun y _ => by rw [blk0_at])))
  unfold maxAt
  refine congrArg (fun g => carried _ g 15) (funext fun n => funext fun a => ?_)
  unfold k0_pay6
  rw [shapeCast_id]
  rfl

/-- After the last point the running minimum is the channels' minima. -/
theorem minAt_last : FibMin chK (V c main_v0) (minAt V c 15) := by
  refine fibMin_of_le exists_chK fun k a => ?_
  rw [forall_blocks]
  refine Iff.trans (iff_of_eq (congrArg (fun M : S1x256.Idx → EReal => a ≤ M k) ?_)) ((carried_min (fun n => k0_pay4 (iblk0 V c 0 (pt0 n))) k a 15).trans
    (forall₂_congr fun n _ => (le_pay4 _ k a).trans (forall₂_congr fun y _ => by rw [blk0_at])))
  unfold minAt
  refine congrArg (fun g => carried _ g 15) (funext fun n => funext fun a => ?_)
  unfold k0_pay7
  rw [shapeCast_id]
  rfl

/-- What the first region leaves in its three outputs. -/
theorem final0_1 : (dat0 V c).arrAt 1 cfg0.N = sumAt V c 15 := by
  refine (dat0 V c).arrAt_eq_of_after_last 1 (pt0 15) (by decide +kernel) _ fun y => ?_
  blk_simp
  rw [after0_1]
  rfl
/-- The second output: the greatest values after the last step. -/
theorem final0_2 : (dat0 V c).arrAt 2 cfg0.N = maxAt V c 15 := by
  refine (dat0 V c).arrAt_eq_of_after_last 2 (pt0 15) (by decide +kernel) _ fun y => ?_
  blk_simp
  rw [after0_2]
  rfl
/-- The third output: the least values after the last step. -/
theorem final0_3 : (dat0 V c).arrAt 3 cfg0.N = minAt V c 15 := by
  refine (dat0 V c).arrAt_eq_of_after_last 3 (pt0 15) (by decide +kernel) _ fun y => ?_
  blk_simp
  rw [after0_3]
  rfl

end Cert.KernelIdeal.Run

end
-- ==== Proof.Payloads.lean ====
module

public import proofs.«01_k».proof.Proof.Blocks

@[expose] public section

set_option maxRecDepth 16384

noncomputable section

namespace Cert.KernelIdeal.Run

open Cert.KernelIdeal.Gen
open Idealize.ShloMosaic Idealize.ShloMosaic.TcCoe
open Cert.Arr Cert.Quant

/-! ## What the second and third kernels compute at an element -/

/-- A row of one value for each place, read at an element of a block. -/
theorem plane_at {α : Type} (v : S1x256x3136.Idx → α) (y : S4x256x3136.Idx) :
    broadcastTo S4x256x3136 v broadcasts_S1x256x3136_S4x256x3136 y = v (ValueIdx.ix3 0 (y 1) (y 2)) :=
  congrArg v (funext fun a => match a with | ⟨0, _⟩ => rfl | ⟨1, _⟩ => rfl | ⟨2, _⟩ => rfl)

/-- The plane of a row of channels, read. -/
theorem planeC_at (v : S1x256.Idx → EReal) (i : S1x256x3136.Idx) : planeC (F := Ideal) v i = v (ValueIdx.ix2 0 (i 1)) :=
  congrArg v (funext fun a => match a with | ⟨0, _⟩ => rfl | ⟨1, _⟩ => rfl)

/-- A scalar as a vector of one value, read. -/
theorem oneC_at (d : FVec Ideal Z .f32) (i : S1.Idx) (j : Z.Idx) : oneC d i = d j := congrArg d (z_eq _ _)

/-- The second kernel's parameters, read back. -/
theorem pack4_at (a b c d : FVec Ideal Z .f32) (z : Z.Idx) (n : Fin 4) : pack4 a b c d (at4 n) = (![a, b, c, d] n : FVec Ideal Z .f32) z :=
  (concatenate_ofFn_unit_apply (t := S4) (s₁ := S1) 0 (fun n : Fin 4 => oneC (F := Ideal) (![a, b, c, d] n)) concatenates_S1_S1_S1_S1_S4_d0
    rfl rfl (at4 n) n (Nat.mod_eq_of_lt n.isLt) (ValueIdx.ix1 0) fun b hb => absurd (Subsingleton.elim (α := Fin 1) _ _) hb).trans (oneC_at _ _ z)

/-- The third kernel's parameters, read back. -/
theorem pack12_at (a b c d e f g h i j k l : FVec Ideal Z .f32) (z : Z.Idx) (n : Fin 12) :
    pack12 a b c d e f g h i j k l (at12 n) = (![a, b, c, d, e, f, g, h, i, j, k, l] n : FVec Ideal Z .f32) z :=
  (concatenate_ofFn_unit_apply (t := S12) (s₁ := S1) 0 (fun n : Fin 12 => oneC (F := Ideal) (![a, b, c, d, e, f, g, h, i, j, k, l] n))
    concatenates_S1_S1_S1_S1_S1_S1_S1_S1_S1_S1_S1_S1_S12_d0
    rfl rfl (at12 n) n (Nat.mod_eq_of_lt n.isLt) (ValueIdx.ix1 0) fun b hb => absurd (Subsingleton.elim (α := Fin 1) _ _) hb).trans (oneC_at _ _ z)

variable (s : EReal) (x : Vec Ideal S4x256x3136 .f32) (mean : Vec Ideal S1x256x3136 .f32) (y : S4x256x3136.Idx)

/-- The distance of an element from its channel's mean. -/
theorem k1_pay2_at : k1_pay2 x mean y = (show EReal from x y) - (show EReal from mean (ValueIdx.ix3 0 (y 1) (y 2))) := by
  unfold k1_pay2
  rw [shapeCast_id, shapeCast_id]
  exact congrArg (fun v : EReal => (show EReal from x y) - v) (plane_at mean y)

/-- The code before it is stored. -/
theorem k1_pay3_at : k1_pay3 (F := Ideal) (lo s) (hi s) (safe s) x mean y = code s (safe s) (k1_pay2 x mean y) := by
  show Ideal.liftRound Int.floor (Ideal.div (min (hi s) (max (lo s) (k1_pay2 x mean y)) - lo s) (safe s) + Ideal.ofBits .f32 0x3F000000#32) = _
  rw [word_half, code]

/-- The stored code. -/
theorem k1_pay4_at : k1_pay4 (F := Ideal) (lo s) (hi s) (safe s) x mean y = Ideal.fptoui 8 (code s (safe s) (k1_pay2 x mean y)) :=
  congrArg (Ideal.fptoui 8) (k1_pay3_at s x mean y)

/-- A choice between a value and its quantised form, as the kernels make it. -/
theorem choose_at (v w : FVec Ideal S4x256x3136 .f32) (h : w y = code s (safe s) (v y) * safe s + lo s) :
    (Scalar.select (Scalar.cmpf (F := Ideal) (φ := .f32) .oeq s (Scalar.ofBits .f32 0x00000000#32)) v w : FVec Ideal S4x256x3136 .f32) y = quant s (v y) := by
  show (Scalar.select (Ideal.cmp .oeq s (Ideal.ofBits .f32 0x00000000#32)) v w : FVec Ideal S4x256x3136 .f32) y = _
  rw [select_oeq, Ideal.ofBits_zero_f32, quant]
  split_ifs
  · rfl
  · exact h

/-- The second kernel's sum over a block. -/
theorem k1_pay5_eq : k1_pay5 (F := Ideal) s (lo s) (hi s) (safe s) x mean = chSum chB fun y => quant s (k1_pay2 x mean y) * quant s (k1_pay2 x mean y) := by
  refine (sum_twice _).trans (congrArg (chSum chB) (funext fun y => ?_))
  refine congrArg (fun v : EReal => v * v) (choose_at s y _ _ ?_)
  exact congrArg (fun v : EReal => v * safe s + lo s) (k1_pay3_at s x mean y)

variable (d lo1 d1 : EReal) (codes : Vec Ideal S4x256x3136 .i8) (dn qw qb : Vec Ideal S1x256x3136 .f32) (v : FVec Ideal S4x256x3136 .f32)

/-- The normalised values of the third kernel, quantised. -/
theorem k2_pay2_at : k2_pay2 (F := Ideal) lo1 d1 s (lo s) (hi s) (safe s) codes dn y
    = quant s (Ideal.div (ofCode (codes y) * d1 + lo1) (dn (ValueIdx.ix3 0 (y 1) (y 2)))) := by
  unfold k2_pay2
  rw [shapeCast_id, shapeCast_id]
  refine (choose_at s y _ _ ?_).trans (congrArg (fun v => quant s (Ideal.div (ofCode (codes y) * d1 + lo1) v)) (plane_at dn y))
  show Ideal.liftRound Int.floor (Ideal.div (min (hi s) (max (lo s) _) - lo s) (safe s) + Ideal.ofBits .f32 0x3F000000#32) * safe s + lo s = _
  rw [word_half, code]

/-- The third kernel's result. -/
theorem k2_pay1_at : k2_pay1 (F := Ideal) s (lo s) (hi s) (safe s) v qw qb y
    = quant s (qw (ValueIdx.ix3 0 (y 1) (y 2)) * v y + qb (ValueIdx.ix3 0 (y 1) (y 2))) := by
  unfold k2_pay1
  rw [shapeCast_id, shapeCast_id]
  refine (choose_at s y _ _ ?_).trans (congrArg₂ (fun p q => quant s (p * v y + q)) (plane_at qw y) (plane_at qb y))
  show Ideal.liftRound Int.floor (Ideal.div (min (hi s) (max (lo s) _) - lo s) (safe s) + Ideal.ofBits .f32 0x3F000000#32) * safe s + lo s = _
  rw [word_half, code]

end Cert.KernelIdeal.Run

end
-- ==== Proof.Region1.lean ====
module

public import proofs.«01_k».proof.Proof.Payloads

@[expose] public section

set_option maxRecDepth 16384

noncomputable section

namespace Cert.KernelIdeal.Run

open Cert.KernelIdeal.Gen
open Idealize.ShloMosaic Idealize.ShloMosaic.TcCoe
open Idealize.ShloMosaic.Pipeline (Dat)
open Cert.Arr Cert.Quant

variable (V : (c : Dev nD) → (b : Ref sig .tc) → Buf (Elt Ideal) ((c : Thread nD τ).loc b)) (c : Dev nD)

/-- Every step reads the parameters. -/
theorem win1_0_index : ∀ t : Fin cfg1.N, win1_0.index t = ![0] := (by decide +kernel : ∀ t : Fin grid1.N, _)
/-- Step `t` reads block `t` of the input. -/
theorem win1_1_index : ∀ t : Fin cfg1.N, win1_1.index t = ![t.val, 0, 0] := (by decide +kernel : ∀ t : Fin grid1.N, _)
/-- Every step reads the mean's plane. -/
theorem win1_2_index : ∀ t : Fin cfg1.N, win1_2.index t = ![0, 0, 0] := (by decide +kernel : ∀ t : Fin grid1.N, _)
/-- Step `t` writes block `t` of the codes. -/
theorem win1_3_index : ∀ t : Fin cfg1.N, win1_3.index t = ![t.val, 0, 0] := (by decide +kernel : ∀ t : Fin grid1.N, _)

/-- The parameters read. -/
theorem params1_at (t : Fin cfg1.N) (i : S4.Idx) : params1 V c t i = V c main_v54 i := by
  unfold params1
  blk_simp [iblk1]
  blk_ext [win1_0_index]

/-- The block of the input read at step `n`. -/
theorem blk1_at (n : ℕ) (y : S4x256x3136.Idx) : iblk1 V c 1 (pt1 n) y = V c main_v0 (place n y) := by
  blk_simp [iblk1]
  blk_ext [win1_1_index, place, pt1]

/-- The mean's plane read. -/
theorem plane1_at (t : Fin cfg1.N) (i : S1x256x3136.Idx) : iblk1 V c 2 t i = V c main_v49 i := by
  blk_simp [iblk1]
  blk_ext [win1_2_index]

variable (d : FVec Ideal Z .f32) (mu : AC Ideal) (z : Z.Idx)
  (hp : V c main_v54 = pack4 d (loA d) (hiA d) (safeA d)) (hm : V c main_v49 = planeC mu)

include hm in
/-- The distances at step `n`. -/
theorem dist_at (n : ℕ) (y : S4x256x3136.Idx) : k1_pay2 (iblk1 V c 1 (pt1 n)) (iblk1 V c 2 (pt1 n)) y
    = (show EReal from V c main_v0 (place n y)) - (show EReal from mu (chK (place n y))) := by
  rw [k1_pay2_at, blk1_at, plane1_at, hm, planeC_at]
  rfl

include hp in
/-- The parameters are the step, its least and greatest value and its divisor. -/
theorem param1_at (t : Fin cfg1.N) : params1 V c t (at4 0) = d z ∧ params1 V c t (at4 1) = lo (d z)
    ∧ params1 V c t (at4 2) = hi (d z) ∧ params1 V c t (at4 3) = safe (d z) := by
  simp only [params1_at, hp]
  exact ⟨pack4_at _ _ _ _ z 0, (pack4_at _ _ _ _ z 1).trans (loA_at d z), (pack4_at _ _ _ _ z 2).trans (hiA_at d z), (pack4_at _ _ _ _ z 3).trans (safeA_at d z)⟩

include hp hm in
/-- The second region's codes. -/
theorem final1_3 : (dat1 V c).arrAt 3 cfg1.N
    = fun i : S64x256x3136.Idx => Ideal.fptoui 8 (code (d z) (safe (d z)) ((show EReal from V c main_v0 i) - (show EReal from mu (chK i)))) := by
  refine (dat1 V c).arrAt_eq_of_covers 3 _ (by decide +kernel) fun t hf y => ?_
  blk_simp
  rw [after1_3]
  obtain ⟨-, h1, h2, h3⟩ := param1_at V c d z hp t
  unfold codesAt
  rw [h1, h2, h3, k1_pay4_at, ← pt1_val t, dist_at V c mu hm]
  have e : (win1_3.blk (pt1 t.val)).view.emb y = place t.val y := by
    blk_ext [win1_3_index, place, pt1]
  rw [e]

include hp hm in
/-- The second region's sums of squares. -/
theorem final1_4 : (dat1 V c).arrAt 4 cfg1.N
    = chSum chK fun i : S64x256x3136.Idx => quant (d z) ((show EReal from V c main_v0 i) - (show EReal from mu (chK i)))
        * quant (d z) ((show EReal from V c main_v0 i) - (show EReal from mu (chK i))) := by
  have e : (dat1 V c).arrAt 4 cfg1.N = sqAt V c 15 := by
    refine (dat1 V c).arrAt_eq_of_after_last 4 (pt1 15) (by decide +kernel) _ fun y => ?_
    blk_simp
    rw [after1_4]
    rfl
  rw [e]
  funext k
  rw [chSum_blocks]
  refine Eq.trans ?_ (carried_add (fun n => chSum chB fun y => quant (d z) ((show EReal from V c main_v0 (place n y)) - (show EReal from mu (chK (place n y))))
        * quant (d z) ((show EReal from V c main_v0 (place n y)) - (show EReal from mu (chK (place n y))))) k 15)
  have h (n : ℕ) : sqOf V c (pt1 n) = chSum chB fun y => quant (d z) ((show EReal from V c main_v0 (place n y)) - (show EReal from mu (chK (place n y))))
        * quant (d z) ((show EReal from V c main_v0 (place n y)) - (show EReal from mu (chK (place n y)))) := by
    obtain ⟨h0, h1, h2, h3⟩ := param1_at V c d z hp (pt1 n)
    unfold sqOf
    rw [h0, h1, h2, h3, k1_pay5_eq]
    exact congrArg (chSum chB) (funext fun y => by rw [dist_at V c mu hm])
  unfold sqAt
  rw [h]
  refine congrFun (congrArg (fun g => carried _ g 15) (funext fun n => funext fun a => ?_)) k
  unfold k1_pay1
  rw [h, shapeCast_id]
  rfl

end Cert.KernelIdeal.Run

end
-- ==== Proof.Region2.lean ====
module

public import proofs.«01_k».proof.Proof.Payloads

@[expose] public section

set_option maxRecDepth 16384

noncomputable section

namespace Cert.KernelIdeal.Run

open Cert.KernelIdeal.Gen
open Idealize.ShloMosaic Idealize.ShloMosaic.TcCoe
open Idealize.ShloMosaic.Pipeline (Dat)
open Cert.Arr Cert.Quant

variable (V : (c : Dev nD) → (b : Ref sig .tc) → Buf (Elt Ideal) ((c : Thread nD τ).loc b)) (c : Dev nD)

/-- Every step reads the parameters. -/
theorem win2_0_index : ∀ t : Fin cfg2.N, win2_0.index t = ![0] := (by decide +kernel : ∀ t : Fin grid2.N, _)
/-- Step `t` reads block `t` of the codes. -/
theorem win2_1_index : ∀ t : Fin cfg2.N, win2_1.index t = ![t.val, 0, 0] := (by decide +kernel : ∀ t : Fin grid2.N, _)
/-- Every step reads the deviation's plane. -/
theorem win2_2_index : ∀ t : Fin cfg2.N, win2_2.index t = ![0, 0, 0] := (by decide +kernel : ∀ t : Fin grid2.N, _)
/-- Every step reads the weight's plane. -/
theorem win2_3_index : ∀ t : Fin cfg2.N, win2_3.index t = ![0, 0, 0] := (by decide +kernel : ∀ t : Fin grid2.N, _)
/-- Every step reads the bias's plane. -/
theorem win2_4_index : ∀ t : Fin cfg2.N, win2_4.index t = ![0, 0, 0] := (by decide +kernel : ∀ t : Fin grid2.N, _)
/-- Step `t` writes block `t` of the result. -/
theorem win2_5_index : ∀ t : Fin cfg2.N, win2_5.index t = ![t.val, 0, 0] := (by decide +kernel : ∀ t : Fin grid2.N, _)

/-- The parameters read. -/
theorem params2_at (t : Fin cfg2.N) (i : S12.Idx) : params2 V c t i = V c main_v277 i := by
  unfold params2
  blk_simp [iblk2]
  blk_ext [win2_0_index]

/-- The block of the codes read at step `n`. -/
theorem blk2_at (n : ℕ) (y : S4x256x3136.Idx) : iblk2 V c 1 (pt2 n) y = V c main_v55_0 (place n y) := by
  blk_simp [iblk2]
  blk_ext [win2_1_index, place, pt2]

/-- The deviation's plane read. -/
theorem plane2_2_at (t : Fin cfg2.N) (i : S1x256x3136.Idx) : iblk2 V c 2 t i = V c main_v279 i := by
  blk_simp [iblk2]
  blk_ext [win2_2_index]
/-- The weight's plane read. -/
theorem plane2_3_at (t : Fin cfg2.N) (i : S1x256x3136.Idx) : iblk2 V c 3 t i = V c main_v281 i := by
  blk_simp [iblk2]
  blk_ext [win2_3_index]
/-- The bias's plane read. -/
theorem plane2_4_at (t : Fin cfg2.N) (i : S1x256x3136.Idx) : iblk2 V c 4 t i = V c main_v283 i := by
  blk_simp [iblk2]
  blk_ext [win2_4_index]

variable (d1 d2 d3 : FVec Ideal Z .f32) (dn qw qb : AC Ideal) (z : Z.Idx)
  (hp : V c main_v277 = pack12 d1 (loA d1) (hiA d1) (safeA d1) d2 (loA d2) (hiA d2) (safeA d2) d3 (loA d3) (hiA d3) (safeA d3))
  (hd : V c main_v279 = planeC dn) (hw : V c main_v281 = planeC qw) (hb : V c main_v283 = planeC qb)

include hp in
/-- The parameters are the three steps, each with its least and greatest value and its divisor. -/
theorem param2_at (t : Fin cfg2.N) :
    (params2 V c t (at12 1) = lo (d1 z) ∧ params2 V c t (at12 3) = safe (d1 z))
    ∧ (params2 V c t (at12 4) = d2 z ∧ params2 V c t (at12 5) = lo (d2 z) ∧ params2 V c t (at12 6) = hi (d2 z) ∧ params2 V c t (at12 7) = safe (d2 z))
    ∧ (params2 V c t (at12 8) = d3 z ∧ params2 V c t (at12 9) = lo (d3 z) ∧ params2 V c t (at12 10) = hi (d3 z) ∧ params2 V c t (at12 11) = safe (d3 z)) := by
  have pk := pack12_at d1 (loA d1) (hiA d1) (safeA d1) d2 (loA d2) (hiA d2) (safeA d2) d3 (loA d3) (hiA d3) (safeA d3) z
  simp only [params2_at, hp]
  exact ⟨⟨(pk 1).trans (loA_at d1 z), (pk 3).trans (safeA_at d1 z)⟩, ⟨pk 4, (pk 5).trans (loA_at d2 z), (pk 6).trans (hiA_at d2 z), (pk 7).trans (safeA_at d2 z)⟩,
    ⟨pk 8, (pk 9).trans (loA_at d3 z), (pk 10).trans (hiA_at d3 z), (pk 11).trans (safeA_at d3 z)⟩⟩

include hp hd hw hb in
/-- The third kernel's result at an element. -/
theorem result_at (n : ℕ) (y : S4x256x3136.Idx) : resultAt V c (pt2 n) y = quant (d3 z) ((show EReal from qw (chB y))
    * quant (d2 z) (Ideal.div (ofCode (V c main_v55_0 (place n y)) * safe (d1 z) + lo (d1 z)) (dn (chB y))) + (show EReal from qb (chB y))) := by
  obtain ⟨⟨h1, h3⟩, ⟨h4, h5, h6, h7⟩, h8, h9, h10, h11⟩ := param2_at V c d1 d2 d3 z hp (pt2 n)
  unfold resultAt
  rw [h1, h3, h4, h5, h6, h7, h8, h9, h10, h11, k2_pay1_at, k2_pay2_at, blk2_at, plane2_2_at, plane2_3_at, plane2_4_at, hd, hw, hb, planeC_at, planeC_at, planeC_at]
  rfl

include hp hd hw hb in
/-- The third region's result. -/
theorem final2_5 : (dat2 V c).arrAt 5 cfg2.N
    = fun i : S64x256x3136.Idx => quant (d3 z) ((show EReal from qw (chK i))
        * quant (d2 z) (Ideal.div (ofCode (V c main_v55_0 i) * safe (d1 z) + lo (d1 z)) (dn (chK i))) + (show EReal from qb (chK i))) := by
  refine (dat2 V c).arrAt_eq_of_covers 5 _ (by decide +kernel) fun t hf y => ?_
  blk_simp
  rw [after2_5, ← pt2_val t, result_at V c d1 d2 d3 dn qw qb z hp hd hw hb]
  have e : (win2_5.blk (pt2 t.val)).view.emb y = place t.val y := by
    blk_ext [win2_5_index, place, pt2]
  rw [e]
  rfl

end Cert.KernelIdeal.Run

end
-- ==== Proof.KernelValue.lean ====
module

public import proofs.«01_k».proof.Proof.Run
public import proofs.«01_k».proof.Proof.Host
public import proofs.«01_k».proof.Proof.Region0
public import proofs.«01_k».proof.Proof.Region1
public import proofs.«01_k».proof.Proof.Region2

@[expose] public section

set_option maxRecDepth 16384

noncomputable section

namespace Cert.KernelIdeal.Run

open Cert.KernelIdeal.Gen
open Idealize.ShloMosaic Idealize.ShloMosaic.TcCoe
open Cert.Arr Cert.Quant

/-! ## The host's arithmetic over the extended reals -/

/-- A row of channels quantised with its own step. -/
theorem quantC_step (v : AC Ideal) : quantC (stepC v) v = Q v := quantA_Q _ _ _ v
/-- A row of channels quantised with a given step, read. -/
theorem quantC_at (d : FVec Ideal Z .f32) (v : AC Ideal) (k : S1x256.Idx) (z : Z.Idx) : quantC d v k = quant (d z) (v k) := quantA_at _ d v k z
/-- The standard deviation of a row of channels. -/
theorem sdC_eq (v : AC Ideal) : sdC v = fun k => Ideal.sqrt (v k + Ideal.ofBits .f32 0x3727C5AC#32) := rfl
/-- The running value of a row of channels. -/
theorem blendC_eq (s : AC Ideal) (old : FVec Ideal S256 .f32) : blendC s old = blend s (rowC old) := rfl
/-- The extreme value after scaling and shifting, of a row of channels. -/
theorem endC_eq (qw qb h l : AC Ideal) : endC qw qb h l = edge qw qb h l := endA_at _ qw qb h l
/-- The step of the range between two rows of channels. -/
theorem stepA_C (a b : AC Ideal) (z : Z.Idx) : stepA (maxC a) (minC b) z = step (Finset.univ.sup a) (Finset.univ.inf b) := by
  rw [stepA_at]; exact congrArg₂ step (maxA_at _ _ a z) (minA_at _ _ b z)

variable (m : (ℓ : Loc nD τ sig) → Buf (Elt Ideal) ℓ) (ρ : Dev nD → PrngReg) (c : Dev nD)

/-- The input as the regions read it. -/
abbrev xK : S64x256x3136.Idx → EReal := W1 m ρ c (Proc.devRef .tc main_v0)
/-- The running mean, one value for each channel. -/
abbrev rmK : AC Ideal := rowC (m ((c : Thread nD τ).loc main_arg3))
/-- The running variance. -/
abbrev rvK : AC Ideal := rowC (m ((c : Thread nD τ).loc main_arg4))
/-- The weight. -/
abbrev wK : AC Ideal := rowC (m ((c : Thread nD τ).loc main_arg1))
/-- The bias. -/
abbrev bK : AC Ideal := rowC (m ((c : Thread nD τ).loc main_arg2))
/-- Each channel's greatest value. -/
abbrev hiK : AC Ideal := maxAt (E0 m ρ) c 15
/-- Each channel's least value. -/
abbrev loK : AC Ideal := minAt (E0 m ρ) c 15
/-- The quantised mean. -/
abbrev muK : AC Ideal := mean chK (xK m ρ c) (rmK m c)
/-- The quantised standard deviation. -/
abbrev dnK : AC Ideal := den chK (xK m ρ c) (rmK m c) (rvK m c)
/-- The step of the distances. -/
abbrev d1K : FVec Ideal Z .f32 := stepA (maxC (subf (hiK m ρ c) (muK m ρ c))) (minC (subf (loK m ρ c) (muK m ρ c)))
/-- A channel's extreme value, normalised. -/
abbrev endK (E : AC Ideal) : AC Ideal := Host.divf (quantC (d1K m ρ c) (subf E (muK m ρ c))) (dnK m ρ c)
/-- The step of the normalised values. -/
abbrev d2K : FVec Ideal Z .f32 := stepA (maxC (endK m ρ c (hiK m ρ c))) (minC (endK m ρ c (loK m ρ c)))
/-- A channel's extreme normalised value, quantised. -/
abbrev end2K (E : AC Ideal) : AC Ideal := quantC (d2K m ρ c) (endK m ρ c E)
/-- The step of the result. -/
abbrev d3K : FVec Ideal Z .f32 :=
  stepA (maxC (endC (Q (wK m c)) (Q (bK m c)) (end2K m ρ c (hiK m ρ c)) (end2K m ρ c (loK m ρ c))))
    (minC (endC (Q (wK m c)) (Q (bK m c)) (end2K m ρ c (loK m ρ c)) (end2K m ρ c (hiK m ρ c))))

/-- The distances' step. -/
theorem d1K_at (z : Z.Idx) : d1K m ρ c z = step1 (hiK m ρ c) (loK m ρ c) (muK m ρ c) := stepA_C _ _ z

/-- A normalised extreme value. -/
theorem endK_eq (E : AC Ideal) : endK m ρ c E
    = fun k => Ideal.div (quant (step1 (hiK m ρ c) (loK m ρ c) (muK m ρ c)) (E k - muK m ρ c k)) (dnK m ρ c k) := funext fun k => by
  refine congrArg (fun v => Ideal.div v (dnK m ρ c k)) ((quantC_at _ _ k ValueIdx.ix0).trans ?_)
  rw [d1K_at]
  rfl

/-- The normalised values' step. -/
theorem d2K_at (z : Z.Idx) : d2K m ρ c z = step2 (hiK m ρ c) (loK m ρ c) (muK m ρ c) (dnK m ρ c) := by
  unfold d2K
  rw [stepA_C, endK_eq, endK_eq]
  rfl

/-- A quantised normalised extreme value. -/
theorem end2K_eq (E : AC Ideal) : end2K m ρ c E = end2 (hiK m ρ c) (loK m ρ c) (muK m ρ c) (dnK m ρ c) E := funext fun k => by
  refine (quantC_at _ _ k ValueIdx.ix0).trans ?_
  rw [d2K_at, endK_eq]
  rfl

/-- The result's step. -/
theorem d3K_at (z : Z.Idx) : d3K m ρ c z = step3 (hiK m ρ c) (loK m ρ c) (muK m ρ c) (dnK m ρ c) (Q (wK m c)) (Q (bK m c)) := by
  unfold d3K
  rw [stepA_C, endC_eq, endC_eq, end2K_eq, end2K_eq]
  rfl

/-- The first region's second output is each channel's greatest value. -/
theorem hi_fib : FibMax chK (xK m ρ c) (hiK m ρ c) := maxAt_last (E0 m ρ) c
/-- The first region's third output is each channel's least value. -/
theorem lo_fib : FibMin chK (xK m ρ c) (loK m ρ c) := minAt_last (E0 m ρ) c

/-! ## What the buffers hold at the boundaries between the stretches -/

/-- The arguments are as launched at every boundary. -/
theorem args2 (a : Ref sig .tc) (h : a ∉ hostOps0_W) (h' : ∀ w : Fin cfg0.W, Pipeline.arrRef spec0 w = a → (cfg0.win w).isOut = false) :
    W2 m ρ c (Proc.devRef .tc a) = m ((c : Thread nD τ).loc a) := (W2_of m ρ c a h').trans (W1_of m ρ c a h)

/-- After the first region: the sums, the extremes and the input. -/
theorem at2 : W2 m ρ c (Proc.devRef .tc main_v1_0) = chSum chK (xK m ρ c) ∧ W2 m ρ c (Proc.devRef .tc main_v1_1) = hiK m ρ c
    ∧ W2 m ρ c (Proc.devRef .tc main_v1_2) = loK m ρ c ∧ W2 m ρ c (Proc.devRef .tc main_v0) = xK m ρ c :=
  ⟨(W2_arr m ρ c 1).trans ((final0_1 (E0 m ρ) c).trans (sumAt_last (E0 m ρ) c)), (W2_arr m ρ c 2).trans (final0_2 (E0 m ρ) c),
    (W2_arr m ρ c 3).trans (final0_3 (E0 m ρ) c), W2_of m ρ c main_v0 (by decide +kernel)⟩

/-- Then the mean; the extremes and the input are kept. -/
theorem at7 : W7 m ρ c (Proc.devRef .tc main_v34) = muK m ρ c ∧ W7 m ρ c (Proc.devRef .tc main_v1_1) = hiK m ρ c
    ∧ W7 m ρ c (Proc.devRef .tc main_v1_2) = loK m ρ c ∧ W7 m ρ c (Proc.devRef .tc main_v0) = xK m ρ c := by
  refine ⟨(hostA_eq (W2 m ρ c)).trans ?_, (hostA_keeps _ main_v1_1 (by decide)).trans (at2 m ρ c).2.1,
    (hostA_keeps _ main_v1_2 (by decide)).trans (at2 m ρ c).2.2.1, (hostA_keeps _ main_v0 (by decide)).trans (at2 m ρ c).2.2.2⟩
  rw [quantC_step, (at2 m ρ c).1, args2 m ρ c main_arg3 (by decide) (by decide +kernel)]
  rfl

/-- The same before the second region. -/
theorem kept10 : W10 m ρ c (Proc.devRef .tc main_v34) = muK m ρ c ∧ W10 m ρ c (Proc.devRef .tc main_v1_1) = hiK m ρ c
    ∧ W10 m ρ c (Proc.devRef .tc main_v1_2) = loK m ρ c ∧ W10 m ρ c (Proc.devRef .tc main_v0) = xK m ρ c :=
  ⟨(hostB_keeps _ main_v34 (by decide)).trans (at7 m ρ c).1, (hostB_keeps _ main_v1_1 (by decide)).trans (at7 m ρ c).2.1,
    (hostB_keeps _ main_v1_2 (by decide)).trans (at7 m ρ c).2.2.1, (hostB_keeps _ main_v0 (by decide)).trans (at7 m ρ c).2.2.2⟩

/-- The distances' step with its least value, greatest value and divisor, and the mean's plane. -/
theorem at10 : W10 m ρ c (Proc.devRef .tc main_v43) = d1K m ρ c ∧ W10 m ρ c (Proc.devRef .tc main_v44) = loA (d1K m ρ c)
    ∧ W10 m ρ c (Proc.devRef .tc main_v45) = hiA (d1K m ρ c) ∧ W10 m ρ c (Proc.devRef .tc main_v47) = safeA (d1K m ρ c)
    ∧ W10 m ρ c (Proc.devRef .tc main_v49) = planeC (muK m ρ c) := by
  have h := hostB_eq (W7 m ρ c)
  rw [(at7 m ρ c).1, (at7 m ρ c).2.1, (at7 m ρ c).2.2.1] at h
  exact h

/-- The second kernel's parameters. -/
theorem pack10 : W10 m ρ c (Proc.devRef .tc main_v54) = pack4 (d1K m ρ c) (loA (d1K m ρ c)) (hiA (d1K m ρ c)) (safeA (d1K m ρ c)) := by
  obtain ⟨h43, h44, h45, h47, -⟩ := at10 m ρ c
  exact (pack1_of (W9 m ρ c)).trans (congr (congr (congr (congrArg pack4 h43) h44) h45) h47)

/-- After the second region: the codes and the sums of squares. -/
theorem at11 : W11 m ρ c (Proc.devRef .tc main_v55_0) = (fun i : S64x256x3136.Idx =>
      Ideal.fptoui 8 (code (step1 (hiK m ρ c) (loK m ρ c) (muK m ρ c)) (safe (step1 (hiK m ρ c) (loK m ρ c) (muK m ρ c))) (xK m ρ c i - muK m ρ c (chK i))))
    ∧ W11 m ρ c (Proc.devRef .tc main_v55_1) = chSum chK fun i => ctr chK (xK m ρ c) (rmK m c) i * ctr chK (xK m ρ c) (rmK m c) i := by
  have hp := pack10 m ρ c
  have hm := (at10 m ρ c).2.2.2.2
  have hx := (kept10 m ρ c).2.2.2
  refine ⟨(W11_arr m ρ c 3).trans ((final1_3 (E1 m ρ) c _ _ ValueIdx.ix0 hp hm).trans ?_), (W11_arr m ρ c 4).trans ((final1_4 (E1 m ρ) c _ _ ValueIdx.ix0 hp hm).trans ?_)⟩
  · rw [d1K_at]
    dsimp only [E1]
    rw [hx]
  · rw [d1K_at]
    dsimp only [E1]
    rw [hx]
    exact congrArg (chSum chK) (funext fun i => by rw [ctr_eq (hi_fib m ρ c) (lo_fib m ρ c) i])

/-- Up to the third stretch's first part, what the second region and it leave alone. -/
theorem kept21 (r : Ref sig .tc) (h : ∀ w : Fin cfg1.W, Pipeline.arrRef spec1 w = r → (cfg1.win w).isOut = false)
    (hC : ∀ l ∈ writesC, r ∉ l) :
    W21 m ρ c (Proc.devRef .tc r) = W10 m ρ c (Proc.devRef .tc r) := (hostC_keeps _ r hC).trans (W11_of m ρ c r h)

/-- The arguments up to the second region. -/
theorem args11 (a : Ref sig .tc) (h : a ∉ hostOps0_W) (h' : ∀ w : Fin cfg0.W, Pipeline.arrRef spec0 w = a → (cfg0.win w).isOut = false)
    (hA : ∀ l ∈ writesA, a ∉ l) (hB : ∀ l ∈ writesB, a ∉ l)
    (h1 : ∀ w : Fin cfg1.W, Pipeline.arrRef spec1 w = a → (cfg1.win w).isOut = false) :
    W11 m ρ c (Proc.devRef .tc a) = m ((c : Thread nD τ).loc a) :=
  (W11_of m ρ c a h1).trans ((hostB_keeps _ a hB).trans ((hostA_keeps _ a hA).trans (args2 m ρ c a h h')))

/-- The standard deviation. -/
theorem at21 : W21 m ρ c (Proc.devRef .tc main_v116) = dnK m ρ c := by
  refine (hostC_eq (W11 m ρ c)).trans ?_
  rw [quantC_step, quantC_step, (at11 m ρ c).2, args11 m ρ c main_arg4 (by decide) (by decide +kernel) (by decide) (by decide) (by decide +kernel)]
  rfl

/-- The first step's values, kept. -/
theorem step21 : W21 m ρ c (Proc.devRef .tc main_v43) = d1K m ρ c ∧ W21 m ρ c (Proc.devRef .tc main_v44) = loA (d1K m ρ c)
    ∧ W21 m ρ c (Proc.devRef .tc main_v45) = hiA (d1K m ρ c) ∧ W21 m ρ c (Proc.devRef .tc main_v47) = safeA (d1K m ρ c) :=
  ⟨(kept21 m ρ c main_v43 (by decide +kernel) (by decide)).trans (at10 m ρ c).1, (kept21 m ρ c main_v44 (by decide +kernel) (by decide)).trans (at10 m ρ c).2.1,
    (kept21 m ρ c main_v45 (by decide +kernel) (by decide)).trans (at10 m ρ c).2.2.1, (kept21 m ρ c main_v47 (by decide +kernel) (by decide)).trans (at10 m ρ c).2.2.2.1⟩

/-- The normalised values' step with its least value, greatest value and divisor, and each channel's ends. -/
theorem at37 : W37 m ρ c (Proc.devRef .tc main_v155) = d2K m ρ c ∧ W37 m ρ c (Proc.devRef .tc main_v156) = loA (d2K m ρ c)
    ∧ W37 m ρ c (Proc.devRef .tc main_v157) = hiA (d2K m ρ c) ∧ W37 m ρ c (Proc.devRef .tc main_v159) = safeA (d2K m ρ c)
    ∧ W37 m ρ c (Proc.devRef .tc main_v173) = end2K m ρ c (hiK m ρ c) ∧ W37 m ρ c (Proc.devRef .tc main_v187) = end2K m ρ c (loK m ρ c) := by
  obtain ⟨h43, h44, h45, h47⟩ := step21 m ρ c
  have h := hostD_eq (W21 m ρ c) (h44.trans (congrArg loA h43.symm)) (h45.trans (congrArg hiA h43.symm)) (h47.trans (congrArg safeA h43.symm))
  rw [h43, (kept21 m ρ c main_v1_1 (by decide +kernel) (by decide)).trans (kept10 m ρ c).2.1,
    (kept21 m ρ c main_v1_2 (by decide +kernel) (by decide)).trans (kept10 m ρ c).2.2.1,
    (kept21 m ρ c main_v34 (by decide +kernel) (by decide)).trans (kept10 m ρ c).1, at21] at h
  exact h

/-- An argument, before the rest of the third stretch. -/
theorem args37 (r : Ref sig .tc) (h : W11 m ρ c (Proc.devRef .tc r) = m ((c : Thread nD τ).loc r))
    (hC : ∀ l ∈ writesC, r ∉ l)
    (hD : ∀ l ∈ writesD, r ∉ l) :
    W37 m ρ c (Proc.devRef .tc r) = m ((c : Thread nD τ).loc r) :=
  (hostD_keeps (W21 m ρ c) r hD).trans ((hostC_keeps (W11 m ρ c) r hC).trans h)

/-- The quantised weight and bias. -/
theorem at47 : W47 m ρ c (Proc.devRef .tc main_v213) = Q (wK m c) ∧ W47 m ρ c (Proc.devRef .tc main_v239) = Q (bK m c) := by
  have h := hostE_eq (W37 m ρ c)
  rw [quantC_step, quantC_step, args37 m ρ c main_arg1 (args11 m ρ c main_arg1 (by decide) (by decide +kernel) (by decide) (by decide) (by decide +kernel)) (by decide) (by decide),
    args37 m ρ c main_arg2 (args11 m ρ c main_arg2 (by decide) (by decide +kernel) (by decide) (by decide) (by decide +kernel)) (by decide) (by decide)] at h
  exact h

/-- Before the third region, what the rest of the third stretch leaves alone. -/
theorem kept54 (r : Ref sig .tc) (hE : ∀ l ∈ writesE, r ∉ l)
    (hG : ∀ l ∈ writesG, r ∉ l) :
    W54 m ρ c (Proc.devRef .tc r) = W37 m ρ c (Proc.devRef .tc r) := (hostG_keeps _ r hG).trans (hostE_keeps _ r hE)

/-- The result's step with its least value, greatest value and divisor, and the three planes. -/
theorem at54 : W54 m ρ c (Proc.devRef .tc main_v260) = d3K m ρ c ∧ W54 m ρ c (Proc.devRef .tc main_v261) = loA (d3K m ρ c)
    ∧ W54 m ρ c (Proc.devRef .tc main_v262) = hiA (d3K m ρ c) ∧ W54 m ρ c (Proc.devRef .tc main_v264) = safeA (d3K m ρ c)
    ∧ W54 m ρ c (Proc.devRef .tc main_v279) = planeC (F := Ideal) (dnK m ρ c) ∧ W54 m ρ c (Proc.devRef .tc main_v281) = planeC (F := Ideal) (Q (wK m c))
    ∧ W54 m ρ c (Proc.devRef .tc main_v283) = planeC (F := Ideal) (Q (bK m c)) := by
  have h116 : W47 m ρ c (Proc.devRef .tc main_v116) = dnK m ρ c :=
    (hostE_keeps _ main_v116 (by decide)).trans ((hostD_keeps _ main_v116 (by decide)).trans (at21 m ρ c))
  have h173 : W47 m ρ c (Proc.devRef .tc main_v173) = end2K m ρ c (hiK m ρ c) := (hostE_keeps _ main_v173 (by decide)).trans (at37 m ρ c).2.2.2.2.1
  have h187 : W47 m ρ c (Proc.devRef .tc main_v187) = end2K m ρ c (loK m ρ c) := (hostE_keeps _ main_v187 (by decide)).trans (at37 m ρ c).2.2.2.2.2
  have h := hostG_eq (W47 m ρ c)
  rw [h116, h173, h187, (at47 m ρ c).1, (at47 m ρ c).2] at h
  exact h

/-- The third kernel's parameters. -/
theorem pack54 : W54 m ρ c (Proc.devRef .tc main_v277) = pack12 (d1K m ρ c) (loA (d1K m ρ c)) (hiA (d1K m ρ c)) (safeA (d1K m ρ c))
    (d2K m ρ c) (loA (d2K m ρ c)) (hiA (d2K m ρ c)) (safeA (d2K m ρ c)) (d3K m ρ c) (loA (d3K m ρ c)) (hiA (d3K m ρ c)) (safeA (d3K m ρ c)) := by
  obtain ⟨h43, h44, h45, h47⟩ := step21 m ρ c
  obtain ⟨h155, h156, h157, h159, -⟩ := at37 m ρ c
  obtain ⟨h260, h261, h262, h264, -⟩ := at54 m ρ c
  have k (r : Ref sig .tc) (hD) (hE) (hG) : W54 m ρ c (Proc.devRef .tc r) = W21 m ρ c (Proc.devRef .tc r) := (kept54 m ρ c r hE hG).trans (hostD_keeps (W21 m ρ c) r hD)
  exact (pack2_of (W53 m ρ c)).trans <| congr (congr (congr (congr (congr (congr (congr (congr (congr (congr (congr (congrArg pack12
    ((k main_v43 (by decide) (by decide) (by decide)).trans h43)) ((k main_v44 (by decide) (by decide) (by decide)).trans h44))
    ((k main_v45 (by decide) (by decide) (by decide)).trans h45)) ((k main_v47 (by decide) (by decide) (by decide)).trans h47))
    ((kept54 m ρ c main_v155 (by decide) (by decide)).trans h155)) ((kept54 m ρ c main_v156 (by decide) (by decide)).trans h156))
    ((kept54 m ρ c main_v157 (by decide) (by decide)).trans h157)) ((kept54 m ρ c main_v159 (by decide) (by decide)).trans h159))
    h260) h261) h262) h264

/-- The codes, kept. -/
theorem codes54 : W54 m ρ c (Proc.devRef .tc main_v55_0) = W11 m ρ c (Proc.devRef .tc main_v55_0) :=
  (kept54 m ρ c main_v55_0 (by decide) (by decide)).trans ((hostD_keeps _ main_v55_0 (by decide)).trans (hostC_keeps _ main_v55_0 (by decide)))

/-- After the third region: the specification's result. -/
theorem at55 : W55 m ρ c (Proc.devRef .tc main_v284) = out chK (xK m ρ c) (wK m c) (bK m c) (rmK m c) (rvK m c) := by
  obtain ⟨-, -, -, -, hd, hw, hb⟩ := at54 m ρ c
  refine (W55_arr m ρ c 5).trans ((final2_5 (E2 m ρ) c _ _ _ _ _ _ ValueIdx.ix0 (pack54 m ρ c) hd hw hb).trans (funext fun i => ?_))
  rw [d1K_at, d2K_at, d3K_at]
  refine Eq.trans ?_ (out_eq (wK m c) (bK m c) (rvK m c) (hi_fib m ρ c) (lo_fib m ρ c) i (ctr_code (hi_fib m ρ c) (lo_fib m ρ c) i))
  dsimp only [E2]
  rw [codes54, (at11 m ρ c).1]

/-- The program's result is the specification's, reshaped. -/
theorem at56 : W56 m ρ c (Proc.devRef .tc main_v285)
    = shapeCast S64x256x56x56 (out chK (xK m ρ c) (wK m c) (bK m c) (rmK m c) (rvK m c) : FVec Ideal S64x256x3136 .f32) shapeCasts_S64x256x3136_S64x256x56x56 := by
  have h : W56 m ρ c (Proc.devRef .tc main_v285) = shapeCast S64x256x56x56 (W55 m ρ c (Proc.devRef .tc main_v284) : FVec Ideal S64x256x3136 .f32) shapeCasts_S64x256x3136_S64x256x56x56 := rfl
  rw [h, at55]

/-- The input as the regions read it is the argument, reshaped. -/
theorem xK_eq : xK m ρ c = shapeCast S64x256x3136 (m ((c : Thread nD τ).loc main_arg0) : FVec Ideal S64x256x56x56 .f32) shapeCasts_S64x256x56x56_S64x256x3136 := rfl

end Cert.KernelIdeal.Run

end
-- ==== Proof.RefValue.lean ====
module

public import proofs.«01_k».proof.Proof.RefVals2
public import proofs.«01_k».proof.Proof.Arr

@[expose] public section

set_option maxRecDepth 8192

noncomputable section

namespace Cert.ReferenceIdeal.Ref

open Cert.ReferenceIdeal Cert.ReferenceIdeal.Gen Idealize.ShloMosaic Idealize.ShloMosaic.TcCoe Idealize.SL.Sem Idealize.ShloMosaic.StableHlo
open Cert.Quant Cert.Arr

/-! ## The reference computes quantised batch normalisation -/

/-- The channel of an element. -/
def chR : S64x256x56x56.Idx → S256.Idx := reducesTo_S64x256x56x56_S256_d0_2_3.drop

/-- A value per channel, on every element of its channel. -/
theorem plane_at (v : S256.Idx → EReal) (i : S64x256x56x56.Idx) :
    broadcastInDim S64x256x56x56 ![0, 1, 2, 3] bcast_S1x256x1x1_S64x256x56x56_0_1_2_3 (broadcastInDim S1x256x1x1 ![1] bcast_S256_S1x256x1x1_1 v) i = v (chR i) :=
  congrArg v (funext fun a => by obtain rfl : a = 0 := Fin.fin_one_eq_zero a; rfl)

/-- The sum over all elements of a channel. -/
theorem sum_at (v : FVec Ideal S64x256x56x56 .f32) :
    (Host.reduceAdd v (constant S_ .f32 0x00000000#32) reducesTo_S64x256x56x56_S256_d0_2_3 h_S_ : FVec Ideal S256 .f32) = chSum chR v := funext fun k => by
  show Ideal.ofBits .f32 0x00000000#32 + ∑ i with chR i = k, v i = _
  rw [Ideal.ofBits_zero_f32, zero_add, chSum]

variable (V : Valuation τ sig (Elt Ideal))

/-- The running mean. -/
theorem v7_eq : res_main_v7 V = blend (chSum chR (V (Proc.devRef .tc main_arg0))) (V (Proc.devRef .tc main_arg3)) := by
  rw [← sum_at]; rfl

/-- The distances. -/
theorem v35_eq : res_main_v35 V = dev chR (V (Proc.devRef .tc main_arg0)) (V (Proc.devRef .tc main_arg3)) := funext fun i => by
  show (show EReal from V (Proc.devRef .tc main_arg0) i) - broadcastInDim S64x256x56x56 ![0, 1, 2, 3] bcast_S1x256x1x1_S64x256x56x56_0_1_2_3 (broadcastInDim S1x256x1x1 ![1]
    bcast_S256_S1x256x1x1_1 (quantA bcast_S_S256 (stepA (maxA reducesTo_S256_S_d0 h_S_ (res_main_v7 V)) (minA reducesTo_S256_S_d0 h_S_ (res_main_v7 V))) (res_main_v7 V))) i = _
  rw [plane_at, quantA_Q, v7_eq]
  rfl

/-- The quantised distances. -/
theorem v60_eq : res_main_v60 V = ctr chR (V (Proc.devRef .tc main_arg0)) (V (Proc.devRef .tc main_arg3)) := by
  show quantA bcast_S_S64x256x56x56 (stepA (maxA reducesTo_S64x256x56x56_S_d0_1_2_3 h_S_ (res_main_v35 V)) (minA reducesTo_S64x256x56x56_S_d0_1_2_3 h_S_ (res_main_v35 V))) (res_main_v35 V) = _
  rw [quantA_Q, v35_eq]
  rfl

/-- The running variance. -/
theorem v69_eq : res_main_v69 V = blend (chSum chR fun i => ctr chR (V (Proc.devRef .tc main_arg0)) (V (Proc.devRef .tc main_arg3)) i
    * ctr chR (V (Proc.devRef .tc main_arg0)) (V (Proc.devRef .tc main_arg3)) i) (V (Proc.devRef .tc main_arg4)) := by
  rw [← v60_eq, ← sum_at]; rfl

/-- The standard deviation. -/
theorem v97_eq : res_main_v97 V = sd chR (V (Proc.devRef .tc main_arg0)) (V (Proc.devRef .tc main_arg3)) (V (Proc.devRef .tc main_arg4)) := by
  show sdA bcast_S_S256 (quantA bcast_S_S256 (stepA (maxA reducesTo_S256_S_d0 h_S_ (res_main_v69 V)) (minA reducesTo_S256_S_d0 h_S_ (res_main_v69 V))) (res_main_v69 V)) = _
  rw [quantA_Q, v69_eq]
  rfl

/-- The normalised values. -/
theorem v125_eq : res_main_v125 V = nrm chR (V (Proc.devRef .tc main_arg0)) (V (Proc.devRef .tc main_arg3)) (V (Proc.devRef .tc main_arg4)) := funext fun i => by
  show Ideal.div (res_main_v60 V i) (broadcastInDim S64x256x56x56 ![0, 1, 2, 3] bcast_S1x256x1x1_S64x256x56x56_0_1_2_3 (broadcastInDim S1x256x1x1 ![1]
    bcast_S256_S1x256x1x1_1 (quantA bcast_S_S256 (stepA (maxA reducesTo_S256_S_d0 h_S_ (res_main_v97 V)) (minA reducesTo_S256_S_d0 h_S_ (res_main_v97 V))) (res_main_v97 V))) i) = _
  rw [plane_at, quantA_Q, v97_eq, v60_eq]
  rfl

/-- The scaled and shifted values. -/
theorem v206_eq : res_main_v206 V = lin chR (V (Proc.devRef .tc main_arg0)) (V (Proc.devRef .tc main_arg1)) (V (Proc.devRef .tc main_arg2))
    (V (Proc.devRef .tc main_arg3)) (V (Proc.devRef .tc main_arg4)) := funext fun i => by
  show broadcastInDim S64x256x56x56 ![0, 1, 2, 3] bcast_S1x256x1x1_S64x256x56x56_0_1_2_3 (broadcastInDim S1x256x1x1 ![1] bcast_S256_S1x256x1x1_1
      (quantA bcast_S_S256 (stepA (maxA reducesTo_S256_S_d0 h_S_ (V (Proc.devRef .tc main_arg1))) (minA reducesTo_S256_S_d0 h_S_ (V (Proc.devRef .tc main_arg1)))) (V (Proc.devRef .tc main_arg1)))) i
    * quantA bcast_S_S64x256x56x56 (stepA (maxA reducesTo_S64x256x56x56_S_d0_1_2_3 h_S_ (res_main_v125 V)) (minA reducesTo_S64x256x56x56_S_d0_1_2_3 h_S_ (res_main_v125 V))) (res_main_v125 V) i
    + broadcastInDim S64x256x56x56 ![0, 1, 2, 3] bcast_S1x256x1x1_S64x256x56x56_0_1_2_3 (broadcastInDim S1x256x1x1 ![1] bcast_S256_S1x256x1x1_1
      (quantA bcast_S_S256 (stepA (maxA reducesTo_S256_S_d0 h_S_ (V (Proc.devRef .tc main_arg2))) (minA reducesTo_S256_S_d0 h_S_ (V (Proc.devRef .tc main_arg2)))) (V (Proc.devRef .tc main_arg2)))) i = _
  rw [plane_at, plane_at, quantA_Q, quantA_Q, quantA_Q, v125_eq]
  rfl

/-- The reference's result, from the arguments it is launched with. -/
def outR (m : (ℓ : Loc nD τ sig) → Buf (Elt Ideal) ℓ) (c : Dev nD) : S64x256x56x56.Idx → EReal :=
  out chR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- Every run of the reference ends with quantised batch normalisation of its arguments, which it leaves alone. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v231) = outR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans <| by
    show quantA bcast_S_S64x256x56x56 (stepA (maxA reducesTo_S64x256x56x56_S_d0_1_2_3 h_S_ (res_main_v206 (launchContents m c)))
      (minA reducesTo_S64x256x56x56_S_d0_1_2_3 h_S_ (res_main_v206 (launchContents m c)))) (res_main_v206 (launchContents m c)) = _
    rw [quantA_Q, v206_eq]
    rfl, (h c).2⟩) (run m ρ)

end Cert.ReferenceIdeal.Ref

end
-- ==== Proof.Transport.lean ====
module

public import proofs.«01_k».proof.Proof.Spec

@[expose] public section

noncomputable section

namespace Cert.Quant

open Idealize.ShloMosaic

/-! ## Renaming the indices and the channels -/

/-- A quantised family under a renaming of its indices. -/
theorem Q_comp {ι ι' : Type*} [Fintype ι] [Fintype ι'] (e : ι ≃ ι') (v : ι' → EReal) : Q (v ∘ e) = Q v ∘ e := by
  have hs : Finset.univ.sup (v ∘ e) = Finset.univ.sup v :=
    le_antisymm (Finset.sup_le fun i _ => Finset.le_sup (f := v) (Finset.mem_univ (e i)))
      (Finset.sup_le fun i _ => by simpa using Finset.le_sup (f := v ∘ e) (Finset.mem_univ (e.symm i)))
  have hi : Finset.univ.inf (v ∘ e) = Finset.univ.inf v :=
    le_antisymm (Finset.le_inf fun i _ => by simpa using Finset.inf_le (f := v ∘ e) (Finset.mem_univ (e.symm i)))
      (Finset.le_inf fun i _ => Finset.inf_le (f := v) (Finset.mem_univ (e i)))
  unfold Q
  rw [hs, hi]
  rfl

section
variable {ι κ ι' κ' : Type*} [Fintype ι] [Fintype κ] [DecidableEq κ] [Fintype ι'] [Fintype κ'] [DecidableEq κ']
variable {e : ι ≃ ι'} {f : κ ≃ κ'} {ch : ι → κ} {ch' : ι' → κ'} (h : ∀ i, f (ch i) = ch' (e i))
variable (X : ι' → EReal) (w b rm rv : κ' → EReal)

include h

/-- The channels' sums under a renaming. -/
theorem chSum_comp : chSum ch (X ∘ e) = chSum ch' X ∘ f := funext fun k =>
  Finset.sum_equiv e (fun i => by simp [← h]) fun _ _ => rfl

/-- The distances under a renaming. -/
theorem dev_comp : dev ch (X ∘ e) (rm ∘ f) = dev ch' X rm ∘ e := funext fun i => by
  have hm : mean ch (X ∘ e) (rm ∘ f) = mean ch' X rm ∘ f := by
    unfold mean; rw [chSum_comp h, ← Q_comp]; rfl
  show X (e i) - mean ch (X ∘ e) (rm ∘ f) (ch i) = _
  rw [hm, Function.comp_apply, h]
  rfl

/-- The quantised distances under a renaming. -/
theorem ctr_comp : ctr ch (X ∘ e) (rm ∘ f) = ctr ch' X rm ∘ e := by
  unfold ctr; rw [dev_comp h, Q_comp]

/-- The quantised standard deviation under a renaming. -/
theorem den_comp : den ch (X ∘ e) (rm ∘ f) (rv ∘ f) = den ch' X rm rv ∘ f := by
  have hv : var ch (X ∘ e) (rm ∘ f) (rv ∘ f) = var ch' X rm rv ∘ f := by
    unfold var
    rw [ctr_comp h, ← Q_comp]
    exact congrArg (fun s => Q (blend s (rv ∘ f))) (chSum_comp h fun i => ctr ch' X rm i * ctr ch' X rm i)
  unfold den
  rw [← Q_comp]
  unfold sd
  rw [hv]
  rfl

/-- The result under a renaming of the indices and the channels that agrees with which channel an index lies in. -/
theorem out_comp : out ch (X ∘ e) (w ∘ f) (b ∘ f) (rm ∘ f) (rv ∘ f) = out ch' X w b rm rv ∘ e := by
  have hn : nrm ch (X ∘ e) (rm ∘ f) (rv ∘ f) = nrm ch' X rm rv ∘ e := funext fun i => by
    unfold nrm; rw [ctr_comp h, den_comp h]; simp only [Function.comp_apply, h]
  unfold out
  rw [← Q_comp]
  refine congrArg Q (funext fun i => ?_)
  unfold lin
  rw [hn, Q_comp, Q_comp, Q_comp]
  simp only [Function.comp_apply, lin, h]

end

end Cert.Quant

end
-- ==== Proof.Value.lean ====
module

public import proofs.«01_k».proof.Defs
public import proofs.«01_k».proof.Proof.KernelValue
public import proofs.«01_k».proof.Proof.RefValue
public import proofs.«01_k».proof.Proof.Transport

@[expose] public section

noncomputable section

namespace Cert.Proof

open Idealize.ShloMosaic Idealize.ShloMosaic.TcCoe Idealize.SL.Sem
open Cert.KernelIdeal Cert.KernelIdeal.Gen Cert.KernelIdeal.Run Cert.Quant Cert.ReferenceIdeal.Ref

/-! ## The two programs have the same results

The kernel works on the input with its two image axes joined and keeps each channel's values in a row; the reference
doesn't. Both are the specification, with the indices and the channels renamed. -/

/-- The channels, out of a row and into a vector. -/
def rowE : S1x256.Idx ≃ S256.Idx where
  toFun k := ValueIdx.ix1 (k 1)
  invFun k := ValueIdx.ix2 0 (k 0)
  left_inv k := by
    funext a
    match a with
    | ⟨0, _⟩ => exact Subsingleton.elim (α := Fin 1) _ _
    | ⟨1, _⟩ => rfl
  right_inv k := by
    funext a
    match a with
    | ⟨0, _⟩ => rfl

/-- The elements, with the two image axes taken apart. -/
def imgE : S64x256x3136.Idx ≃ S64x256x56x56.Idx := Shape.reshapeEquiv shapeCasts_S64x256x56x56_S64x256x3136

/-- A vector of channels in a row. -/
theorem rowC_comp (v : FVec Ideal S256 .f32) : rowC v = v ∘ rowE := funext fun k =>
  congrArg v (funext fun a => by obtain rfl : a = 0 := Fin.fin_one_eq_zero a; rfl)

/-- Taking the image axes apart keeps an element in its channel. -/
theorem img_channel (i : S64x256x3136.Idx) : rowE (chK i) = chR (imgE i) := by
  have h := Shape.rowMajor_reshapeEquiv shapeCasts_S64x256x56x56_S64x256x3136 i
  rw [show Shape.reshapeEquiv shapeCasts_S64x256x56x56_S64x256x3136 i = imgE i from rfl,
    rowMajor_val4 (imgE i) (256 * 3136) 3136 56 rfl rfl rfl, rowMajor_val3 i (256 * 3136) 3136 rfl rfl] at h
  have a1 : (imgE i 1).val < 256 := (imgE i 1).isLt
  have a2 : (imgE i 2).val < 56 := (imgE i 2).isLt
  have a3 : (imgE i 3).val < 56 := (imgE i 3).isLt
  have b1 : (i 1).val < 256 := (i 1).isLt
  have b2 : (i 2).val < 3136 := (i 2).isLt
  have e : (i 1).val = (imgE i 1).val := by omega
  funext a
  match a with
  | ⟨0, _⟩ => exact Fin.ext e

variable (m : (ℓ : Loc nD τ sig) → Buf (Elt Ideal) ℓ) (ρ : Dev nD → PrngReg) (c : Dev nD)

/-- The kernel's result is the reference's specification of the kernel's arguments. -/
theorem kernel_out : W56 m ρ c (Proc.devRef .tc main_v285)
    = out chR (m ((c : Thread nD τ).loc main_arg0)) (m ((c : Thread nD τ).loc main_arg1)) (m ((c : Thread nD τ).loc main_arg2))
      (m ((c : Thread nD τ).loc main_arg3)) (m ((c : Thread nD τ).loc main_arg4)) := by
  have h : out chK (xK m ρ c) (wK m c) (bK m c) (rmK m c) (rvK m c) = out chR (m ((c : Thread nD τ).loc main_arg0)) (m ((c : Thread nD τ).loc main_arg1))
      (m ((c : Thread nD τ).loc main_arg2)) (m ((c : Thread nD τ).loc main_arg3)) (m ((c : Thread nD τ).loc main_arg4)) ∘ imgE := by
    refine Eq.trans ?_ (out_comp img_channel _ _ _ _ _)
    rw [xK_eq, wK, bK, rmK, rvK, rowC_comp, rowC_comp, rowC_comp, rowC_comp]
    rfl
  refine (at56 m ρ c).trans (funext fun j => ?_)
  rw [h]
  refine congrArg (out chR _ _ _ _ _) ?_
  show imgE (Shape.reshapeEquiv shapeCasts_S64x256x3136_S64x256x56x56 j) = j
  refine Shape.reshapeEquiv_eq_of_rowMajor _ ?_
  exact (Shape.rowMajor_reshapeEquiv _ j).symm

/-- Over the extended reals, from equal arguments, the kernel and the reference end with equal results. -/
theorem algebraic : Cert.algebraic_KernelIdeal_ReferenceIdeal (hKernelIdeal := Cert.KernelIdeal.Gen.facts)
    (hReferenceIdeal := Cert.ReferenceIdeal.Gen.facts) := fun m g m' g' _ hm => by
  refine ⟨fun c => outR m' c, (θ_run _ _ _).mono (fun r h c => ⟨(h.1 c).1.trans ((kernel_out m g c).trans ?_), (h.1 c).2⟩) (run_end m g), value m' g'⟩
  obtain ⟨h0, h1, h2, h3, h4⟩ := hm c
  exact (congr (congr (congr (congr (congrArg (out chR) h0) h1) h2) h3) h4).symm

end Cert.Proof

end
-- ==== Proof.lean ====
module

public import proofs.«01_k».proof.Proof.Frames
public import proofs.«01_k».proof.Proof.RefFrame
public import proofs.«01_k».proof.Proof.Value

@[expose] public section

noncomputable section

namespace Cert.Proof

/-- Everything that is claimed. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
